-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
-- ==== Pre_finite_inputs.lean ====
abbrev S2x16384x512 : Shape := ⟨3, ![2, 16384, 512]⟩
abbrev S2x1x512 : Shape := ⟨3, ![2, 1, 512]⟩
abbrev S64 : Shape := ⟨1, ![64]⟩
abbrev S128 : Shape := ⟨1, ![128]⟩
abbrev S_ : Shape := ⟨0, ![]⟩

class Facts : Prop where
  bcast_S_S2x16384x512 : S_.BroadcastsInDim S2x16384x512 (![] : Fin 0 → Fin S2x16384x512.rank)
  bcast_S_S2x1x512 : S_.BroadcastsInDim S2x1x512 (![] : Fin 0 → Fin S2x1x512.rank)
  bcast_S_S64 : S_.BroadcastsInDim S64 (![] : Fin 0 → Fin S64.rank)

variable [Facts]

def fn_part1 {F : FTy → Type} [FloatOps F] (main_arg3 : FVec F S2x1x512 .f32) (main_arg6 : FVec F S64 .f32) (main_arg7 : FVec F S64 .f32) (main_v2 : IVec S2x16384x512 1) (main_v5 : IVec S2x16384x512 1) (main_v8 : IVec S2x16384x512 1) (main_v11 : IVec S2x1x512 1) (main_v14 : IVec S64 1) (main_v17 : IVec S64 1) : IVec S2x16384x512 1 × IVec S2x16384x512 1 × IVec S2x16384x512 1 × IVec S2x1x512 1 × IVec S64 1 × IVec S64 1 × IVec S64 1 × IVec S64 1 × IVec S2x1x512 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_cst_7 : FVec F S_ .f32 := constant S_ .f32 0x00000000#32
  let main_v24 : FVec F S2x1x512 .f32 := broadcastInDim S2x1x512 ![] bcast_S_S2x1x512 main_cst_7
  let main_v25 : IVec S2x1x512 1 := cmpf .oge main_arg3 main_v24
  (main_v2, main_v5, main_v8, main_v11, main_v14, main_v17, main_v20, main_v23, main_v25)

def fn {F : FTy → Type} [FloatOps F] (main_arg0 : FVec F S2x16384x512 .f32) (main_arg1 : FVec F S2x16384x512 .f32) (main_arg2 : FVec F S2x16384x512 .f32) (main_arg3 : FVec F S2x1x512 .f32) (main_arg4 : FVec F S64 .f32) (main_arg5 : FVec F S64 .f32) (main_arg6 : FVec F S64 .f32) (main_arg7 : FVec F S64 .f32) (main_arg8 : FVec F S128 .f32) : IVec S2x16384x512 1 × IVec S2x16384x512 1 × IVec S2x16384x512 1 × IVec S2x1x512 1 × IVec S64 1 × IVec S64 1 × IVec S64 1 × IVec S64 1 × IVec S2x1x512 1 :=
  let main_v0 : FVec F S2x16384x512 .f32 := Host.absf main_arg0
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_v3 : FVec F S2x16384x512 .f32 := Host.absf main_arg1
  let main_cst_0 : FVec F S_ .f32 := constant S_ .f32 0x7F800000#32
  let main_v4 : FVec F S2x16384x512 .f32 := broadcastInDim S2x16384x512 ![] bcast_S_S2x16384x512 main_cst_0
  let main_v5 : IVec S2x16384x512 1 := cmpf .olt main_v3 main_v4
  let main_v6 : FVec F S2x16384x512 .f32 := Host.absf main_arg2
  let main_cst_1 : FVec F S_ .f32 := constant S_ .f32 0x7F800000#32
  let main_v7 : FVec F S2x16384x512 .f32 := broadcastInDim S2x16384x512 ![] bcast_S_S2x16384x512 main_cst_1
  let main_v8 : IVec S2x16384x512 1 := cmpf .olt main_v6 main_v7
  let main_v9 : FVec F S2x1x512 .f32 := Host.absf main_arg3
  let main_cst_2 : FVec F S_ .f32 := constant S_ .f32 0x7F800000#32
  let main_v10 : FVec F S2x1x512 .f32 := broadcastInDim S2x1x512 ![] bcast_S_S2x1x512 main_cst_2
  let main_v11 : IVec S2x1x512 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg3 main_arg6 main_arg7 main_v2 main_v5 main_v8 main_v11 main_v14 main_v17
-- ==== Kernel.lean ====
abbrev S2x16384x512 : Shape := ⟨3, ![2, 16384, 512]⟩
abbrev S2x1x512 : Shape := ⟨3, ![2, 1, 512]⟩
abbrev S64 : Shape := ⟨1, ![64]⟩
abbrev S128 : Shape := ⟨1, ![128]⟩
abbrev S4 : Shape := ⟨1, ![4]⟩
abbrev S_ : Shape := ⟨0, ![]⟩
abbrev S2x16384x4x128 : Shape := ⟨4, ![2, 16384, 4, 128]⟩
abbrev S4x2x16384x128 : Shape := ⟨4, ![4, 2, 16384, 128]⟩
abbrev S2x4x16384x128 : Shape := ⟨4, ![2, 4, 16384, 128]⟩
abbrev S2x4x16384x256 : Shape := ⟨4, ![2, 4, 16384, 256]⟩
abbrev S1x64 : Shape := ⟨2, ![1, 64]⟩
abbrev S4x64 : Shape := ⟨2, ![4, 64]⟩
abbrev S4x1 : Shape := ⟨2, ![4, 1]⟩
abbrev S4x4 : Shape := ⟨2, ![4, 4]⟩
abbrev S1x128 : Shape := ⟨2, ![1, 128]⟩
abbrev S2x4x32x8x128 : Shape := ⟨5, ![2, 4, 32, 8, 128]⟩
abbrev S1x1x512x128 : Shape := ⟨4, ![1, 1, 512, 128]⟩
abbrev S1x1x16384x256 : Shape := ⟨4, ![1, 1, 16384, 256]⟩
abbrev S1x1x16384x128 : Shape := ⟨4, ![1, 1, 16384, 128]⟩
abbrev S1x1x512x256 : Shape := ⟨4, ![1, 1, 512, 256]⟩
abbrev S1x1x128 : Shape := ⟨3, ![1, 1, 128]⟩
abbrev S1x512x128 : Shape := ⟨3, ![1, 512, 128]⟩
abbrev S1x1x1x8x128 : Shape := ⟨5, ![1, 1, 1, 8, 128]⟩
abbrev S1024x128 : Shape := ⟨2, ![1024, 128]⟩
abbrev S1024x512 : Shape := ⟨2, ![1024, 512]⟩
abbrev S1024x1024 : Shape := ⟨2, ![1024, 1024]⟩
abbrev S1x1 : Shape := ⟨2, ![1, 1]⟩
abbrev S512x128 : Shape := ⟨2, ![512, 128]⟩
abbrev S512 : Shape := ⟨1, ![512]⟩
abbrev S512x1 : Shape := ⟨2, ![512, 1]⟩
abbrev S1 : Shape := ⟨1, ![1]⟩
abbrev S8x128 : Shape := ⟨2, ![8, 128]⟩
abbrev S1x1024 : Shape := ⟨2, ![1, 1024]⟩
abbrev S1x1x1024x128 : Shape := ⟨4, ![1, 1, 1024, 128]⟩
abbrev S512x1024 : Shape := ⟨2, ![512, 1024]⟩
abbrev S512x512 : Shape := ⟨2, ![512, 512]⟩
abbrev S1x512 : Shape := ⟨2, ![1, 512]⟩
abbrev S1024 : Shape := ⟨1, ![1024]⟩
abbrev S1024x1 : Shape := ⟨2, ![1024, 1]⟩

abbrev nBuf : Space → Nat
  | .hbm => 112
  | .vmem => 22
  | .smem => 1
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x1x512, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S4, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x16384x512, .f32⟩
  | .hbm, ⟨17, _⟩ => ⟨S2x16384x512, .f32⟩
  | .hbm, ⟨18, _⟩ => ⟨S2x16384x512, .bf16⟩
  | .hbm, ⟨19, _⟩ => ⟨S2x16384x4x128, .bf16⟩
  | .hbm, ⟨20, _⟩ => ⟨S4x2x16384x128, .bf16⟩
  | .hbm, ⟨21, _⟩ => ⟨S2x16384x512, .bf16⟩
  | .hbm, ⟨22, _⟩ => ⟨S2x16384x4x128, .bf16⟩
  | .hbm, ⟨23, _⟩ => ⟨S4x2x16384x128, .bf16⟩
  | .hbm, ⟨24, _⟩ => ⟨S2x16384x4x128, .f32⟩
  | .hbm, ⟨25, _⟩ => ⟨S2x4x16384x128, .f32⟩
  | .hbm, ⟨26, _⟩ => ⟨S2x4x16384x128, .i32⟩
  | .hbm, ⟨27, _⟩ => ⟨S2x4x16384x128, .i32⟩
  | .hbm, ⟨28, _⟩ => ⟨S_, .i32⟩
  | .hbm, ⟨29, _⟩ => ⟨S2x4x16384x128, .i32⟩
  | .hbm, ⟨30, _⟩ => ⟨S2x4x16384x128, .i32⟩
  | .hbm, ⟨31, _⟩ => ⟨S2x4x16384x128, .f32⟩
  | .hbm, ⟨32, _⟩ => ⟨S_, .i32⟩
  | .hbm, ⟨33, _⟩ => ⟨S2x4x16384x128, .i32⟩
  | .hbm, ⟨34, _⟩ => ⟨S2x4x16384x128, .i1⟩
  | .hbm, ⟨35, _⟩ => ⟨S_, .i32⟩
  | .hbm, ⟨36, _⟩ => ⟨S2x4x16384x128, .i32⟩
  | .hbm, ⟨37, _⟩ => ⟨S2x4x16384x128, .i1⟩
  | .hbm, ⟨38, _⟩ => ⟨S2x4x16384x128, .i1⟩
  | .hbm, ⟨39, _⟩ => ⟨S_, .i32⟩
  | .hbm, ⟨40, _⟩ => ⟨S2x4x16384x128, .i32⟩
  | .hbm, ⟨41, _⟩ => ⟨S2x4x16384x128, .i1⟩
  | .hbm, ⟨42, _⟩ => ⟨S_, .i32⟩
  | .hbm, ⟨43, _⟩ => ⟨S2x4x16384x128, .i32⟩
  | .hbm, ⟨44, _⟩ => ⟨S2x4x16384x128, .i1⟩
  | .hbm, ⟨45, _⟩ => ⟨S2x4x16384x128, .i1⟩
  | .hbm, ⟨46, _⟩ => ⟨S_, .f32⟩
  | .hbm, ⟨47, _⟩ => ⟨S_, .f32⟩
  | .hbm, ⟨48, _⟩ => ⟨S2x4x16384x128, .f32⟩
  | .hbm, ⟨49, _⟩ => ⟨S2x4x16384x128, .f32⟩
  | .hbm, ⟨50, _⟩ => ⟨S_, .f32⟩
  | .hbm, ⟨51, _⟩ => ⟨S_, .f32⟩
  | .hbm, ⟨52, _⟩ => ⟨S2x4x16384x128, .f32⟩
  | .hbm, ⟨53, _⟩ => ⟨S2x4x16384x128, .f32⟩
  | .hbm, ⟨54, _⟩ => ⟨S_, .i32⟩
  | .hbm, ⟨55, _⟩ => ⟨S2x4x16384x128, .i32⟩
  | .hbm, ⟨56, _⟩ => ⟨S2x4x16384x128, .i1⟩
  | .hbm, ⟨57, _⟩ => ⟨S2x4x16384x128, .f32⟩
  | .hbm, ⟨58, _⟩ => ⟨S2x4x16384x128, .bf16⟩
  | .hbm, ⟨59, _⟩ => ⟨S_, .i32⟩
  | .hbm, ⟨60, _⟩ => ⟨S2x4x16384x128, .i32⟩
  | .hbm, ⟨61, _⟩ => ⟨S2x4x16384x128, .i1⟩
  | .hbm, ⟨62, _⟩ => ⟨S_, .i32⟩
  | .hbm, ⟨63, _⟩ => ⟨S2x4x16384x128, .i32⟩
  | .hbm, ⟨64, _⟩ => ⟨S2x4x16384x128, .i1⟩
  | .hbm, ⟨65, _⟩ => ⟨S2x4x16384x128, .i1⟩
  | .hbm, ⟨66, _⟩ => ⟨S_, .i32⟩
  | .hbm, ⟨67, _⟩ => ⟨S2x4x16384x128, .i32⟩
  | .hbm, ⟨68, _⟩ => ⟨S2x4x16384x128, .i1⟩
  | .hbm, ⟨69, _⟩ => ⟨S_, .i32⟩
  | .hbm, ⟨70, _⟩ => ⟨S2x4x16384x128, .i32⟩
  | .hbm, ⟨71, _⟩ => ⟨S2x4x16384x128, .i1⟩
  | .hbm, ⟨72, _⟩ => ⟨S2x4x16384x128, .i1⟩
  | .hbm, ⟨73, _⟩ => ⟨S_, .f32⟩
  | .hbm, ⟨74, _⟩ => ⟨S_, .f32⟩
  | .hbm, ⟨75, _⟩ => ⟨S2x4x16384x128, .f32⟩
  | .hbm, ⟨76, _⟩ => ⟨S2x4x16384x128, .f32⟩
  | .hbm, ⟨77, _⟩ => ⟨S_, .f32⟩
  | .hbm, ⟨78, _⟩ => ⟨S_, .f32⟩
  | .hbm, ⟨79, _⟩ => ⟨S2x4x16384x128, .f32⟩
  | .hbm, ⟨80, _⟩ => ⟨S2x4x16384x128, .f32⟩
  | .hbm, ⟨81, _⟩ => ⟨S_, .i32⟩
  | .hbm, ⟨82, _⟩ => ⟨S2x4x16384x128, .i32⟩
  | .hbm, ⟨83, _⟩ => ⟨S2x4x16384x128, .i1⟩
  | .hbm, ⟨84, _⟩ => ⟨S2x4x16384x128, .f32⟩
  | .hbm, ⟨85, _⟩ => ⟨S2x4x16384x128, .bf16⟩
  | .hbm, ⟨86, _⟩ => ⟨S2x4x16384x256, .bf16⟩
  | .hbm, ⟨87, _⟩ => ⟨S1x64, .f32⟩
  | .hbm, ⟨88, _⟩ => ⟨S1x64, .f32⟩
  | .hbm, ⟨89, _⟩ => ⟨S1x64, .f32⟩
  | .hbm, ⟨90, _⟩ => ⟨S1x64, .f32⟩
  | .hbm, ⟨91, _⟩ => ⟨S4x64, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S4, .f32⟩
  | .hbm, ⟨97, _⟩ => ⟨S4, .f32⟩
  | .hbm, ⟨98, _⟩ => ⟨S4, .bf16⟩
  | .hbm, ⟨99, _⟩ => ⟨S4, .f32⟩
  | .hbm, ⟨100, _⟩ => ⟨S4, .f32⟩
  | .hbm, ⟨101, _⟩ => ⟨S4, .bf16⟩
  | .hbm, ⟨102, _⟩ => ⟨S4, .f32⟩
  | .hbm, ⟨103, _⟩ => ⟨S4, .f32⟩
  | .hbm, ⟨104, _⟩ => ⟨S4x1, .f32⟩
  | .hbm, ⟨105, _⟩ => ⟨S4x1, .f32⟩
  | .hbm, ⟨106, _⟩ => ⟨S4x1, .f32⟩
  | .hbm, ⟨107, _⟩ => ⟨S4x1, .f32⟩
  | .hbm, ⟨108, _⟩ => ⟨S4x4, .f32⟩
  | .hbm, ⟨109, _⟩ => ⟨S1x128, .f32⟩
  | .hbm, ⟨110, _⟩ => ⟨S2x16384x512, .bf16⟩
  | .hbm, ⟨111, _⟩ => ⟨S2x4x32x8x128, .f32⟩
  | .local _ .vmem, ⟨0, _⟩ => ⟨S1x1x512x128, .bf16⟩
  | .local _ .vmem, ⟨1, _⟩ => ⟨S1x1x512x128, .bf16⟩
  | .local _ .vmem, ⟨2, _⟩ => ⟨S1x1x16384x256, .bf16⟩
  | .local _ .vmem, ⟨3, _⟩ => ⟨S1x1x16384x256, .bf16⟩
  | .local _ .vmem, ⟨4, _⟩ => ⟨S1x1x16384x128, .bf16⟩
  | .local _ .vmem, ⟨5, _⟩ => ⟨S1x1x16384x128, .bf16⟩
  | .local _ .vmem, ⟨6, _⟩ => ⟨S1x1x512x256, .bf16⟩
  | .local _ .vmem, ⟨7, _⟩ => ⟨S1x1x512x256, .bf16⟩
  | .local _ .vmem, ⟨8, _⟩ => ⟨S1x1x512x128, .bf16⟩
  | .local _ .vmem, ⟨9, _⟩ => ⟨S1x1x512x128, .bf16⟩
  | .local _ .vmem, ⟨10, _⟩ => ⟨S1x1x128, .f32⟩
  | .local _ .vmem, ⟨11, _⟩ => ⟨S1x1x128, .f32⟩
  | .local _ .vmem, ⟨12, _⟩ => ⟨S4x64, .f32⟩
  | .local _ .vmem, ⟨13, _⟩ => ⟨S1x128, .f32⟩
  | .local _ .vmem, ⟨14, _⟩ => ⟨S1x512x128, .bf16⟩
  | .local _ .vmem, ⟨15, _⟩ => ⟨S1x512x128, .bf16⟩
  | .local _ .vmem, ⟨16, _⟩ => ⟨S1x1x1x8x128, .f32⟩
  | .local _ .vmem, ⟨17, _⟩ => ⟨S1x1x1x8x128, .f32⟩
  | .local _ .vmem, ⟨18, _⟩ => ⟨S1024x128, .f32⟩
  | .local _ .vmem, ⟨19, _⟩ => ⟨S1024x128, .f32⟩
  | .local _ .vmem, ⟨20, _⟩ => ⟨S1024x512, .f32⟩
  | .local _ .vmem, ⟨21, _⟩ => ⟨S1024x1024, .f32⟩
  | .local _ .smem, ⟨0, _⟩ => ⟨S4x4, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_cst_2 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_call0_v0 : Ref sig .tc := ⟨.hbm, 47, rfl⟩
abbrev main_call0_v1 : Ref sig .tc := ⟨.hbm, 48, rfl⟩
abbrev main_v28 : Ref sig .tc := ⟨.hbm, 49, rfl⟩
abbrev main_cst_8 : Ref sig .tc := ⟨.hbm, 50, rfl⟩
abbrev main_call1_v0 : Ref sig .tc := ⟨.hbm, 51, rfl⟩
abbrev main_call1_v1 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_10 : Ref sig .tc := ⟨.hbm, 59, rfl⟩
abbrev main_v34 : Ref sig .tc := ⟨.hbm, 60, rfl⟩
abbrev main_v35 : Ref sig .tc := ⟨.hbm, 61, rfl⟩
abbrev main_c_11 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_12 : Ref sig .tc := ⟨.hbm, 66, rfl⟩
abbrev main_v39 : Ref sig .tc := ⟨.hbm, 67, rfl⟩
abbrev main_v40 : Ref sig .tc := ⟨.hbm, 68, rfl⟩
abbrev main_c_13 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_14 : Ref sig .tc := ⟨.hbm, 73, rfl⟩
abbrev main_call3_v0 : Ref sig .tc := ⟨.hbm, 74, rfl⟩
abbrev main_call3_v1 : Ref sig .tc := ⟨.hbm, 75, rfl⟩
abbrev main_v44 : Ref sig .tc := ⟨.hbm, 76, rfl⟩
abbrev main_cst_15 : Ref sig .tc := ⟨.hbm, 77, rfl⟩
abbrev main_call4_v0 : Ref sig .tc := ⟨.hbm, 78, rfl⟩
abbrev main_call4_v1 : Ref sig .tc := ⟨.hbm, 79, rfl⟩
abbrev main_v45 : Ref sig .tc := ⟨.hbm, 80, rfl⟩
abbrev main_c_16 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_17 : Ref sig .tc := ⟨.hbm, 92, rfl⟩
abbrev main_v56 : Ref sig .tc := ⟨.hbm, 93, rfl⟩
abbrev main_cst_18 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72_0 : Ref sig .tc := ⟨.hbm, 110, rfl⟩
abbrev main_v72_1 : Ref sig .tc := ⟨.hbm, 111, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![2, 4, 32], ![false, false, false]⟩

def k0_off1 (i : grid0.Coords) : Fin 2 → Nat :=
  let arg1 : BitVec 32 := BitVec.ofNat 32 (i 1).val
  let v0 : Index := Scalar.indexCast arg1
  let c0 : Index := 0#32
  ![v0.toNat, 0]
def k0_off2 (i : grid0.Coords) : Fin 2 → Nat :=
  let arg1 : BitVec 32 := BitVec.ofNat 32 (i 1).val
  let v63 : Index := Scalar.indexCast arg1
  let c1 : Index := 1#32
  ![v63.toNat, 1]
def k0_off3 (i : grid0.Coords) : Fin 2 → Nat :=
  let arg1 : BitVec 32 := BitVec.ofNat 32 (i 1).val
  let v65 : Index := Scalar.indexCast arg1
  let c2 : Index := 2#32
  ![v65.toNat, 2]
def k0_off4 (i : grid0.Coords) : Fin 2 → Nat :=
  let arg1 : BitVec 32 := BitVec.ofNat 32 (i 1).val
  let v67 : Index := Scalar.indexCast arg1
  let c3 : Index := 3#32
  ![v67.toNat, 3]
@[reducible] def k0_t1_loop (i : grid0.Coords) : Scf.Loop 32 :=
  let c0_i32_52 : BitVec 32 := 0#32
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c0_i32_43 : BitVec 32 := 0#32
  let v165 : BitVec 1 := Scalar.cmpi .sgt v163 c0_i32_43
  let v166 : BitVec 32 := Scalar.extui v165
  let c0_i32_44 : BitVec 32 := 0#32
  let v167 : BitVec 1 := Scalar.cmpi .slt v163 c0_i32_44
  let v168 : BitVec 32 := Scalar.extui v167
  let v169 : BitVec 32 := Scalar.subi v166 v168
  let c2_i32_42 : BitVec 32 := 2#32
  let c0_i32_45 : BitVec 32 := 0#32
  let v170 : BitVec 1 := Scalar.cmpi .sgt c2_i32_42 c0_i32_45
  let v171 : BitVec 32 := Scalar.extui v170
  let c0_i32_46 : BitVec 32 := 0#32
  let v172 : BitVec 1 := Scalar.cmpi .slt c2_i32_42 c0_i32_46
  let v173 : BitVec 32 := Scalar.extui v172
  let v174 : BitVec 32 := Scalar.subi v171 v173
  let v175 : BitVec 1 := Scalar.cmpi .ne v169 v174
  let v176 : BitVec 32 := Scalar.remsi v163 c2_i32_42
  let c0_i32_47 : BitVec 32 := 0#32
  let v177 : BitVec 1 := Scalar.cmpi .ne v176 c0_i32_47
  let v178 : BitVec 1 := Scalar.andi v175 v177
  let v164 : BitVec 32 := Scalar.divsi v163 c2_i32_42
  let c1_i32_48 : BitVec 32 := 1#32
  let v179 : BitVec 32 := Scalar.subi v164 c1_i32_48
  let v180 : BitVec 32 := Scalar.select v178 v179 v164
  let c1_i32_51 : BitVec 32 := 1#32
  let v191 : BitVec 32 := Scalar.subi v180 c1_i32_51
  let v192 : BitVec 32 := Scalar.subi v191 c0_i32_52
  let c1_i32_54 : BitVec 32 := 1#32
  let v194 : BitVec 32 := Scalar.divsi v192 c1_i32_54
  let v195 : BitVec 32 := Scalar.muli v194 c1_i32_54
  let v196 : BitVec 32 := Scalar.addi c0_i32_52 v195
  let c1_i32_55 : BitVec 32 := 1#32
  ⟨c0_i32_52, v196, c1_i32_55⟩
def k0_mult1 (i : grid0.Coords) (k0_t1 : Fin (k0_t1_loop i).trips) : BitVec 32 :=
  let c0_i32_52 : BitVec 32 := 0#32
  let c1_i32_55 : BitVec 32 := 1#32
  let arg18 : BitVec 32 := Scf.iv c0_i32_52 c1_i32_55 k0_t1
  let c1_i32_104 : BitVec 32 := 1#32
  let v285 : BitVec 32 := Scalar.addi arg18 c1_i32_104
  let c1024_i32 : BitVec 32 := 1024#32
  let v286 : BitVec 32 := Scalar.muli v285 c1024_i32
  v286
def k0_off5 (i : grid0.Coords) (k0_t1 : Fin (k0_t1_loop i).trips) : Fin 4 → Nat :=
  let c0_105 : Index := 0#32
  let c0_106 : Index := 0#32
  let c0_i32_52 : BitVec 32 := 0#32
  let c1_i32_55 : BitVec 32 := 1#32
  let arg18 : BitVec 32 := Scf.iv c0_i32_52 c1_i32_55 k0_t1
  let c1_i32_104 : BitVec 32 := 1#32
  let v285 : BitVec 32 := Scalar.addi arg18 c1_i32_104
  let c1024_i32 : BitVec 32 := 1024#32
  let v286 : BitVec 32 := Scalar.muli v285 c1024_i32
  let v287 : BitVec 32 := v286
  let v288 : Index := Scalar.indexCast v287
  let c0_107 : Index := 0#32
  ![0, 0, v288.toNat, 0]
def k0_off6 (i : grid0.Coords) (k0_t1 : Fin (k0_t1_loop i).trips) : Fin 4 → Nat :=
  let c0_109 : Index := 0#32
  let c0_110 : Index := 0#32
  let c0_i32_52 : BitVec 32 := 0#32
  let c1_i32_55 : BitVec 32 := 1#32
  let arg18 : BitVec 32 := Scf.iv c0_i32_52 c1_i32_55 k0_t1
  let c1_i32_104 : BitVec 32 := 1#32
  let v285 : BitVec 32 := Scalar.addi arg18 c1_i32_104
  let c1024_i32 : BitVec 32 := 1024#32
  let v286 : BitVec 32 := Scalar.muli v285 c1024_i32
  let v287 : BitVec 32 := v286
  let v292 : Index := Scalar.indexCast v287
  let c128_111 : Index := 128#32
  ![0, 0, v292.toNat, 128]
def k0_mult2 (i : grid0.Coords) (k0_t1 : Fin (k0_t1_loop i).trips) : BitVec 32 :=
  let c0_i32_52 : BitVec 32 := 0#32
  let c1_i32_55 : BitVec 32 := 1#32
  let arg18 : BitVec 32 := Scf.iv c0_i32_52 c1_i32_55 k0_t1
  let c1024_i32_115 : BitVec 32 := 1024#32
  let v305 : BitVec 32 := Scalar.muli arg18 c1024_i32_115
  v305
def k0_off7 (i : grid0.Coords) (k0_t1 : Fin (k0_t1_loop i).trips) : Fin 4 → Nat :=
  let c0_116 : Index := 0#32
  let c0_117 : Index := 0#32
  let c0_i32_52 : BitVec 32 := 0#32
  let c1_i32_55 : BitVec 32 := 1#32
  let arg18 : BitVec 32 := Scf.iv c0_i32_52 c1_i32_55 k0_t1
  let c1024_i32_115 : BitVec 32 := 1024#32
  let v305 : BitVec 32 := Scalar.muli arg18 c1024_i32_115
  let v306 : BitVec 32 := v305
  let v307 : Index := Scalar.indexCast v306
  let c0_118 : Index := 0#32
  ![0, 0, v307.toNat, 0]
@[reducible] def k0_t2_loop (i : grid0.Coords) : Scf.Loop 32 :=
  let c0_i32_52 : BitVec 32 := 0#32
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c0_i32_43 : BitVec 32 := 0#32
  let v165 : BitVec 1 := Scalar.cmpi .sgt v163 c0_i32_43
  let v166 : BitVec 32 := Scalar.extui v165
  let c0_i32_44 : BitVec 32 := 0#32
  let v167 : BitVec 1 := Scalar.cmpi .slt v163 c0_i32_44
  let v168 : BitVec 32 := Scalar.extui v167
  let v169 : BitVec 32 := Scalar.subi v166 v168
  let c2_i32_42 : BitVec 32 := 2#32
  let c0_i32_45 : BitVec 32 := 0#32
  let v170 : BitVec 1 := Scalar.cmpi .sgt c2_i32_42 c0_i32_45
  let v171 : BitVec 32 := Scalar.extui v170
  let c0_i32_46 : BitVec 32 := 0#32
  let v172 : BitVec 1 := Scalar.cmpi .slt c2_i32_42 c0_i32_46
  let v173 : BitVec 32 := Scalar.extui v172
  let v174 : BitVec 32 := Scalar.subi v171 v173
  let v175 : BitVec 1 := Scalar.cmpi .ne v169 v174
  let v176 : BitVec 32 := Scalar.remsi v163 c2_i32_42
  let c0_i32_47 : BitVec 32 := 0#32
  let v177 : BitVec 1 := Scalar.cmpi .ne v176 c0_i32_47
  let v178 : BitVec 1 := Scalar.andi v175 v177
  let v164 : BitVec 32 := Scalar.divsi v163 c2_i32_42
  let c1_i32_48 : BitVec 32 := 1#32
  let v179 : BitVec 32 := Scalar.subi v164 c1_i32_48
  let v180 : BitVec 32 := Scalar.select v178 v179 v164
  let c1_i32_51 : BitVec 32 := 1#32
  let v191 : BitVec 32 := Scalar.subi v180 c1_i32_51
  let v192 : BitVec 32 := Scalar.subi v191 c0_i32_52
  let c1_i32_54 : BitVec 32 := 1#32
  let v194 : BitVec 32 := Scalar.divsi v192 c1_i32_54
  let v195 : BitVec 32 := Scalar.muli v194 c1_i32_54
  let v196 : BitVec 32 := Scalar.addi c0_i32_52 v195
  let v193 : BitVec 32 := Scalar.addi c0_i32_52 v192
  let c1_i32_56 : BitVec 32 := 1#32
  ⟨v196, v193, c1_i32_56⟩
def k0_mult3 (i : grid0.Coords) (k0_t2 : Fin (k0_t2_loop i).trips) : BitVec 32 :=
  let c0_i32_52 : BitVec 32 := 0#32
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c0_i32_43 : BitVec 32 := 0#32
  let v165 : BitVec 1 := Scalar.cmpi .sgt v163 c0_i32_43
  let v166 : BitVec 32 := Scalar.extui v165
  let c0_i32_44 : BitVec 32 := 0#32
  let v167 : BitVec 1 := Scalar.cmpi .slt v163 c0_i32_44
  let v168 : BitVec 32 := Scalar.extui v167
  let v169 : BitVec 32 := Scalar.subi v166 v168
  let c2_i32_42 : BitVec 32 := 2#32
  let c0_i32_45 : BitVec 32 := 0#32
  let v170 : BitVec 1 := Scalar.cmpi .sgt c2_i32_42 c0_i32_45
  let v171 : BitVec 32 := Scalar.extui v170
  let c0_i32_46 : BitVec 32 := 0#32
  let v172 : BitVec 1 := Scalar.cmpi .slt c2_i32_42 c0_i32_46
  let v173 : BitVec 32 := Scalar.extui v172
  let v174 : BitVec 32 := Scalar.subi v171 v173
  let v175 : BitVec 1 := Scalar.cmpi .ne v169 v174
  let v176 : BitVec 32 := Scalar.remsi v163 c2_i32_42
  let c0_i32_47 : BitVec 32 := 0#32
  let v177 : BitVec 1 := Scalar.cmpi .ne v176 c0_i32_47
  let v178 : BitVec 1 := Scalar.andi v175 v177
  let v164 : BitVec 32 := Scalar.divsi v163 c2_i32_42
  let c1_i32_48 : BitVec 32 := 1#32
  let v179 : BitVec 32 := Scalar.subi v164 c1_i32_48
  let v180 : BitVec 32 := Scalar.select v178 v179 v164
  let c1_i32_51 : BitVec 32 := 1#32
  let v191 : BitVec 32 := Scalar.subi v180 c1_i32_51
  let v192 : BitVec 32 := Scalar.subi v191 c0_i32_52
  let c1_i32_54 : BitVec 32 := 1#32
  let v194 : BitVec 32 := Scalar.divsi v192 c1_i32_54
  let v195 : BitVec 32 := Scalar.muli v194 c1_i32_54
  let v196 : BitVec 32 := Scalar.addi c0_i32_52 v195
  let c1_i32_56 : BitVec 32 := 1#32
  let arg18 : BitVec 32 := Scf.iv v196 c1_i32_56 k0_t2
  let c1_i32_104 : BitVec 32 := 1#32
  let v285 : BitVec 32 := Scalar.addi arg18 c1_i32_104
  let c1024_i32 : BitVec 32 := 1024#32
  let v286 : BitVec 32 := Scalar.muli v285 c1024_i32
  v286
def k0_off8 (i : grid0.Coords) (k0_t2 : Fin (k0_t2_loop i).trips) : Fin 4 → Nat :=
  let c0_105 : Index := 0#32
  let c0_106 : Index := 0#32
  let c0_i32_52 : BitVec 32 := 0#32
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c0_i32_43 : BitVec 32 := 0#32
  let v165 : BitVec 1 := Scalar.cmpi .sgt v163 c0_i32_43
  let v166 : BitVec 32 := Scalar.extui v165
  let c0_i32_44 : BitVec 32 := 0#32
  let v167 : BitVec 1 := Scalar.cmpi .slt v163 c0_i32_44
  let v168 : BitVec 32 := Scalar.extui v167
  let v169 : BitVec 32 := Scalar.subi v166 v168
  let c2_i32_42 : BitVec 32 := 2#32
  let c0_i32_45 : BitVec 32 := 0#32
  let v170 : BitVec 1 := Scalar.cmpi .sgt c2_i32_42 c0_i32_45
  let v171 : BitVec 32 := Scalar.extui v170
  let c0_i32_46 : BitVec 32 := 0#32
  let v172 : BitVec 1 := Scalar.cmpi .slt c2_i32_42 c0_i32_46
  let v173 : BitVec 32 := Scalar.extui v172
  let v174 : BitVec 32 := Scalar.subi v171 v173
  let v175 : BitVec 1 := Scalar.cmpi .ne v169 v174
  let v176 : BitVec 32 := Scalar.remsi v163 c2_i32_42
  let c0_i32_47 : BitVec 32 := 0#32
  let v177 : BitVec 1 := Scalar.cmpi .ne v176 c0_i32_47
  let v178 : BitVec 1 := Scalar.andi v175 v177
  let v164 : BitVec 32 := Scalar.divsi v163 c2_i32_42
  let c1_i32_48 : BitVec 32 := 1#32
  let v179 : BitVec 32 := Scalar.subi v164 c1_i32_48
  let v180 : BitVec 32 := Scalar.select v178 v179 v164
  let c1_i32_51 : BitVec 32 := 1#32
  let v191 : BitVec 32 := Scalar.subi v180 c1_i32_51
  let v192 : BitVec 32 := Scalar.subi v191 c0_i32_52
  let c1_i32_54 : BitVec 32 := 1#32
  let v194 : BitVec 32 := Scalar.divsi v192 c1_i32_54
  let v195 : BitVec 32 := Scalar.muli v194 c1_i32_54
  let v196 : BitVec 32 := Scalar.addi c0_i32_52 v195
  let c1_i32_56 : BitVec 32 := 1#32
  let arg18 : BitVec 32 := Scf.iv v196 c1_i32_56 k0_t2
  let c1_i32_104 : BitVec 32 := 1#32
  let v285 : BitVec 32 := Scalar.addi arg18 c1_i32_104
  let c1024_i32 : BitVec 32 := 1024#32
  let v286 : BitVec 32 := Scalar.muli v285 c1024_i32
  let v287 : BitVec 32 := v286
  let v288 : Index := Scalar.indexCast v287
  let c0_107 : Index := 0#32
  ![0, 0, v288.toNat, 0]
def k0_off9 (i : grid0.Coords) (k0_t2 : Fin (k0_t2_loop i).trips) : Fin 4 → Nat :=
  let c0_109 : Index := 0#32
  let c0_110 : Index := 0#32
  let c0_i32_52 : BitVec 32 := 0#32
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c0_i32_43 : BitVec 32 := 0#32
  let v165 : BitVec 1 := Scalar.cmpi .sgt v163 c0_i32_43
  let v166 : BitVec 32 := Scalar.extui v165
  let c0_i32_44 : BitVec 32 := 0#32
  let v167 : BitVec 1 := Scalar.cmpi .slt v163 c0_i32_44
  let v168 : BitVec 32 := Scalar.extui v167
  let v169 : BitVec 32 := Scalar.subi v166 v168
  let c2_i32_42 : BitVec 32 := 2#32
  let c0_i32_45 : BitVec 32 := 0#32
  let v170 : BitVec 1 := Scalar.cmpi .sgt c2_i32_42 c0_i32_45
  let v171 : BitVec 32 := Scalar.extui v170
  let c0_i32_46 : BitVec 32 := 0#32
  let v172 : BitVec 1 := Scalar.cmpi .slt c2_i32_42 c0_i32_46
  let v173 : BitVec 32 := Scalar.extui v172
  let v174 : BitVec 32 := Scalar.subi v171 v173
  let v175 : BitVec 1 := Scalar.cmpi .ne v169 v174
  let v176 : BitVec 32 := Scalar.remsi v163 c2_i32_42
  let c0_i32_47 : BitVec 32 := 0#32
  let v177 : BitVec 1 := Scalar.cmpi .ne v176 c0_i32_47
  let v178 : BitVec 1 := Scalar.andi v175 v177
  let v164 : BitVec 32 := Scalar.divsi v163 c2_i32_42
  let c1_i32_48 : BitVec 32 := 1#32
  let v179 : BitVec 32 := Scalar.subi v164 c1_i32_48
  let v180 : BitVec 32 := Scalar.select v178 v179 v164
  let c1_i32_51 : BitVec 32 := 1#32
  let v191 : BitVec 32 := Scalar.subi v180 c1_i32_51
  let v192 : BitVec 32 := Scalar.subi v191 c0_i32_52
  let c1_i32_54 : BitVec 32 := 1#32
  let v194 : BitVec 32 := Scalar.divsi v192 c1_i32_54
  let v195 : BitVec 32 := Scalar.muli v194 c1_i32_54
  let v196 : BitVec 32 := Scalar.addi c0_i32_52 v195
  let c1_i32_56 : BitVec 32 := 1#32
  let arg18 : BitVec 32 := Scf.iv v196 c1_i32_56 k0_t2
  let c1_i32_104 : BitVec 32 := 1#32
  let v285 : BitVec 32 := Scalar.addi arg18 c1_i32_104
  let c1024_i32 : BitVec 32 := 1024#32
  let v286 : BitVec 32 := Scalar.muli v285 c1024_i32
  let v287 : BitVec 32 := v286
  let v292 : Index := Scalar.indexCast v287
  let c128_111 : Index := 128#32
  ![0, 0, v292.toNat, 128]
def k0_mult4 (i : grid0.Coords) (k0_t2 : Fin (k0_t2_loop i).trips) : BitVec 32 :=
  let c0_i32_52 : BitVec 32 := 0#32
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c0_i32_43 : BitVec 32 := 0#32
  let v165 : BitVec 1 := Scalar.cmpi .sgt v163 c0_i32_43
  let v166 : BitVec 32 := Scalar.extui v165
  let c0_i32_44 : BitVec 32 := 0#32
  let v167 : BitVec 1 := Scalar.cmpi .slt v163 c0_i32_44
  let v168 : BitVec 32 := Scalar.extui v167
  let v169 : BitVec 32 := Scalar.subi v166 v168
  let c2_i32_42 : BitVec 32 := 2#32
  let c0_i32_45 : BitVec 32 := 0#32
  let v170 : BitVec 1 := Scalar.cmpi .sgt c2_i32_42 c0_i32_45
  let v171 : BitVec 32 := Scalar.extui v170
  let c0_i32_46 : BitVec 32 := 0#32
  let v172 : BitVec 1 := Scalar.cmpi .slt c2_i32_42 c0_i32_46
  let v173 : BitVec 32 := Scalar.extui v172
  let v174 : BitVec 32 := Scalar.subi v171 v173
  let v175 : BitVec 1 := Scalar.cmpi .ne v169 v174
  let v176 : BitVec 32 := Scalar.remsi v163 c2_i32_42
  let c0_i32_47 : BitVec 32 := 0#32
  let v177 : BitVec 1 := Scalar.cmpi .ne v176 c0_i32_47
  let v178 : BitVec 1 := Scalar.andi v175 v177
  let v164 : BitVec 32 := Scalar.divsi v163 c2_i32_42
  let c1_i32_48 : BitVec 32 := 1#32
  let v179 : BitVec 32 := Scalar.subi v164 c1_i32_48
  let v180 : BitVec 32 := Scalar.select v178 v179 v164
  let c1_i32_51 : BitVec 32 := 1#32
  let v191 : BitVec 32 := Scalar.subi v180 c1_i32_51
  let v192 : BitVec 32 := Scalar.subi v191 c0_i32_52
  let c1_i32_54 : BitVec 32 := 1#32
  let v194 : BitVec 32 := Scalar.divsi v192 c1_i32_54
  let v195 : BitVec 32 := Scalar.muli v194 c1_i32_54
  let v196 : BitVec 32 := Scalar.addi c0_i32_52 v195
  let c1_i32_56 : BitVec 32 := 1#32
  let arg18 : BitVec 32 := Scf.iv v196 c1_i32_56 k0_t2
  let c1024_i32_115 : BitVec 32 := 1024#32
  let v305 : BitVec 32 := Scalar.muli arg18 c1024_i32_115
  v305
def k0_off10 (i : grid0.Coords) (k0_t2 : Fin (k0_t2_loop i).trips) : Fin 4 → Nat :=
  let c0_116 : Index := 0#32
  let c0_117 : Index := 0#32
  let c0_i32_52 : BitVec 32 := 0#32
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c0_i32_43 : BitVec 32 := 0#32
  let v165 : BitVec 1 := Scalar.cmpi .sgt v163 c0_i32_43
  let v166 : BitVec 32 := Scalar.extui v165
  let c0_i32_44 : BitVec 32 := 0#32
  let v167 : BitVec 1 := Scalar.cmpi .slt v163 c0_i32_44
  let v168 : BitVec 32 := Scalar.extui v167
  let v169 : BitVec 32 := Scalar.subi v166 v168
  let c2_i32_42 : BitVec 32 := 2#32
  let c0_i32_45 : BitVec 32 := 0#32
  let v170 : BitVec 1 := Scalar.cmpi .sgt c2_i32_42 c0_i32_45
  let v171 : BitVec 32 := Scalar.extui v170
  let c0_i32_46 : BitVec 32 := 0#32
  let v172 : BitVec 1 := Scalar.cmpi .slt c2_i32_42 c0_i32_46
  let v173 : BitVec 32 := Scalar.extui v172
  let v174 : BitVec 32 := Scalar.subi v171 v173
  let v175 : BitVec 1 := Scalar.cmpi .ne v169 v174
  let v176 : BitVec 32 := Scalar.remsi v163 c2_i32_42
  let c0_i32_47 : BitVec 32 := 0#32
  let v177 : BitVec 1 := Scalar.cmpi .ne v176 c0_i32_47
  let v178 : BitVec 1 := Scalar.andi v175 v177
  let v164 : BitVec 32 := Scalar.divsi v163 c2_i32_42
  let c1_i32_48 : BitVec 32 := 1#32
  let v179 : BitVec 32 := Scalar.subi v164 c1_i32_48
  let v180 : BitVec 32 := Scalar.select v178 v179 v164
  let c1_i32_51 : BitVec 32 := 1#32
  let v191 : BitVec 32 := Scalar.subi v180 c1_i32_51
  let v192 : BitVec 32 := Scalar.subi v191 c0_i32_52
  let c1_i32_54 : BitVec 32 := 1#32
  let v194 : BitVec 32 := Scalar.divsi v192 c1_i32_54
  let v195 : BitVec 32 := Scalar.muli v194 c1_i32_54
  let v196 : BitVec 32 := Scalar.addi c0_i32_52 v195
  let c1_i32_56 : BitVec 32 := 1#32
  let arg18 : BitVec 32 := Scf.iv v196 c1_i32_56 k0_t2
  let c1024_i32_115 : BitVec 32 := 1024#32
  let v305 : BitVec 32 := Scalar.muli arg18 c1024_i32_115
  let v306 : BitVec 32 := v305
  let v307 : Index := Scalar.indexCast v306
  let c0_118 : Index := 0#32
  ![0, 0, v307.toNat, 0]
def k0_cond3 (i : grid0.Coords) : BitVec 1 :=
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c0_i32_43 : BitVec 32 := 0#32
  let v165 : BitVec 1 := Scalar.cmpi .sgt v163 c0_i32_43
  let v166 : BitVec 32 := Scalar.extui v165
  let c0_i32_44 : BitVec 32 := 0#32
  let v167 : BitVec 1 := Scalar.cmpi .slt v163 c0_i32_44
  let v168 : BitVec 32 := Scalar.extui v167
  let v169 : BitVec 32 := Scalar.subi v166 v168
  let c2_i32_42 : BitVec 32 := 2#32
  let c0_i32_45 : BitVec 32 := 0#32
  let v170 : BitVec 1 := Scalar.cmpi .sgt c2_i32_42 c0_i32_45
  let v171 : BitVec 32 := Scalar.extui v170
  let c0_i32_46 : BitVec 32 := 0#32
  let v172 : BitVec 1 := Scalar.cmpi .slt c2_i32_42 c0_i32_46
  let v173 : BitVec 32 := Scalar.extui v172
  let v174 : BitVec 32 := Scalar.subi v171 v173
  let v175 : BitVec 1 := Scalar.cmpi .ne v169 v174
  let v176 : BitVec 32 := Scalar.remsi v163 c2_i32_42
  let c0_i32_47 : BitVec 32 := 0#32
  let v177 : BitVec 1 := Scalar.cmpi .ne v176 c0_i32_47
  let v178 : BitVec 1 := Scalar.andi v175 v177
  let v164 : BitVec 32 := Scalar.divsi v163 c2_i32_42
  let c1_i32_48 : BitVec 32 := 1#32
  let v179 : BitVec 32 := Scalar.subi v164 c1_i32_48
  let v180 : BitVec 32 := Scalar.select v178 v179 v164
  let c0_i32_57 : BitVec 32 := 0#32
  let v199 : BitVec 1 := Scalar.cmpi .sgt v180 c0_i32_57
  let v200 : BitVec 32 := Scalar.extui v199
  let c0_i32_58 : BitVec 32 := 0#32
  let v201 : BitVec 1 := Scalar.cmpi .ne v200 c0_i32_58
  v201

def k0_mult5 (i : grid0.Coords) : BitVec 32 :=
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c0_i32_43 : BitVec 32 := 0#32
  let v165 : BitVec 1 := Scalar.cmpi .sgt v163 c0_i32_43
  let v166 : BitVec 32 := Scalar.extui v165
  let c0_i32_44 : BitVec 32 := 0#32
  let v167 : BitVec 1 := Scalar.cmpi .slt v163 c0_i32_44
  let v168 : BitVec 32 := Scalar.extui v167
  let v169 : BitVec 32 := Scalar.subi v166 v168
  let c2_i32_42 : BitVec 32 := 2#32
  let c0_i32_45 : BitVec 32 := 0#32
  let v170 : BitVec 1 := Scalar.cmpi .sgt c2_i32_42 c0_i32_45
  let v171 : BitVec 32 := Scalar.extui v170
  let c0_i32_46 : BitVec 32 := 0#32
  let v172 : BitVec 1 := Scalar.cmpi .slt c2_i32_42 c0_i32_46
  let v173 : BitVec 32 := Scalar.extui v172
  let v174 : BitVec 32 := Scalar.subi v171 v173
  let v175 : BitVec 1 := Scalar.cmpi .ne v169 v174
  let v176 : BitVec 32 := Scalar.remsi v163 c2_i32_42
  let c0_i32_47 : BitVec 32 := 0#32
  let v177 : BitVec 1 := Scalar.cmpi .ne v176 c0_i32_47
  let v178 : BitVec 1 := Scalar.andi v175 v177
  let v164 : BitVec 32 := Scalar.divsi v163 c2_i32_42
  let c1_i32_48 : BitVec 32 := 1#32
  let v179 : BitVec 32 := Scalar.subi v164 c1_i32_48
  let v180 : BitVec 32 := Scalar.select v178 v179 v164
  let c1_i32_106 : BitVec 32 := 1#32
  let v286 : BitVec 32 := Scalar.subi v180 c1_i32_106
  let c1024_i32 : BitVec 32 := 1024#32
  let v287 : BitVec 32 := Scalar.muli v286 c1024_i32
  v287
def k0_off11 (i : grid0.Coords) : Fin 4 → Nat :=
  let c0_107 : Index := 0#32
  let c0_108 : Index := 0#32
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c0_i32_43 : BitVec 32 := 0#32
  let v165 : BitVec 1 := Scalar.cmpi .sgt v163 c0_i32_43
  let v166 : BitVec 32 := Scalar.extui v165
  let c0_i32_44 : BitVec 32 := 0#32
  let v167 : BitVec 1 := Scalar.cmpi .slt v163 c0_i32_44
  let v168 : BitVec 32 := Scalar.extui v167
  let v169 : BitVec 32 := Scalar.subi v166 v168
  let c2_i32_42 : BitVec 32 := 2#32
  let c0_i32_45 : BitVec 32 := 0#32
  let v170 : BitVec 1 := Scalar.cmpi .sgt c2_i32_42 c0_i32_45
  let v171 : BitVec 32 := Scalar.extui v170
  let c0_i32_46 : BitVec 32 := 0#32
  let v172 : BitVec 1 := Scalar.cmpi .slt c2_i32_42 c0_i32_46
  let v173 : BitVec 32 := Scalar.extui v172
  let v174 : BitVec 32 := Scalar.subi v171 v173
  let v175 : BitVec 1 := Scalar.cmpi .ne v169 v174
  let v176 : BitVec 32 := Scalar.remsi v163 c2_i32_42
  let c0_i32_47 : BitVec 32 := 0#32
  let v177 : BitVec 1 := Scalar.cmpi .ne v176 c0_i32_47
  let v178 : BitVec 1 := Scalar.andi v175 v177
  let v164 : BitVec 32 := Scalar.divsi v163 c2_i32_42
  let c1_i32_48 : BitVec 32 := 1#32
  let v179 : BitVec 32 := Scalar.subi v164 c1_i32_48
  let v180 : BitVec 32 := Scalar.select v178 v179 v164
  let c1_i32_106 : BitVec 32 := 1#32
  let v286 : BitVec 32 := Scalar.subi v180 c1_i32_106
  let c1024_i32 : BitVec 32 := 1024#32
  let v287 : BitVec 32 := Scalar.muli v286 c1024_i32
  let v288 : BitVec 32 := v287
  let v289 : Index := Scalar.indexCast v288
  let c0_109 : Index := 0#32
  ![0, 0, v289.toNat, 0]
def k0_cond4 (i : grid0.Coords) : BitVec 1 :=
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c2_i32_59 : BitVec 32 := 2#32
  let c0_i32_43 : BitVec 32 := 0#32
  let v165 : BitVec 1 := Scalar.cmpi .sgt v163 c0_i32_43
  let v166 : BitVec 32 := Scalar.extui v165
  let c0_i32_44 : BitVec 32 := 0#32
  let v167 : BitVec 1 := Scalar.cmpi .slt v163 c0_i32_44
  let v168 : BitVec 32 := Scalar.extui v167
  let v169 : BitVec 32 := Scalar.subi v166 v168
  let c2_i32_42 : BitVec 32 := 2#32
  let c0_i32_45 : BitVec 32 := 0#32
  let v170 : BitVec 1 := Scalar.cmpi .sgt c2_i32_42 c0_i32_45
  let v171 : BitVec 32 := Scalar.extui v170
  let c0_i32_46 : BitVec 32 := 0#32
  let v172 : BitVec 1 := Scalar.cmpi .slt c2_i32_42 c0_i32_46
  let v173 : BitVec 32 := Scalar.extui v172
  let v174 : BitVec 32 := Scalar.subi v171 v173
  let v175 : BitVec 1 := Scalar.cmpi .ne v169 v174
  let v176 : BitVec 32 := Scalar.remsi v163 c2_i32_42
  let c0_i32_47 : BitVec 32 := 0#32
  let v177 : BitVec 1 := Scalar.cmpi .ne v176 c0_i32_47
  let v178 : BitVec 1 := Scalar.andi v175 v177
  let v164 : BitVec 32 := Scalar.divsi v163 c2_i32_42
  let c1_i32_48 : BitVec 32 := 1#32
  let v179 : BitVec 32 := Scalar.subi v164 c1_i32_48
  let v180 : BitVec 32 := Scalar.select v178 v179 v164
  let v202 : BitVec 32 := Scalar.muli c2_i32_59 v180
  let v203 : BitVec 1 := Scalar.cmpi .sgt v163 v202
  let v204 : BitVec 32 := Scalar.extui v203
  let c0_i32_60 : BitVec 32 := 0#32
  let v205 : BitVec 1 := Scalar.cmpi .ne v204 c0_i32_60
  v205

def k0_mult6 (i : grid0.Coords) : BitVec 32 :=
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c1_i32_104 : BitVec 32 := 1#32
  let v285 : BitVec 32 := Scalar.subi v163 c1_i32_104
  let c512_i32_105 : BitVec 32 := 512#32
  let v286 : BitVec 32 := Scalar.muli v285 c512_i32_105
  v286
def k0_off12 (i : grid0.Coords) : Fin 4 → Nat :=
  let c0_106 : Index := 0#32
  let c0_107 : Index := 0#32
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c1_i32_104 : BitVec 32 := 1#32
  let v285 : BitVec 32 := Scalar.subi v163 c1_i32_104
  let c512_i32_105 : BitVec 32 := 512#32
  let v286 : BitVec 32 := Scalar.muli v285 c512_i32_105
  let v287 : BitVec 32 := v286
  let v288 : Index := Scalar.indexCast v287
  let c0_108 : Index := 0#32
  ![0, 0, v288.toNat, 0]
def k0_off13 (i : grid0.Coords) : Fin 4 → Nat :=
  let c0_110 : Index := 0#32
  let c0_111 : Index := 0#32
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c1_i32_104 : BitVec 32 := 1#32
  let v285 : BitVec 32 := Scalar.subi v163 c1_i32_104
  let c512_i32_105 : BitVec 32 := 512#32
  let v286 : BitVec 32 := Scalar.muli v285 c512_i32_105
  let v287 : BitVec 32 := v286
  let v292 : Index := Scalar.indexCast v287
  let c128_112 : Index := 128#32
  ![0, 0, v292.toNat, 128]
def k0_mult7 (i : grid0.Coords) : BitVec 32 :=
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c1_i32_104 : BitVec 32 := 1#32
  let v285 : BitVec 32 := Scalar.subi v163 c1_i32_104
  let c512_i32_105 : BitVec 32 := 512#32
  let v286 : BitVec 32 := Scalar.muli v285 c512_i32_105
  v286
def k0_off14 (i : grid0.Coords) : Fin 4 → Nat :=
  let c0_114 : Index := 0#32
  let c0_115 : Index := 0#32
  let c0_i32_24 : BitVec 32 := 0#32
  let arg2 : BitVec 32 := BitVec.ofNat 32 (i 2).val
  let c512_i32 : BitVec 32 := 512#32
  let v50 : BitVec 32 := Scalar.muli arg2 c512_i32
  let v51 : BitVec 32 := Scalar.addi c0_i32_24 v50
  let c0_i32_36 : BitVec 32 := 0#32
  let v148 : BitVec 1 := Scalar.cmpi .sgt v51 c0_i32_36
  let v149 : BitVec 32 := Scalar.extui v148
  let c0_i32_37 : BitVec 32 := 0#32
  let v150 : BitVec 1 := Scalar.cmpi .slt v51 c0_i32_37
  let v151 : BitVec 32 := Scalar.extui v150
  let v152 : BitVec 32 := Scalar.subi v149 v151
  let c512_i32_35 : BitVec 32 := 512#32
  let c0_i32_38 : BitVec 32 := 0#32
  let v153 : BitVec 1 := Scalar.cmpi .sgt c512_i32_35 c0_i32_38
  let v154 : BitVec 32 := Scalar.extui v153
  let c0_i32_39 : BitVec 32 := 0#32
  let v155 : BitVec 1 := Scalar.cmpi .slt c512_i32_35 c0_i32_39
  let v156 : BitVec 32 := Scalar.extui v155
  let v157 : BitVec 32 := Scalar.subi v154 v156
  let v158 : BitVec 1 := Scalar.cmpi .ne v152 v157
  let v159 : BitVec 32 := Scalar.remsi v51 c512_i32_35
  let c0_i32_40 : BitVec 32 := 0#32
  let v160 : BitVec 1 := Scalar.cmpi .ne v159 c0_i32_40
  let v161 : BitVec 1 := Scalar.andi v158 v160
  let v147 : BitVec 32 := Scalar.divsi v51 c512_i32_35
  let c1_i32_41 : BitVec 32 := 1#32
  let v162 : BitVec 32 := Scalar.subi v147 c1_i32_41
  let v163 : BitVec 32 := Scalar.select v161 v162 v147
  let c1_i32_104 : BitVec 32 := 1#32
  let v285 : BitVec 32 := Scalar.subi v163 c1_i32_104
  let c512_i32_105 : BitVec 32 := 512#32
  let v286 : BitVec 32 := Scalar.muli v285 c512_i32_105
  let v305 : BitVec 32 := v286
  let v306 : Index := Scalar.indexCast v305
  let c0_116 : Index := 0#32
  ![0, 0, v306.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 1 → Memref sig .tc .smem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16384x512 : Shape := ⟨3, ![2, 16384, 512]⟩
abbrev S2x1x512 : Shape := ⟨3, ![2, 1, 512]⟩
abbrev S64 : Shape := ⟨1, ![64]⟩
abbrev S128 : Shape := ⟨1, ![128]⟩
abbrev S2x16384x4x2x64 : Shape := ⟨5, ![2, 16384, 4, 2, 64]⟩
abbrev S2x16384x4x128 : Shape := ⟨4, ![2, 16384, 4, 128]⟩
abbrev S_ : Shape := ⟨0, ![]⟩
abbrev S16384 : Shape := ⟨1, ![16384]⟩
abbrev S1 : Shape := ⟨1, ![1]⟩
abbrev S4 : Shape := ⟨1, ![4]⟩
abbrev S2x4x2x16384x16384 : Shape := ⟨5, ![2, 4, 2, 16384, 16384]⟩
abbrev S16384x1 : Shape := ⟨2, ![16384, 1]⟩
abbrev S1x16384 : Shape := ⟨2, ![1, 16384]⟩
abbrev S16384x16384 : Shape := ⟨2, ![16384, 16384]⟩
abbrev S4x1x1 : Shape := ⟨3, ![4, 1, 1]⟩
abbrev S1x16384x16384 : Shape := ⟨3, ![1, 16384, 16384]⟩
abbrev S4x16384x16384 : Shape := ⟨3, ![4, 16384, 16384]⟩
abbrev S1x4x1x16384x16384 : Shape := ⟨5, ![1, 4, 1, 16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩

abbrev nBuf : Space → Nat
  | .hbm => 110
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x1x512, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S2x16384x4x2x64, .f32⟩
  | .hbm, ⟨10, _⟩ => ⟨S2x16384x4x2x64, .f32⟩
  | .hbm, ⟨11, _⟩ => ⟨S2x16384x4x128, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16384, .i32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S1, .f32⟩
  | .hbm, ⟨31, _⟩ => ⟨S1, .f32⟩
  | .hbm, ⟨32, _⟩ => ⟨S4, .f32⟩
  | .hbm, ⟨33, _⟩ => ⟨S_, .f32⟩
  | .hbm, ⟨34, _⟩ => ⟨S2x16384x4x2x64, .f32⟩
  | .hbm, ⟨35, _⟩ => ⟨S2x16384x4x2x64, .f32⟩
  | .hbm, ⟨36, _⟩ => ⟨S2x4x2x16384x16384, .f32⟩
  | .hbm, ⟨37, _⟩ => ⟨S16384x1, .i32⟩
  | .hbm, ⟨38, _⟩ => ⟨S1x16384, .i32⟩
  | .hbm, ⟨39, _⟩ => ⟨S16384x16384, .i32⟩
  | .hbm, ⟨40, _⟩ => ⟨S16384x16384, .i32⟩
  | .hbm, ⟨41, _⟩ => ⟨S16384x16384, .i32⟩
  | .hbm, ⟨42, _⟩ => ⟨S16384x16384, .i32⟩
  | .hbm, ⟨43, _⟩ => ⟨S16384x16384, .f32⟩
  | .hbm, ⟨44, _⟩ => ⟨S4x1x1, .f32⟩
  | .hbm, ⟨45, _⟩ => ⟨S4x1x1, .f32⟩
  | .hbm, ⟨46, _⟩ => ⟨S1x16384x16384, .f32⟩
  | .hbm, ⟨47, _⟩ => ⟨S4x16384x16384, .f32⟩
  | .hbm, ⟨48, _⟩ => ⟨S4x16384x16384, .f32⟩
  | .hbm, ⟨49, _⟩ => ⟨S4x16384x16384, .f32⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S1x16384, .i32⟩
  | .hbm, ⟨54, _⟩ => ⟨S16384x1, .i32⟩
  | .hbm, ⟨55, _⟩ => ⟨S16384x16384, .i32⟩
  | .hbm, ⟨56, _⟩ => ⟨S16384x16384, .i32⟩
  | .hbm, ⟨57, _⟩ => ⟨S16384x16384, .i1⟩
  | .hbm, ⟨58, _⟩ => ⟨S1x4x1x16384x16384, .f32⟩
  | .hbm, ⟨59, _⟩ => ⟨S2x4x2x16384x16384, .f32⟩
  | .hbm, ⟨60, _⟩ => ⟨S2x4x2x16384x16384, .f32⟩
  | .hbm, ⟨61, _⟩ => ⟨S_, .f32⟩
  | .hbm, ⟨62, _⟩ => ⟨S_, .f32⟩
  | .hbm, ⟨63, _⟩ => ⟨S2x4x2x16384x16384, .i1⟩
  | .hbm, ⟨64, _⟩ => ⟨S2x4x2x16384x16384, .f32⟩
  | .hbm, ⟨65, _⟩ => ⟨S2x4x2x16384x16384, .f32⟩
  | .hbm, ⟨66, _⟩ => ⟨S_, .f32⟩
  | .hbm, ⟨67, _⟩ => ⟨S2x4x2x16384, .f32⟩
  | .hbm, ⟨68, _⟩ => ⟨S_, .f32⟩
  | .hbm, ⟨69, _⟩ => ⟨S2x4x2x16384, .f32⟩
  | .hbm, ⟨70, _⟩ => ⟨S2x4x2x16384, .f32⟩
  | .hbm, ⟨71, _⟩ => ⟨S2x4x2x16384x1, .f32⟩
  | .hbm, ⟨72, _⟩ => ⟨S2x4x2x16384x16384, .f32⟩
  | .hbm, ⟨73, _⟩ => ⟨S2x4x2x16384x16384, .f32⟩
  | .hbm, ⟨74, _⟩ => ⟨S2x4x2x16384x16384, .f32⟩
  | .hbm, ⟨75, _⟩ => ⟨S_, .f32⟩
  | .hbm, ⟨76, _⟩ => ⟨S2x4x2x16384, .f32⟩
  | .hbm, ⟨77, _⟩ => ⟨S2x4x2x16384x1, .f32⟩
  | .hbm, ⟨78, _⟩ => ⟨S2x4x2x16384x16384, .f32⟩
  | .hbm, ⟨79, _⟩ => ⟨S2x4x2x16384x16384, .f32⟩
  | .hbm, ⟨80, _⟩ => ⟨S2x4x1x16384x16384, .f32⟩
  | .hbm, ⟨81, _⟩ => ⟨S2x4x16384x16384, .f32⟩
  | .hbm, ⟨82, _⟩ => ⟨S2x4x1x16384x16384, .f32⟩
  | .hbm, ⟨83, _⟩ => ⟨S2x4x16384x16384, .f32⟩
  | .hbm, ⟨84, _⟩ => ⟨S2x4x16384x16384, .f32⟩
  | .hbm, ⟨85, _⟩ => ⟨S2x4x16384x16384, .f32⟩
  | .hbm, ⟨86, _⟩ => ⟨S2x4x16384x16384, .f32⟩
  | .hbm, ⟨87, _⟩ => ⟨S2x4x128x16384, .f32⟩
  | .hbm, ⟨88, _⟩ => ⟨S2x16384x4x128, .f32⟩
  | .hbm, ⟨89, _⟩ => ⟨S2x16384x4x128, .f32⟩
  | .hbm, ⟨90, _⟩ => ⟨S_, .f32⟩
  | .hbm, ⟨91, _⟩ => ⟨S2x16384x4, .f32⟩
  | .hbm, ⟨92, _⟩ => ⟨S2x16384x4x1, .f32⟩
  | .hbm, ⟨93, _⟩ => ⟨S_, .f32⟩
  | .hbm, ⟨94, _⟩ => ⟨S2x16384x4x1, .f32⟩
  | .hbm, ⟨95, _⟩ => ⟨S2x16384x4x1, .f32⟩
  | .hbm, ⟨96, _⟩ => ⟨S_, .f32⟩
  | .hbm, ⟨97, _⟩ => ⟨S2x16384x4x1, .f32⟩
  | .hbm, ⟨98, _⟩ => ⟨S2x16384x4x1, .f32⟩
  | .hbm, ⟨99, _⟩ => ⟨S2x16384x4x1, .f32⟩
  | .hbm, ⟨100, _⟩ => ⟨S2x16384x4x128, .f32⟩
  | .hbm, ⟨101, _⟩ => ⟨S2x16384x4x128, .f32⟩
  | .hbm, ⟨102, _⟩ => ⟨S1x1x1x128, .f32⟩
  | .hbm, ⟨103, _⟩ => ⟨S2x16384x4x128, .f32⟩
  | .hbm, ⟨104, _⟩ => ⟨S2x16384x4x128, .f32⟩
  | .hbm, ⟨105, _⟩ => ⟨S_, .f32⟩
  | .hbm, ⟨106, _⟩ => ⟨S2x16384x4x128, .f32⟩
  | .hbm, ⟨107, _⟩ => ⟨S2x16384x4x128, .f32⟩
  | .hbm, ⟨108, _⟩ => ⟨S2x16384x4x128, .bf16⟩
  | .hbm, ⟨109, _⟩ => ⟨S2x16384x512, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_cst_3 : Ref sig .tc := ⟨.hbm, 25, rfl⟩
abbrev main_cst_4 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S1x1024 : Shape := ⟨2, ![1, 1024]⟩
abbrev S16x128x128 : Shape := ⟨3, ![16, 128, 128]⟩
abbrev S1024x32768 : Shape := ⟨2, ![1024, 32768]⟩
abbrev S16x128x32768 : Shape := ⟨3, ![16, 128, 32768]⟩
abbrev S256x1024 : Shape := ⟨2, ![256, 1024]⟩
abbrev S256x512 : Shape := ⟨2, ![256, 512]⟩
abbrev S1024x256 : Shape := ⟨2, ![1024, 256]⟩
abbrev S16x128x256 : Shape := ⟨3, ![16, 128, 256]⟩
abbrev S512x1024 : Shape := ⟨2, ![512, 1024]⟩
abbrev S256 : Shape := ⟨1, ![256]⟩
abbrev S256x1 : Shape := ⟨2, ![256, 1]⟩
abbrev S256x2048 : Shape := ⟨2, ![256, 2048]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 15
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x2x128x128, .f32⟩
  | .hbm, ⟨7, _⟩ => ⟨S1024x1024, .bf16⟩
  | .hbm, ⟨8, _⟩ => ⟨S1x1024, .f32⟩
  | .hbm, ⟨9, _⟩ => ⟨S1024x2048, .bf16⟩
  | .hbm, ⟨10, _⟩ => ⟨S16x128x128, .f32⟩
  | .hbm, ⟨11, _⟩ => ⟨S16x128x128, .bf16⟩
  | .hbm, ⟨12, _⟩ => ⟨S32768x1024, .f32⟩
  | .hbm, ⟨13, _⟩ => ⟨S1024x32768, .bf16⟩
  | .hbm, ⟨14, _⟩ => ⟨S16x128x32768, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2048, .bf16⟩
  | .local _ .vmem, ⟨9, _⟩ => ⟨S16x128x128, .bf16⟩
  | .local _ .vmem, ⟨10, _⟩ => ⟨S256x1024, .f32⟩
  | .local _ .vmem, ⟨11, _⟩ => ⟨S256x1024, .f32⟩
  | .local _ .vmem, ⟨12, _⟩ => ⟨S1024x256, .bf16⟩
  | .local _ .vmem, ⟨13, _⟩ => ⟨S1024x256, .bf16⟩
  | .local _ .vmem, ⟨14, _⟩ => ⟨S16x128x256, .f32⟩
  | .local _ .vmem, ⟨15, _⟩ => ⟨S16x128x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩
abbrev S32768x8x2x128 : Shape := ⟨4, ![32768, 8, 2, 128]⟩
abbrev S8x2x128x32768 : Shape := ⟨4, ![8, 2, 128, 32768]⟩
abbrev S1024x32768 : Shape := ⟨2, ![1024, 32768]⟩
abbrev S16x128x32768 : Shape := ⟨3, ![16, 128, 32768]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x2x128x128, .f32⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x2048, .f32⟩
  | .hbm, ⟨28, _⟩ => ⟨S32768x8x2x128, .f32⟩
  | .hbm, ⟨29, _⟩ => ⟨S8x2x128x32768, .f32⟩
  | .hbm, ⟨30, _⟩ => ⟨S32768x8x2x128, .f32⟩
  | .hbm, ⟨31, _⟩ => ⟨S1024x32768, .f32⟩
  | .hbm, ⟨32, _⟩ => ⟨S1024x32768, .bf16⟩
  | .hbm, ⟨33, _⟩ => ⟨S8x2x128x32768, .f32⟩
  | .hbm, ⟨34, _⟩ => ⟨S16x128x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.BodyIdeal.lean ====
/-
The body of the program `KernelIdeal`, run once at a grid point over any contents of its buffers: what it leaves in the output blocks and
in the scratch buffers, as functions of the input blocks.
-/
module

public import proofs.«01_k».proof.Proof.Gen.KernelIdeal.Frame
public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The test the diagonal bias is refilled under: the query block is the head's first. -/
abbrev C1 (i : grid0.Coords) : Prop :=
  Scalar.cmpi .ne (Scalar.extui (Scalar.cmpi .eq (BitVec.ofNat 32 (i 2).val) 0#32) : BitVec 32) 0#32 = 1#1

/-- Row `i 1` of the slope table: the slope, then its three pieces. -/
def tabA (x3 : Vec F S4x4 .f32) (i : grid0.Coords) : Elt F .f32 :=
  View.ld x3 (Rect.unit (s := S4x4) (k0_off1 i) S1x1.size (k0_off1_inb i)) (Shape.Idx.first Nat.one_pos)
def tabB (x3 : Vec F S4x4 .f32) (i : grid0.Coords) : Elt F .f32 :=
  View.ld x3 (Rect.unit (s := S4x4) (k0_off2 i) S1x1.size (k0_off2_inb i)) (Shape.Idx.first Nat.one_pos)
def tabC (x3 : Vec F S4x4 .f32) (i : grid0.Coords) : Elt F .f32 :=
  View.ld x3 (Rect.unit (s := S4x4) (k0_off3 i) S1x1.size (k0_off3_inb i)) (Shape.Idx.first Nat.one_pos)
def tabD (x3 : Vec F S4x4 .f32) (i : grid0.Coords) : Elt F .f32 :=
  View.ld x3 (Rect.unit (s := S4x4) (k0_off4 i) S1x1.size (k0_off4_inb i)) (Shape.Idx.first Nat.one_pos)

/-- The lane number of each entry of a block of queries. -/
abbrev lanes : IVec S512x128 32 := iota .tc S512x128 32 [1] iota_S512x128_d1_w32

/-- The bias of the diagonal block, from the slope. -/
def diagBias (a : Elt F .f32) : Vec F S1024x512 .f32 :=
  k0_pay19 a k0_pay2 (iota .tc S1024x512 32 [1] iota_S1024x512_d1_w32) k0_pay3 k0_pay4 k0_pay5 k0_pay6 0#32

/-- What the block leaves of the bounds. -/
def boundOut (x4 : Vec F S1x1x512x128 .bf16) (x9 : Vec F S1x1x128 .f32) : Vec F S1x1x1x8x128 .f32 :=
  k0_pay27 (k0_pay26 x4 x9)

/-- The block's queries for the first half of the lanes, with the extra lanes filled. -/
def queryA (x3 : Vec F S4x4 .f32) (i : grid0.Coords) (x4 : Vec F S1x1x512x128 .bf16) (x9 : Vec F S1x1x128 .f32) : FVec F S512x128 .bf16 :=
  k0_pay38 (k0_pay20 x4) lanes k0_pay21 (k0_pay34 (tabA x3 i) (k0_pay24 x4 x9)) (k0_pay35 (tabA x3 i) (k0_pay24 x4 x9))
    (tabB x3 i) (tabC x3 i) (tabD x3 i) (k0_pay36 (tabA x3 i) lanes (k0_pay24 x4 x9)) k0_pay37

/-- The same for the second half. -/
def queryB (x3 : Vec F S4x4 .f32) (i : grid0.Coords) (x4 : Vec F S1x1x512x128 .bf16) (x9 : Vec F S1x1x128 .f32) : FVec F S512x128 .bf16 :=
  k0_pay47 (k0_pay20 x4) lanes k0_pay21 (k0_pay43 (tabA x3 i) (k0_pay25 x4 x9) k0_pay28) (tabB x3 i) (tabC x3 i) (tabD x3 i)
    (k0_pay44 (tabA x3 i) lanes (k0_pay25 x4 x9) k0_pay28) (k0_pay45 lanes) (k0_pay46 (tabA x3 i) (k0_pay25 x4 x9) k0_pay28)

/-! The words the key blocks are counted by, at a grid point. -/
def w51 (i : grid0.Coords) : BitVec 32 := Scalar.addi 0#32 (Scalar.muli (BitVec.ofNat 32 (i 2).val) 512#32)
def w163 (i : grid0.Coords) : BitVec 32 :=
  Scalar.select
    (Scalar.andi
      (Scalar.cmpi .ne
        (Scalar.subi (Scalar.extui (Scalar.cmpi .sgt (w51 i) 0#32)) (Scalar.extui (Scalar.cmpi .slt (w51 i) 0#32)))
        (Scalar.subi (Scalar.extui (Scalar.cmpi .sgt 512#32 0#32)) (Scalar.extui (Scalar.cmpi .slt 512#32 0#32)) : BitVec 32))
      (Scalar.cmpi .ne (Scalar.remsi (w51 i) 512#32) 0#32))
    (Scalar.subi (Scalar.divsi (w51 i) 512#32) 1#32) (Scalar.divsi (w51 i) 512#32)
def w164 (i : grid0.Coords) : BitVec 32 := Scalar.divsi (w163 i) 2#32
def w169 (i : grid0.Coords) : BitVec 32 :=
  Scalar.subi (Scalar.extui (Scalar.cmpi .sgt (w163 i) 0#32)) (Scalar.extui (Scalar.cmpi .slt (w163 i) 0#32))
abbrev w180 (i : grid0.Coords) : BitVec 32 :=
  Scalar.select
    (Scalar.andi
      (Scalar.cmpi .ne (w169 i)
        (Scalar.subi (Scalar.extui (Scalar.cmpi .sgt 2#32 0#32)) (Scalar.extui (Scalar.cmpi .slt 2#32 0#32)) : BitVec 32))
      (Scalar.cmpi .ne (Scalar.remsi (w163 i) 2#32) 0#32))
    (Scalar.subi (w164 i) 1#32) (w164 i)

/-- There is a block of 1024 past keys. -/
abbrev C2 (i : grid0.Coords) : Prop := Scalar.cmpi .ne (Scalar.extui (Scalar.cmpi .sgt (w180 i) 0#32) : BitVec 32) 0#32 = 1#1

/-- The word the second loop starts from. -/
def w196 (i : grid0.Coords) : BitVec 32 :=
  Scalar.addi 0#32 (Scalar.muli (Scalar.divsi (Scalar.subi (Scalar.subi (w180 i) 1#32) 0#32) 1#32) 1#32)

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

theorem ld4 (x : Vec F S1x1x512x128 .bf16) :
    View.ld x (Rect.unit (s := S1x1x512x128) ![0, 0, 0, 0] ![1, 1, 512, 128] inb_S1x1x512x128_S1x1x512x128_0_0_0_0) = x :=
  View.ld_unit_zero (S := S1x1x512x128) zero4 _ x
theorem ld9 (x : Vec F S1x1x128 .f32) :
    View.ld x (Rect.unit (s := S1x1x128) ![0, 0, 0] ![1, 1, 128] inb_S1x1x128_S1x1x128_0_0_0) = x :=
  View.ld_unit_zero (S := S1x1x128) zero3 _ x

/-! ### The past blocks -/

/-- What the pass keeps: the weighted sum, the sum of weights by lane, the block of scores made one step ahead. -/
abbrev St (F : FTy → Type) := Vec F S1024x128 .f32 × Vec F S1024x128 .f32 × Vec F S1024x1024 .f32

/-- The scores of the first block of 1024 keys. -/
def score0 (i : grid0.Coords) (a : Elt F .f32) (qA qB : FVec F S512x128 .bf16) (x5 : Vec F S1x1x16384x256 .bf16) : Vec F S1024x1024 .f32 :=
  k0_pay49 a (w51 i) qA qB
    (View.ld x5 (Rect.unit (s := S1x1x16384x256) ![0, 0, 0, 0] S1x1x1024x128.size inb_S1x1x16384x256_S1x1x1024x128_0_0_0_0))
    (View.ld x5 (Rect.unit (s := S1x1x16384x256) ![0, 0, 0, 128] S1x1x1024x128.size inb_S1x1x16384x256_S1x1x1024x128_0_0_0_128))

/-- One step of the pass: the scores of the next block are made, those of this one are used. -/
def tripSt (i : grid0.Coords) (a : Elt F .f32) (qA qB : FVec F S512x128 .bf16) (x5 : Vec F S1x1x16384x256 .bf16) (x6 : Vec F S1x1x16384x128 .bf16)
    (k : Fin (k0_t1_loop i).trips) (st : St F) : St F :=
  (k0_pay51 (k0_pay8 (View.ld x6 (Rect.unit (s := S1x1x16384x128) (k0_off7 i k) S1x1x1024x128.size (k0_off7_inb i k)))) (k0_pay9 st.2.2) st.1,
   k0_pay50 (k0_pay10 st.2.2) st.2.1,
   k0_pay52 (k0_pay7 i a (w51 i) qA qB (k0_pay48 a) 0#32 1#32 k
    (View.ld x5 (Rect.unit (s := S1x1x16384x256) (k0_off5 i k) S1x1x1024x128.size (k0_off5_inb i k)))
    (View.ld x5 (Rect.unit (s := S1x1x16384x256) (k0_off6 i k) S1x1x1024x128.size (k0_off6_inb i k)))))

/-- The first `n` steps of the pass. -/
def runSt (i : grid0.Coords) (a : Elt F .f32) (qA qB : FVec F S512x128 .bf16) (x5 : Vec F S1x1x16384x256 .bf16) (x6 : Vec F S1x1x16384x128 .bf16)
    (st : St F) : ℕ → St F
  | 0 => st
  | n + 1 => if h : n < (k0_t1_loop i).trips then tripSt i a qA qB x5 x6 ⟨n, h⟩ (runSt i a qA qB x5 x6 st n) else runSt i a qA qB x5 x6 st n

theorem runSt_succ (i : grid0.Coords) (a : Elt F .f32) (qA qB : FVec F S512x128 .bf16) (x5 : Vec F S1x1x16384x256 .bf16) (x6 : Vec F S1x1x16384x128 .bf16)
    (st : St F) (k : Fin (k0_t1_loop i).trips) :
    runSt i a qA qB x5 x6 st (k.val + 1) = tripSt i a qA qB x5 x6 k (runSt i a qA qB x5 x6 st k.val) := by
  show (if h : k.val < (k0_t1_loop i).trips then _ else _) = _
  rw [dif_pos k.isLt]

/-- The second loop never runs: it starts where it ends. -/
theorem trips2 : ∀ i : grid0.Coords, (k0_t2_loop i).trips = 0 := by
  have h : ∀ q : Fin 32, ∀ i : grid0.Coords, (i 2).val = q.val → (k0_t2_loop i).trips = 0 := by
    intro q i hi
    unfold k0_t2_loop
    simp only [hi]
    clear hi i
    revert q
    decide +kernel
  exact fun i => h ⟨(i 2).val, (i 2).isLt⟩ i rfl

theorem ldT14 (x : Vec F S1024x128 .f32) :
    View.ld x (Rect.unit (s := S1024x128) ![0, 0] ![1024, 128] inb_S1024x128_S1024x128_0_0) = x :=
  View.ld_unit_zero (S := S1024x128) zero2 _ x
theorem ldT17 (x : Vec F S1024x1024 .f32) :
    View.ld x (Rect.unit (s := S1024x1024) ![0, 0] ![1024, 1024] inb_S1024x1024_S1024x1024_0_0) = x :=
  View.ld_unit_zero (S := S1024x1024) zero2 _ x

set_option maxHeartbeats 1000000 in
/-- One step of the first loop. -/
theorem trip1 (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (a : Elt F .f32) (qA qB : FVec F S512x128 .bf16) (v163 c2 v164 v169 : BitVec 32) (x5 : Vec F S1x1x16384x256 .bf16) (x6 : Vec F S1x1x16384x128 .bf16) (st : St F)
    (k : Fin (k0_t1_loop i).trips) (r : BitVec 32) (K : BitVec 32 → sProp 𝕄) :
    iprop(owns (c : Thread nD τ) arg5 fullShare x5 ∗ owns (c : Thread nD τ) arg6 fullShare x6 ∗ owns (c : Thread nD τ) arg14 fullShare st.1 ∗ owns (c : Thread nD τ) arg15 fullShare st.2.1 ∗ owns (c : Thread nD τ) arg17 fullShare st.2.2 ∗
      (∀ r, iprop(owns (c : Thread nD τ) arg5 fullShare x5 ∗ owns (c : Thread nD τ) arg6 fullShare x6 ∗ owns (c : Thread nD τ) arg14 fullShare (tripSt i a qA qB x5 x6 k st).1 ∗ owns (c : Thread nD τ) arg15 fullShare (tripSt i a qA qB x5 x6 k st).2.1 ∗ owns (c : Thread nD τ) arg17 fullShare (tripSt i a qA qB x5 x6 k st).2.2) -∗ K r))
    ⊢ wp frame (wpE (defs₀ (F := F)) Variants.none (c : Thread nD τ) none) E (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 a (w51 i) qA qB v163 c2 v164 v169 k r) K := by
  unfold k0_t1_body
  simp only [k0_part2_eq_skeleton]; unfold k0_part2_skel
  obtain ⟨sa, sl, ss⟩ := st
  unfold owns
  iintro ⟨⟨%f5, %hf5, H5⟩, ⟨%f6, %hf6, H6⟩, ⟨%f14, %hf14, H14⟩, ⟨%f15, %hf15, H15⟩, ⟨%f17, %hf17, H17⟩, Hk⟩
  subst hf5 hf6
  dsimp only at hf14 hf15 hf17
  subst hf14 hf15 hf17
  sl_exec
  sl_step
  sl_unfold_words
  simp only [View.readAt_eq_ld, ldT14, ldT17]
  ispecialize Hk $$ %_
  iapply Hk
  isplitl [H5]
  · (iexists _; isplitr [H5]; swap; iexact H5; ipureintro; rfl)
  isplitl [H6]
  · (iexists _; isplitr [H6]; swap; iexact H6; ipureintro; rfl)
  isplitl [H14]
  · (iexists _; isplitr [H14]; swap; iexact H14; ipureintro; exact View.read_writes_full _ _ _ _ _)
  isplitl [H15]
  · (iexists _; isplitr [H15]; swap; iexact H15; ipureintro; exact View.read_writes_full _ _ _ _ _)
  (iexists _; isplitr [H17]; swap; iexact H17; ipureintro; exact View.read_writes_full _ _ _ _ _)

/-- The first loop, before the rest of the body. -/
theorem loop1 (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (a : Elt F .f32) (qA qB : FVec F S512x128 .bf16) (v163 c2 v164 v169 : BitVec 32) (x5 : Vec F S1x1x16384x256 .bf16) (x6 : Vec F S1x1x16384x128 .bf16) (st : St F)
    (r₀ : BitVec 32) (kk : BitVec 32 → Prog (TpuEff nD τ sig (Elt F) Λ₀ .tc) PUnit) (K : PUnit → sProp 𝕄) :
    iprop(owns (c : Thread nD τ) arg5 fullShare x5 ∗ owns (c : Thread nD τ) arg6 fullShare x6 ∗ owns (c : Thread nD τ) arg14 fullShare st.1 ∗ owns (c : Thread nD τ) arg15 fullShare st.2.1 ∗ owns (c : Thread nD τ) arg17 fullShare st.2.2 ∗
      (∀ r, iprop(owns (c : Thread nD τ) arg5 fullShare x5 ∗ owns (c : Thread nD τ) arg6 fullShare x6 ∗ owns (c : Thread nD τ) arg14 fullShare (runSt i a qA qB x5 x6 st (k0_t1_loop i).trips).1 ∗ owns (c : Thread nD τ) arg15 fullShare (runSt i a qA qB x5 x6 st (k0_t1_loop i).trips).2.1 ∗ owns (c : Thread nD τ) arg17 fullShare (runSt i a qA qB x5 x6 st (k0_t1_loop i).trips).2.2) -∗ wp frame (wpE (defs₀ (F := F)) Variants.none (c : Thread nD τ) none) E (kk r) K))
    ⊢ wp frame (wpE (defs₀ (F := F)) Variants.none (c : Thread nD τ) none) E (Scf.Loop.for (k0_t1_loop i) (k0_t1_ok i) r₀ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 a (w51 i) qA qB v163 c2 v164 v169) >>= kk) K := by
  iintro ⟨H5, H6, H14, H15, H17, Hk⟩
  iapply (Scf.wp_for_bind frame (wpE (defs₀ (F := F)) Variants.none (c : Thread nD τ) none) E _ _ _ (k0_t1_ok i) r₀
    (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 a (w51 i) qA qB v163 c2 v164 v169)
    (fun n _ => iprop(owns (c : Thread nD τ) arg5 fullShare x5 ∗ owns (c : Thread nD τ) arg6 fullShare x6 ∗ owns (c : Thread nD τ) arg14 fullShare (runSt i a qA qB x5 x6 st n).1 ∗ owns (c : Thread nD τ) arg15 fullShare (runSt i a qA qB x5 x6 st n).2.1 ∗ owns (c : Thread nD τ) arg17 fullShare (runSt i a qA qB x5 x6 st n).2.2)) (fun k acc => by
      rw [runSt_succ]
      iintro ⟨H5, H6, H14, H15, H17⟩
      iapply (trip1 c E i arg3 harg3 arg4 harg4 arg5 harg5 arg6 harg6 arg7 harg7 arg8 harg8 arg9 harg9 arg10 harg10 arg11 harg11 arg12 harg12 arg13 harg13 arg14 harg14 arg15 harg15 arg16 harg16 arg17 harg17 a qA qB v163 c2 v164 v169 x5 x6 _ k acc _)
      isplitl [H5]; iexact H5
      isplitl [H6]; iexact H6
      isplitl [H14]; iexact H14
      isplitl [H15]; iexact H15
      isplitl [H17]; iexact H17
      iintro %r H; iexact H)) $$ [H5 H6 H14 H15 H17]
  · isplitl [H5]; iexact H5
    isplitl [H6]; iexact H6
    isplitl [H14]; iexact H14
    isplitl [H15]; iexact H15
    iexact H17
  iintro %acc H
  iapply Hk; iexact H

/-- The second loop makes no step. -/
theorem loop2 (c : Dev nD) (E : Set ℕ) (i : grid0.Coords) (r₀ : BitVec 32)
    (body : Fin (k0_t2_loop i).trips → BitVec 32 → Prog (TpuEff nD τ sig (Elt F) Λ₀ .tc) (BitVec 32))
    (kk : BitVec 32 → Prog (TpuEff nD τ sig (Elt F) Λ₀ .tc) PUnit) (K : PUnit → sProp 𝕄) :
    iprop(∀ r, wp frame (wpE (defs₀ (F := F)) Variants.none (c : Thread nD τ) none) E (kk r) K) ⊢ wp frame (wpE (defs₀ (F := F)) Variants.none (c : Thread nD τ) none) E (Scf.Loop.for (k0_t2_loop i) (k0_t2_ok i) r₀ body >>= kk) K := by
  iintro Hk
  iapply (Scf.wp_for_bind frame (wpE (defs₀ (F := F)) Variants.none (c : Thread nD τ) none) E _ _ _ (k0_t2_ok i) r₀ body
    (fun n _ => iprop(⌜True⌝)) (fun k acc => absurd (lt_of_lt_of_eq k.isLt (trips2 i)) (Nat.not_lt_zero _))) $$ []
  · ipureintro; trivial
  iintro %acc -
  iapply Hk

set_option maxHeartbeats 1000000 in
/-- The scores of the first block are made before the first step. -/
theorem first (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (a : Elt F .f32) (qA qB : FVec F S512x128 .bf16) (x5 : Vec F S1x1x16384x256 .bf16) (x17 : Vec F S1024x1024 .f32)
    (kk : Prog (TpuEff nD τ sig (Elt F) Λ₀ .tc) PUnit) (K : PUnit → sProp 𝕄) :
    iprop(owns (c : Thread nD τ) arg5 fullShare x5 ∗ owns (c : Thread nD τ) arg17 fullShare x17 ∗ (iprop(owns (c : Thread nD τ) arg5 fullShare x5 ∗ owns (c : Thread nD τ) arg17 fullShare (score0 i a qA qB x5)) -∗ wp frame (wpE (defs₀ (F := F)) Variants.none (c : Thread nD τ) none) E kk K))
    ⊢ wp frame (wpE (defs₀ (F := F)) Variants.none (c : Thread nD τ) none) E (do
    let v285 : Vec F S1x1x1024x128 .bf16 ← Prog.lift (.load arg5 (Rect.unit (s := S1x1x16384x256) ![0, 0, 0, 0] S1x1x1024x128.size inb_S1x1x16384x256_S1x1x1024x128_0_0_0_0).toLoadRect (View.loadsAt_vmem h_S1x1x1024x128))
    let v288 : Vec F S1x1x1024x128 .bf16 ← Prog.lift (.load arg5 (Rect.unit (s := S1x1x16384x256) ![0, 0, 0, 128] S1x1x1024x128.size inb_S1x1x16384x256_S1x1x1024x128_0_0_0_128).toLoadRect (View.loadsAt_vmem h_S1x1x1024x128))
    let v299 : Vec F S1024x1024 .f32 ← Prog.lift (.load arg17 (Rect.unit (s := S1024x1024) ![0, 0] S1024x1024.size inb_S1024x1024_S1024x1024_0_0).toLoadRect (View.loadsAt_vmem h_S1024x1024))
    Prog.lift (.store arg17 (Rect.unit (s := S1024x1024) ![0, 0] S1024x1024.size inb_S1024x1024_S1024x1024_0_0) (k0_pay49 a (w51 i) qA qB v285 v288) Finset.univ (View.stores_vmem_bits_univ h_S1024x1024 rfl) (.inl rfl))
    kk) K := by
  unfold owns
  iintro ⟨⟨%f5, %hf5, H5⟩, ⟨%f17, %hf17, H17⟩, Hk⟩
  subst hf5
  sl_exec
  sl_unfold_words
  simp only [View.readAt_eq_ld]
  iapply Hk
  isplitl [H5]
  · (iexists _; isplitr [H5]; swap; iexact H5; ipureintro; rfl)
  (iexists _; isplitr [H17]; swap; iexact H17; ipureintro; exact View.read_writes_full _ _ _ _ _)

/-- The whole pass over the blocks of 1024 past keys: the weighted sum and the sums of weights. -/
def wide (i : grid0.Coords) (a : Elt F .f32) (qA qB : FVec F S512x128 .bf16) (x5 : Vec F S1x1x16384x256 .bf16) (x6 : Vec F S1x1x16384x128 .bf16) :
    Vec F S1024x128 .f32 × Vec F S1024x128 .f32 :=
  if h : k0_cond3 i = 1#1 then
    let st := runSt i a qA qB x5 x6 (k0_pay29, k0_pay30, score0 i a qA qB x5) (k0_t1_loop i).trips
    (k0_pay58 st.2.2 (View.ld x6 (Rect.unit (s := S1x1x16384x128) (k0_off11 i) S1x1x1024x128.size (k0_off11_inb i h))) st.1,
     k0_pay57 st.2.2 st.2.1)
  else (k0_pay29, k0_pay30)

/-- The same after the block of 512 keys left over before the diagonal. -/
def past (i : grid0.Coords) (a : Elt F .f32) (qA qB : FVec F S512x128 .bf16) (x5 : Vec F S1x1x16384x256 .bf16) (x6 : Vec F S1x1x16384x128 .bf16) :
    Vec F S1024x128 .f32 × Vec F S1024x128 .f32 :=
  if h : k0_cond4 i = 1#1 then
    (k0_pay59 (k0_pay15 (View.ld x6 (Rect.unit (s := S1x1x16384x128) (k0_off14 i) S1x1x512x128.size (k0_off14_inb i h))))
      (wide i a qA qB x5 x6).1
      (k0_pay18 a (w51 i) qA qB (w163 i) (k0_pay48 a)
        (View.ld x5 (Rect.unit (s := S1x1x16384x256) (k0_off12 i) S1x1x512x128.size (k0_off12_inb i h)))
        (View.ld x5 (Rect.unit (s := S1x1x16384x256) (k0_off13 i) S1x1x512x128.size (k0_off13_inb i h))))
      (constant S1024x128 .f32 0x00000000#32),
     k0_pay17 a (w51 i) qA qB (w163 i) (k0_pay48 a)
        (View.ld x5 (Rect.unit (s := S1x1x16384x256) (k0_off12 i) S1x1x512x128.size (k0_off12_inb i h)))
        (View.ld x5 (Rect.unit (s := S1x1x16384x256) (k0_off13 i) S1x1x512x128.size (k0_off13_inb i h)))
        (wide i a qA qB x5 x6).2)
  else wide i a qA qB x5 x6

theorem cond23 : ∀ i : grid0.Coords, C2 i ↔ k0_cond3 i = 1#1 := by
  have h : ∀ q : Fin 32, ∀ i : grid0.Coords, (i 2).val = q.val → (C2 i ↔ k0_cond3 i = 1#1) := by
    intro q i hi
    unfold C2 k0_cond3 w180 w169 w164 w163 w51
    simp only [hi]
  exact fun i => h ⟨(i 2).val, (i 2).isLt⟩ i rfl

theorem trips1 : ∀ i : grid0.Coords, ¬ k0_cond3 i = 1#1 → (k0_t1_loop i).trips = 0 := by
  have h : ∀ q : Fin 32, ∀ i : grid0.Coords, (i 2).val = q.val → ¬ k0_cond3 i = 1#1 → (k0_t1_loop i).trips = 0 := by
    intro q i hi
    unfold k0_cond3 k0_t1_loop
    simp only [hi]
    clear hi i
    revert q
    decide +kernel
  exact fun i => h ⟨(i 2).val, (i 2).isLt⟩ i rfl

theorem rcT14 {κ : Kind} {sp : Space} (v : View sig κ sp S1024x128 .f32) (w : Vec F S1024x128 .f32) (L : List (View.Piece (Elt F) S1024x128 .f32)) :
    v.readCov (⟨Rect.unit (s := S1024x128) ![0, 0] ![1024, 128] inb_S1024x128_S1024x128_0_0, w⟩ :: L)
      (Rect.unit (s := S1024x128) ![0, 0] ![1024, 128] inb_S1024x128_S1024x128_0_0).toLoadRect = w :=
  View.readCov_full (s := S1024x128) v inb_S1024x128_S1024x128_0_0 inb_S1024x128_S1024x128_0_0 w L

set_option maxHeartbeats 1000000 in
theorem part9_pos_pos (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (a : Elt F .f32) (qA qB : FVec F S512x128 .bf16) (x5 : Vec F S1x1x16384x256 .bf16) (x6 : Vec F S1x1x16384x128 .bf16) (h3 : k0_cond3 i = 1#1) (h4 : k0_cond4 i = 1#1)
    (kk : PUnit → Prog (TpuEff nD τ sig (Elt F) Λ₀ .tc) PUnit) (K : PUnit → sProp 𝕄) :
    iprop(owns (c : Thread nD τ) arg5 fullShare x5 ∗ owns (c : Thread nD τ) arg6 fullShare x6 ∗ owns (c : Thread nD τ) arg14 fullShare k0_pay29 ∗ owns (c : Thread nD τ) arg15 fullShare k0_pay30 ∗ (∃ d, owns (c : Thread nD τ) arg17 fullShare d) ∗
      (iprop(owns (c : Thread nD τ) arg5 fullShare x5 ∗ owns (c : Thread nD τ) arg6 fullShare x6 ∗ owns (c : Thread nD τ) arg14 fullShare (past i a qA qB x5 x6).1 ∗ owns (c : Thread nD τ) arg15 fullShare (past i a qA qB x5 x6).2 ∗ (∃ d, owns (c : Thread nD τ) arg17 fullShare d)) -∗ wp frame (wpE (defs₀ (F := F)) Variants.none (c : Thread nD τ) none) E (kk ⟨⟩) K))
    ⊢ wp frame (wpE (defs₀ (F := F)) Variants.none (c : Thread nD τ) none) E (k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 a (w51 i) qA qB (w163 i) 2#32 (w164 i) (w169 i) >>= kk) K := by
  have h2 : C2 i := (cond23 i).mpr h3
  simp only [k0_part9_eq_skeleton]; unfold k0_part9_skel
  simp only [dif_pos h2, dif_pos h3, dif_pos h4, k0_part4_eq_skeleton, bind_assoc, pure_bind]
  unfold k0_part4_skel
  iintro ⟨H5, H6, H14, H15, ⟨%x17, H17⟩, Hk⟩
  iapply (first c E i arg3 harg3 arg4 harg4 arg5 harg5 arg6 harg6 arg7 harg7 arg8 harg8 arg9 harg9 arg10 harg10 arg11 harg11 arg12 harg12 arg13 harg13 arg14 harg14 arg15 harg15 arg16 harg16 arg17 harg17 a qA qB x5 x17 _ _)
  isplitl [H5]; iexact H5
  isplitl [H17]; iexact H17
  iintro ⟨H5, H17⟩
  iapply (loop1 c E i arg3 harg3 arg4 harg4 arg5 harg5 arg6 harg6 arg7 harg7 arg8 harg8 arg9 harg9 arg10 harg10 arg11 harg11 arg12 harg12 arg13 harg13 arg14 harg14 arg15 harg15 arg16 harg16 arg17 harg17 a qA qB _ _ _ _ x5 x6 (k0_pay29, k0_pay30, score0 i a qA qB x5) _ _ _)
  isplitl [H5]; iexact H5
  isplitl [H6]; iexact H6
  isplitl [H14]; iexact H14
  isplitl [H15]; iexact H15
  isplitl [H17]; iexact H17
  unfold owns
  iintro %r ⟨⟨%g5, %hg5, H5⟩, ⟨%g6, %hg6, H6⟩, ⟨%g14, %hg14, H14⟩, ⟨%g15, %hg15, H15⟩, ⟨%g17, %hg17, H17⟩⟩
  iapply (loop2 c E i _ _ _ _)
  iintro %r2
  sl_exec
  sl_unfold_words
  simp only [View.readAt_eq_ld, rcT14, ldT14, ldT17, hg5, hg6, hg14, hg15, hg17]
  iapply Hk
  isplitl [H5]
  · (iexists _; isplitr [H5]; swap; iexact H5; ipureintro; exact hg5)
  isplitl [H6]
  · (iexists _; isplitr [H6]; swap; iexact H6; ipureintro; exact hg6)
  isplitl [H14]
  · (iexists _; isplitr [H14]; swap; iexact H14; ipureintro; refine (View.read_writes_full _ _ _ _ _).trans ?_; unfold past wide; simp only [dif_pos h4, dif_pos h3] <;> first | rfl | exact congrArg (fun z => k0_pay59 _ z _ _) (View.readCov_full (s := S1024x128) _ _ _ _ _))
  isplitl [H15]
  · (iexists _; isplitr [H15]; swap; iexact H15; ipureintro; refine (View.read_writes_full _ _ _ _ _).trans ?_; unfold past wide; simp only [dif_pos h4, dif_pos h3] <;> first | rfl | exact congrArg (k0_pay17 _ _ _ _ _ _ _ _) (View.readCov_full (s := S1024x128) _ _ _ _ _))
  iexists _; (iexists _; isplitr [H17]; swap; iexact H17; ipureintro; rfl)

set_option maxHeartbeats 1000000 in
theorem part9_pos_neg (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (a : Elt F .f32) (qA qB : FVec F S512x128 .bf16) (x5 : Vec F S1x1x16384x256 .bf16) (x6 : Vec F S1x1x16384x128 .bf16) (h3 : k0_cond3 i = 1#1) (h4 : ¬ k0_cond4 i = 1#1)
    (kk : PUnit → Prog (TpuEff nD τ sig (Elt F) Λ₀ .tc) PUnit) (K : PUnit → sProp 𝕄) :
    iprop(owns (c : Thread nD τ) arg5 fullShare x5 ∗ owns (c : Thread nD τ) arg6 fullShare x6 ∗ owns (c : Thread nD τ) arg14 fullShare k0_pay29 ∗ owns (c : Thread nD τ) arg15 fullShare k0_pay30 ∗ (∃ d, owns (c : Thread nD τ) arg17 fullShare d) ∗
      (iprop(owns (c : Thread nD τ) arg5 fullShare x5 ∗ owns (c : Thread nD τ) arg6 fullShare x6 ∗ owns (c : Thread nD τ) arg14 fullShare (past i a qA qB x5 x6).1 ∗ owns (c : Thread nD τ) arg15 fullShare (past i a qA qB x5 x6).2 ∗ (∃ d, owns (c : Thread nD τ) arg17 fullShare d)) -∗ wp frame (wpE (defs₀ (F := F)) Variants.none (c : Thread nD τ) none) E (kk ⟨⟩) K))
    ⊢ wp frame (wpE (defs₀ (F := F)) Variants.none (c : Thread nD τ) none) E (k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 a (w51 i) qA qB (w163 i) 2#32 (w164 i) (w169 i) >>= kk) K := by
  have h2 : C2 i := (cond23 i).mpr h3
  simp only [k0_part9_eq_skeleton]; unfold k0_part9_skel
  simp only [dif_pos h2, dif_pos h3, dif_neg h4, bind_assoc, pure_bind]

  iintro ⟨H5, H6, H14, H15, ⟨%x17, H17⟩, Hk⟩
  iapply (first c E i arg3 harg3 arg4 harg4 arg5 harg5 arg6 harg6 arg7 harg7 arg8 harg8 arg9 harg9 arg10 harg10 arg11 harg11 arg12 harg12 arg13 harg13 arg14 harg14 arg15 harg15 arg16 harg16 arg17 harg17 a qA qB x5 x17 _ _)
  isplitl [H5]; iexact H5
  isplitl [H17]; iexact H17
  iintro ⟨H5, H17⟩
  iapply (loop1 c E i arg3 harg3 arg4 harg4 arg5 harg5 arg6 harg6 arg7 harg7 arg8 harg8 arg9 harg9 arg10 harg10 arg11 harg11 arg12 harg12 arg13 harg13 arg14 harg14 arg15 harg15 arg16 harg16 arg17 harg17 a qA qB _ _ _ _ x5 x6 (k0_pay29, k0_pay30, score0 i a qA qB x5) _ _ _)
  isplitl [H5]; iexact H5
  isplitl [H6]; iexact H6
  isplitl [H14]; iexact H14
  isplitl [H15]; iexact H15
  isplitl [H17]; iexact H17
  unfold owns
  iintro %r ⟨⟨%g5, %hg5, H5⟩, ⟨%g6, %hg6, H6⟩, ⟨%g14, %hg14, H14⟩, ⟨%g15, %hg15, H15⟩, ⟨%g17, %hg17, H17⟩⟩
  iapply (loop2 c E i _ _ _ _)
  iintro %r2
  sl_exec
  sl_unfold_words
  simp only [View.readAt_eq_ld, rcT14, ldT14, ldT17, hg5, hg6, hg14, hg15, hg17]
  iapply Hk
  isplitl [H5]
  · (iexists _; isplitr [H5]; swap; iexact H5; ipureintro; exact hg5)
  isplitl [H6]
  · (iexists _; isplitr [H6]; swap; iexact H6; ipureintro; exact hg6)
  isplitl [H14]
  · (iexists _; isplitr [H14]; swap; iexact H14; ipureintro; refine (View.read_writes_full _ _ _ _ _).trans ?_; unfold past wide; simp only [dif_neg h4, dif_pos h3] <;> first | rfl | exact congrArg (fun z => k0_pay59 _ z _ _) (View.readCov_full (s := S1024x128) _ _ _ _ _))
  isplitl [H15]
  · (iexists _; isplitr [H15]; swap; iexact H15; ipureintro; refine (View.read_writes_full _ _ _ _ _).trans ?_; unfold past wide; simp only [dif_neg h4, dif_pos h3] <;> first | rfl | exact congrArg (k0_pay17 _ _ _ _ _ _ _ _) (View.readCov_full (s := S1024x128) _ _ _ _ _))
  iexists _; (iexists _; isplitr [H17]; swap; iexact H17; ipureintro; rfl)

set_option maxHeartbeats 1000000 in
theorem part9_neg_pos (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (a : Elt F .f32) (qA qB : FVec F S512x128 .bf16) (x5 : Vec F S1x1x16384x256 .bf16) (x6 : Vec F S1x1x16384x128 .bf16) (h3 : ¬ k0_cond3 i = 1#1) (h4 : k0_cond4 i = 1#1)
    (kk : PUnit → Prog (TpuEff nD τ sig (Elt F) Λ₀ .tc) PUnit) (K : PUnit → sProp 𝕄) :
    iprop(owns (c : Thread nD τ) arg5 fullShare x5 ∗ owns (c : Thread nD τ) arg6 fullShare x6 ∗ owns (c : Thread nD τ) arg14 fullShare k0_pay29 ∗ owns (c : Thread nD τ) arg15 fullShare k0_pay30 ∗ (∃ d, owns (c : Thread nD τ) arg17 fullShare d) ∗
      (iprop(owns (c : Thread nD τ) arg5 fullShare x5 ∗ owns (c : Thread nD τ) arg6 fullShare x6 ∗ owns (c : Thread nD τ) arg14 fullShare (past i a qA qB x5 x6).1 ∗ owns (c : Thread nD τ) arg15 fullShare (past i a qA qB x5 x6).2 ∗ (∃ d, owns (c : Thread nD τ) arg17 fullShare d)) -∗ wp frame (wpE (defs₀ (F := F)) Variants.none (c : Thread nD τ) none) E (kk ⟨⟩) K))
    ⊢ wp frame (wpE (defs₀ (F := F)) Variants.none (c : Thread nD τ) none) E (k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 a (w51 i) qA qB (w163 i) 2#32 (w164 i) (w169 i) >>= kk) K := by
  have h2 : ¬ C2 i := fun h => h3 ((cond23 i).mp h)
  simp only [k0_part9_eq_skeleton]; unfold k0_part9_skel
  simp only [dif_neg h2, dif_neg h3, dif_pos h4, k0_part4_eq_skeleton, bind_assoc, pure_bind]
  unfold k0_part4_skel
  iintro ⟨H5, H6, H14, H15, ⟨%x17, H17⟩, Hk⟩
  iapply (loop1 c E i arg3 harg3 arg4 harg4 arg5 harg5 arg6 harg6 arg7 harg7 arg8 harg8 arg9 harg9 arg10 harg10 arg11 harg11 arg12 harg12 arg13 harg13 arg14 harg14 arg15 harg15 arg16 harg16 arg17 harg17 a qA qB _ _ _ _ x5 x6 (k0_pay29, k0_pay30, x17) _ _ _)
  isplitl [H5]; iexact H5
  isplitl [H6]; iexact H6
  isplitl [H14]; iexact H14
  isplitl [H15]; iexact H15
  isplitl [H17]; iexact H17
  unfold owns
  iintro %r ⟨⟨%g5, %hg5, H5⟩, ⟨%g6, %hg6, H6⟩, ⟨%g14, %hg14, H14⟩, ⟨%g15, %hg15, H15⟩, ⟨%g17, %hg17, H17⟩⟩
  iapply (loop2 c E i _ _ _ _)
  iintro %r2
  rw [trips1 i h3] at hg14 hg15 hg17
  simp only [runSt] at hg14 hg15 hg17
  sl_exec
  sl_unfold_words
  simp only [View.readAt_eq_ld, rcT14, ldT14, ldT17, hg5, hg6, hg14, hg15, hg17]
  iapply Hk
  isplitl [H5]
  · (iexists _; isplitr [H5]; swap; iexact H5; ipureintro; exact hg5)
  isplitl [H6]
  · (iexists _; isplitr [H6]; swap; iexact H6; ipureintro; exact hg6)
  isplitl [H14]
  · (iexists _; isplitr [H14]; swap; iexact H14; ipureintro; refine (View.read_writes_full _ _ _ _ _).trans ?_; unfold past wide; simp only [dif_pos h4, dif_neg h3] <;> first | rfl | exact congrArg (fun z => k0_pay59 _ z _ _) (View.readCov_full (s := S1024x128) _ _ _ _ _))
  isplitl [H15]
  · (iexists _; isplitr [H15]; swap; iexact H15; ipureintro; refine (View.read_writes_full _ _ _ _ _).trans ?_; unfold past wide; simp only [dif_pos h4, dif_neg h3] <;> first | rfl | exact congrArg (k0_pay17 _ _ _ _ _ _ _ _) (View.readCov_full (s := S1024x128) _ _ _ _ _))
  iexists _; (iexists _; isplitr [H17]; swap; iexact H17; ipureintro; rfl)

set_option maxHeartbeats 1000000 in
theorem part9_neg_neg (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (a : Elt F .f32) (qA qB : FVec F S512x128 .bf16) (x5 : Vec F S1x1x16384x256 .bf16) (x6 : Vec F S1x1x16384x128 .bf16) (h3 : ¬ k0_cond3 i = 1#1) (h4 : ¬ k0_cond4 i = 1#1)
    (kk : PUnit → Prog (TpuEff nD τ sig (Elt F) Λ₀ .tc) PUnit) (K : PUnit → sProp 𝕄) :
    iprop(owns (c : Thread nD τ) arg5 fullShare x5 ∗ owns (c : Thread nD τ) arg6 fullShare x6 ∗ owns (c : Thread nD τ) arg14 fullShare k0_pay29 ∗ owns (c : Thread nD τ) arg15 fullShare k0_pay30 ∗ (∃ d, owns (c : Thread nD τ) arg17 fullShare d) ∗
      (iprop(owns (c : Thread nD τ) arg5 fullShare x5 ∗ owns (c : Thread nD τ) arg6 fullShare x6 ∗ owns (c : Thread nD τ) arg14 fullShare (past i a qA qB x5 x6).1 ∗ owns (c : Thread nD τ) arg15 fullShare (past i a qA qB x5 x6).2 ∗ (∃ d, owns (c : Thread nD τ) arg17 fullShare d)) -∗ wp frame (wpE (defs₀ (F := F)) Variants.none (c : Thread nD τ) none) E (kk ⟨⟩) K))
    ⊢ wp frame (wpE (defs₀ (F := F)) Variants.none (c : Thread nD τ) none) E (k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 a (w51 i) qA qB (w163 i) 2#32 (w164 i) (w169 i) >>= kk) K := by
  have h2 : ¬ C2 i := fun h => h3 ((cond23 i).mp h)
  simp only [k0_part9_eq_skeleton]; unfold k0_part9_skel
  simp only [dif_neg h2, dif_neg h3, dif_neg h4, bind_assoc, pure_bind]

  iintro ⟨H5, H6, H14, H15, ⟨%x17, H17⟩, Hk⟩
  iapply (loop1 c E i arg3 harg3 arg4 harg4 arg5 harg5 arg6 harg6 arg7 harg7 arg8 harg8 arg9 harg9 arg10 harg10 arg11 harg11 arg12 harg12 arg13 harg13 arg14 harg14 arg15 harg15 arg16 harg16 arg17 harg17 a qA qB _ _ _ _ x5 x6 (k0_pay29, k0_pay30, x17) _ _ _)
  isplitl [H5]; iexact H5
  isplitl [H6]; iexact H6
  isplitl [H14]; iexact H14
  isplitl [H15]; iexact H15
  isplitl [H17]; iexact H17
  unfold owns
  iintro %r ⟨⟨%g5, %hg5, H5⟩, ⟨%g6, %hg6, H6⟩, ⟨%g14, %hg14, H14⟩, ⟨%g15, %hg15, H15⟩, ⟨%g17, %hg17, H17⟩⟩
  iapply (loop2 c E i _ _ _ _)
  iintro %r2
  rw [trips1 i h3] at hg14 hg15 hg17
  simp only [runSt] at hg14 hg15 hg17
  iapply Hk
  isplitl [H5]
  · (iexists _; isplitr [H5]; swap; iexact H5; ipureintro; exact hg5)
  isplitl [H6]
  · (iexists _; isplitr [H6]; swap; iexact H6; ipureintro; exact hg6)
  isplitl [H14]
  · (iexists _; isplitr [H14]; swap; iexact H14; ipureintro; unfold past wide; simp only [dif_neg h4, dif_neg h3]; exact hg14)
  isplitl [H15]
  · (iexists _; isplitr [H15]; swap; iexact H15; ipureintro; unfold past wide; simp only [dif_neg h4, dif_neg h3]; exact hg15)
  iexists _; (iexists _; isplitr [H17]; swap; iexact H17; ipureintro; rfl)

/-- The output block from the queries, the blocks of keys and values, and the bias of the diagonal. -/
def outFrom (i : grid0.Coords) (a : Elt F .f32) (qA qB : FVec F S512x128 .bf16) (x5 : Vec F S1x1x16384x256 .bf16) (x6 : Vec F S1x1x16384x128 .bf16) (x7 : Vec F S1x1x512x256 .bf16) (x8 : Vec F S1x1x512x128 .bf16)
    (x10 : Vec F S4x64 .f32) (x11 : Vec F S1x128 .f32) (bd : Vec F S1024x512 .f32) : Vec F S1x512x128 .bf16 :=
  k0_pay1 (k0_pay64
    (k0_pay63 (k0_pay61 qA qB
      (View.ld x7 (Rect.unit (s := S1x1x512x256) ![0, 0, 0, 0] S1x1x512x128.size inb_S1x1x512x256_S1x1x512x128_0_0_0_0))
      (View.ld x7 (Rect.unit (s := S1x1x512x256) ![0, 0, 0, 128] S1x1x512x128.size inb_S1x1x512x256_S1x1x512x128_0_0_0_128))
      bd (past i a qA qB x5 x6).2))
    (k0_pay62 qA qB
      (View.ld x7 (Rect.unit (s := S1x1x512x256) ![0, 0, 0, 0] S1x1x512x128.size inb_S1x1x512x256_S1x1x512x128_0_0_0_0))
      (View.ld x7 (Rect.unit (s := S1x1x512x256) ![0, 0, 0, 128] S1x1x512x128.size inb_S1x1x512x256_S1x1x512x128_0_0_0_128))
      bd x8 (past i a qA qB x5 x6).1)
    x10 x11)

theorem ldT16 (x : Vec F S1024x512 .f32) :
    View.ld x (Rect.unit (s := S1024x512) ![0, 0] ![1024, 512] inb_S1024x512_S1024x512_0_0) = x :=
  View.ld_unit_zero (S := S1024x512) zero2 _ x
theorem ldT10 (x : Vec F S4x64 .f32) :
    View.ld x (Rect.unit (s := S4x64) ![0, 0] ![4, 64] inb_S4x64_S4x64_0_0) = x :=
  View.ld_unit_zero (S := S4x64) zero2 _ x
theorem ldT11 (x : Vec F S1x128 .f32) :
    View.ld x (Rect.unit (s := S1x128) ![0, 0] ![1, 128] inb_S1x128_S1x128_0_0) = x :=
  View.ld_unit_zero (S := S1x128) zero2 _ x

set_option maxHeartbeats 1000000 in
/-- The diagonal block, the quotient and the store. -/
theorem tail (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (a : Elt F .f32) (qA qB : FVec F S512x128 .bf16) (x5 : Vec F S1x1x16384x256 .bf16) (x6 : Vec F S1x1x16384x128 .bf16) (x7 : Vec F S1x1x512x256 .bf16) (x8 : Vec F S1x1x512x128 .bf16) (x10 : Vec F S4x64 .f32) (x11 : Vec F S1x128 .f32) (bd : Vec F S1024x512 .f32)
    (K : PUnit → sProp 𝕄) :
    iprop(owns (c : Thread nD τ) arg7 fullShare x7 ∗ owns (c : Thread nD τ) arg8 fullShare x8 ∗ owns (c : Thread nD τ) arg10 fullShare x10 ∗ owns (c : Thread nD τ) arg11 fullShare x11 ∗ (∃ d, owns (c : Thread nD τ) arg12 fullShare d) ∗ owns (c : Thread nD τ) arg14 fullShare (past i a qA qB x5 x6).1 ∗ owns (c : Thread nD τ) arg15 fullShare (past i a qA qB x5 x6).2 ∗ owns (c : Thread nD τ) arg16 fullShare bd ∗
      (iprop(owns (c : Thread nD τ) arg7 fullShare x7 ∗ owns (c : Thread nD τ) arg8 fullShare x8 ∗ owns (c : Thread nD τ) arg10 fullShare x10 ∗ owns (c : Thread nD τ) arg11 fullShare x11 ∗ owns (c : Thread nD τ) arg12 fullShare (outFrom i a qA qB x5 x6 x7 x8 x10 x11 bd) ∗ (∃ d, owns (c : Thread nD τ) arg14 fullShare d) ∗ (∃ d, owns (c : Thread nD τ) arg15 fullShare d) ∗ owns (c : Thread nD τ) arg16 fullShare bd) -∗ K ⟨⟩))
    ⊢ wp frame (wpE (defs₀ (F := F)) Variants.none (c : Thread nD τ) none) E (do
  let v239 : FVec F S1024x1 .f32 ← k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 qA qB
  let v281 : FVec F S512x128 .bf16 ← k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 v239
  Prog.lift (.store arg12 (Rect.unit (s := S1x512x128) ![0, 0, 0] S1x512x128.size inb_S1x512x128_S1x512x128_0_0_0) (k0_pay1 v281) Finset.univ (View.stores_vmem h_S1x512x128 (harg12.storeExact_slice rfl _ packedbf16_S1x512x128_S1x512x128_0_0_0) (fun _ => rfl)) (.inl rfl))
  pure ⟨⟩) K := by
  simp only [k0_part10_eq_skeleton, k0_part11_eq_skeleton]
  unfold k0_part10_skel k0_part11_skel outFrom
  generalize past i a qA qB x5 x6 = p
  obtain ⟨p1, p2⟩ := p
  unfold owns
  iintro ⟨⟨%f7, %hf7, H7⟩, ⟨%f8, %hf8, H8⟩, ⟨%f10, %hf10, H10⟩, ⟨%f11, %hf11, H11⟩, ⟨%d12, %f12, -, H12⟩, ⟨%f14, %hf14, H14⟩, ⟨%f15, %hf15, H15⟩, ⟨%f16, %hf16, H16⟩, Hk⟩
  dsimp only at hf14 hf15
  subst hf7 hf8 hf10 hf11 hf14 hf15 hf16
  sl_exec
  sl_step
  sl_unfold_words
  simp only [View.readAt_eq_ld, rcT14, ld4, ldT14, ldT16, ldT10, ldT11]
  iapply Hk
  isplitl [H7]
  · (iexists _; isplitr [H7]; swap; iexact H7; ipureintro; rfl)
  isplitl [H8]
  · (iexists _; isplitr [H8]; swap; iexact H8; ipureintro; rfl)
  isplitl [H10]
  · (iexists _; isplitr [H10]; swap; iexact H10; ipureintro; rfl)
  isplitl [H11]
  · (iexists _; isplitr [H11]; swap; iexact H11; ipureintro; rfl)
  isplitl [H12]
  · (iexists _; isplitr [H12]; swap; iexact H12; ipureintro; refine (View.read_writes_full _ _ _ _ _).trans ?_; exact rfl)
  isplitl [H14]
  · iexists _; (iexists _; isplitr [H14]; swap; iexact H14; ipureintro; rfl)
  isplitl [H15]
  · iexists _; (iexists _; isplitr [H15]; swap; iexact H15; ipureintro; rfl)
  (iexists _; isplitr [H16]; swap; iexact H16; ipureintro; rfl)

set_option maxHeartbeats 1000000 in
theorem prep_pos (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (x3 : Vec F S4x4 .f32) (x4 : Vec F S1x1x512x128 .bf16) (x9 : Vec F S1x1x128 .f32) (x16 : Vec F S1024x512 .f32) (h1 : C1 i) (K : PUnit → sProp 𝕄) (kk : Elt F .f32 → BitVec 32 → FVec F S512x128 .bf16 → FVec F S512x128 .bf16 → BitVec 32 → BitVec 32 → BitVec 32 → BitVec 32 → Prog (TpuEff nD τ sig (Elt F) Λ₀ .tc) PUnit) :
    iprop(owns (c : Thread nD τ) arg3 fullShare x3 ∗ owns (c : Thread nD τ) arg4 fullShare x4 ∗ owns (c : Thread nD τ) arg9 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗
      (iprop(owns (c : Thread nD τ) arg3 fullShare x3 ∗ owns (c : Thread nD τ) arg4 fullShare x4 ∗ owns (c : Thread nD τ) arg9 fullShare x9 ∗ owns (c : Thread nD τ) arg13 fullShare (boundOut x4 x9) ∗ owns (c : Thread nD τ) arg14 fullShare k0_pay29 ∗ owns (c : Thread nD τ) arg15 fullShare k0_pay30 ∗ owns (c : Thread nD τ) arg16 fullShare (diagBias (tabA x3 i))) -∗
        wp frame (wpE (defs₀ (F := F)) Variants.none (c : Thread nD τ) none) E (kk (tabA x3 i) (w51 i) (queryA x3 i x4 x9) (queryB x3 i x4 x9) (w163 i) 2#32 (w164 i) (w169 i)) K))
    ⊢ wp frame (wpE (defs₀ (F := F)) Variants.none (c : Thread nD τ) none) E (do
  let ⟨arg1, arg2, v1, v7, v8, v10, v21, v29, v36⟩ ← k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17
  let ⟨v41, v51, v61, v62, v64, v66, v68, v74, v75⟩ ← k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2 v1 v8 v21 v36
  let ⟨v98, v109, v111, v113, v115, v121, v123, v124⟩ ← k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v7 v8 v10 v29 v41 v61 v62 v64 v66 v68 v74 v75
  let ⟨v146, v163, c2_i32_42, v164, v169⟩ ← k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 v7 v8 v10 v51 v109 v111 v113 v115 v121 v123 v124
  kk v1 v51 v98 v146 v163 c2_i32_42 v164 v169) K := by
  simp only [k0_part5_eq_skeleton, k0_part6_eq_skeleton, k0_part7_eq_skeleton, k0_part8_eq_skeleton]
  unfold k0_part5_skel k0_part6_skel k0_part7_skel k0_part8_skel
  simp only [k0_part1_eq_skeleton]; unfold k0_part1_skel
  simp only [dif_pos h1]
  unfold owns
  iintro ⟨⟨%f3, %hf3, H3⟩, ⟨%f4, %hf4, H4⟩, ⟨%f9, %hf9, H9⟩, ⟨%d13, %f13, -, H13⟩, ⟨%d14, %f14, -, H14⟩, ⟨%d15, %f15, -, H15⟩, ⟨%d16, %f16, -, H16⟩, Hk⟩
  subst hf3 hf4 hf9
  sl_exec
  sl_unfold_words
  simp only [View.readAt_eq_ld]
  simp only [ld4, ld9]
  iapply Hk
  isplitl [H3]
  · (iexists _; isplitr [H3]; swap; iexact H3; ipureintro; rfl)
  isplitl [H4]
  · (iexists _; isplitr [H4]; swap; iexact H4; ipureintro; rfl)
  isplitl [H9]
  · (iexists _; isplitr [H9]; swap; iexact H9; ipureintro; rfl)
  isplitl [H13]
  · (iexists _; isplitr [H13]; swap; iexact H13; ipureintro; exact View.read_writes_full _ _ _ _ _)
  isplitl [H14]
  · (iexists _; isplitr [H14]; swap; iexact H14; ipureintro; exact View.read_writes_full _ _ _ _ _)
  isplitl [H15]
  · (iexists _; isplitr [H15]; swap; iexact H15; ipureintro; exact View.read_writes_full _ _ _ _ _)
  (iexists _; isplitr [H16]; swap; iexact H16; ipureintro; exact View.read_writes_full _ _ _ _ _)

set_option maxHeartbeats 1000000 in
theorem prep_neg (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (x3 : Vec F S4x4 .f32) (x4 : Vec F S1x1x512x128 .bf16) (x9 : Vec F S1x1x128 .f32) (x16 : Vec F S1024x512 .f32) (h1 : ¬ C1 i) (K : PUnit → sProp 𝕄) (kk : Elt F .f32 → BitVec 32 → FVec F S512x128 .bf16 → FVec F S512x128 .bf16 → BitVec 32 → BitVec 32 → BitVec 32 → BitVec 32 → Prog (TpuEff nD τ sig (Elt F) Λ₀ .tc) PUnit) :
    iprop(owns (c : Thread nD τ) arg3 fullShare x3 ∗ owns (c : Thread nD τ) arg4 fullShare x4 ∗ owns (c : Thread nD τ) arg9 fullShare x9 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗
      (iprop(owns (c : Thread nD τ) arg3 fullShare x3 ∗ owns (c : Thread nD τ) arg4 fullShare x4 ∗ owns (c : Thread nD τ) arg9 fullShare x9 ∗ owns (c : Thread nD τ) arg13 fullShare (boundOut x4 x9) ∗ owns (c : Thread nD τ) arg14 fullShare k0_pay29 ∗ owns (c : Thread nD τ) arg15 fullShare k0_pay30 ∗ owns (c : Thread nD τ) arg16 fullShare (x16)) -∗
        wp frame (wpE (defs₀ (F := F)) Variants.none (c : Thread nD τ) none) E (kk (tabA x3 i) (w51 i) (queryA x3 i x4 x9) (queryB x3 i x4 x9) (w163 i) 2#32 (w164 i) (w169 i)) K))
    ⊢ wp frame (wpE (defs₀ (F := F)) Variants.none (c : Thread nD τ) none) E (do
  let ⟨arg1, arg2, v1, v7, v8, v10, v21, v29, v36⟩ ← k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17
  let ⟨v41, v51, v61, v62, v64, v66, v68, v74, v75⟩ ← k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2 v1 v8 v21 v36
  let ⟨v98, v109, v111, v113, v115, v121, v123, v124⟩ ← k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v7 v8 v10 v29 v41 v61 v62 v64 v66 v68 v74 v75
  let ⟨v146, v163, c2_i32_42, v164, v169⟩ ← k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 v7 v8 v10 v51 v109 v111 v113 v115 v121 v123 v124
  kk v1 v51 v98 v146 v163 c2_i32_42 v164 v169) K := by
  simp only [k0_part5_eq_skeleton, k0_part6_eq_skeleton, k0_part7_eq_skeleton, k0_part8_eq_skeleton]
  unfold k0_part5_skel k0_part6_skel k0_part7_skel k0_part8_skel
  simp only [k0_part1_eq_skeleton]; unfold k0_part1_skel
  simp only [dif_neg h1]
  unfold owns
  iintro ⟨⟨%f3, %hf3, H3⟩, ⟨%f4, %hf4, H4⟩, ⟨%f9, %hf9, H9⟩, ⟨%d13, %f13, -, H13⟩, ⟨%d14, %f14, -, H14⟩, ⟨%d15, %f15, -, H15⟩, ⟨%f16, %hf16, H16⟩, Hk⟩
  subst hf3 hf4 hf9 hf16
  sl_exec
  sl_unfold_words
  simp only [View.readAt_eq_ld]
  simp only [ld4, ld9]
  iapply Hk
  isplitl [H3]
  · (iexists _; isplitr [H3]; swap; iexact H3; ipureintro; rfl)
  isplitl [H4]
  · (iexists _; isplitr [H4]; swap; iexact H4; ipureintro; rfl)
  isplitl [H9]
  · (iexists _; isplitr [H9]; swap; iexact H9; ipureintro; rfl)
  isplitl [H13]
  · (iexists _; isplitr [H13]; swap; iexact H13; ipureintro; exact View.read_writes_full _ _ _ _ _)
  isplitl [H14]
  · (iexists _; isplitr [H14]; swap; iexact H14; ipureintro; exact View.read_writes_full _ _ _ _ _)
  isplitl [H15]
  · (iexists _; isplitr [H15]; swap; iexact H15; ipureintro; exact View.read_writes_full _ _ _ _ _)
  (iexists _; isplitr [H16]; swap; iexact H16; ipureintro; rfl)

/-- The pass over the past keys, whichever of its parts run. -/
theorem part9 (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (a : Elt F .f32) (qA qB : FVec F S512x128 .bf16) (x5 : Vec F S1x1x16384x256 .bf16) (x6 : Vec F S1x1x16384x128 .bf16)
    (kk : PUnit → Prog (TpuEff nD τ sig (Elt F) Λ₀ .tc) PUnit) (K : PUnit → sProp 𝕄) :
    iprop(owns (c : Thread nD τ) arg5 fullShare x5 ∗ owns (c : Thread nD τ) arg6 fullShare x6 ∗ owns (c : Thread nD τ) arg14 fullShare k0_pay29 ∗ owns (c : Thread nD τ) arg15 fullShare k0_pay30 ∗ (∃ d, owns (c : Thread nD τ) arg17 fullShare d) ∗
      (iprop(owns (c : Thread nD τ) arg5 fullShare x5 ∗ owns (c : Thread nD τ) arg6 fullShare x6 ∗ owns (c : Thread nD τ) arg14 fullShare (past i a qA qB x5 x6).1 ∗ owns (c : Thread nD τ) arg15 fullShare (past i a qA qB x5 x6).2 ∗ (∃ d, owns (c : Thread nD τ) arg17 fullShare d)) -∗ wp frame (wpE (defs₀ (F := F)) Variants.none (c : Thread nD τ) none) E (kk ⟨⟩) K))
    ⊢ wp frame (wpE (defs₀ (F := F)) Variants.none (c : Thread nD τ) none) E (k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 a (w51 i) qA qB (w163 i) 2#32 (w164 i) (w169 i) >>= kk) K := by
  by_cases h3 : k0_cond3 i = 1#1 <;> by_cases h4 : k0_cond4 i = 1#1
  · exact part9_pos_pos c E i arg3 harg3 arg4 harg4 arg5 harg5 arg6 harg6 arg7 harg7 arg8 harg8 arg9 harg9 arg10 harg10 arg11 harg11 arg12 harg12 arg13 harg13 arg14 harg14 arg15 harg15 arg16 harg16 arg17 harg17 a qA qB x5 x6 h3 h4 kk K
  · exact part9_pos_neg c E i arg3 harg3 arg4 harg4 arg5 harg5 arg6 harg6 arg7 harg7 arg8 harg8 arg9 harg9 arg10 harg10 arg11 harg11 arg12 harg12 arg13 harg13 arg14 harg14 arg15 harg15 arg16 harg16 arg17 harg17 a qA qB x5 x6 h3 h4 kk K
  · exact part9_neg_pos c E i arg3 harg3 arg4 harg4 arg5 harg5 arg6 harg6 arg7 harg7 arg8 harg8 arg9 harg9 arg10 harg10 arg11 harg11 arg12 harg12 arg13 harg13 arg14 harg14 arg15 harg15 arg16 harg16 arg17 harg17 a qA qB x5 x6 h3 h4 kk K
  · exact part9_neg_neg c E i arg3 harg3 arg4 harg4 arg5 harg5 arg6 harg6 arg7 harg7 arg8 harg8 arg9 harg9 arg10 harg10 arg11 harg11 arg12 harg12 arg13 harg13 arg14 harg14 arg15 harg15 arg16 harg16 arg17 harg17 a qA qB x5 x6 h3 h4 kk K

/-- The bias of the diagonal is there after the first part of the body, refilled or kept. -/
theorem prep (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (x3 : Vec F S4x4 .f32) (x4 : Vec F S1x1x512x128 .bf16) (x9 : Vec F S1x1x128 .f32) (K : PUnit → sProp 𝕄) (kk : Elt F .f32 → BitVec 32 → FVec F S512x128 .bf16 → FVec F S512x128 .bf16 → BitVec 32 → BitVec 32 → BitVec 32 → BitVec 32 → Prog (TpuEff nD τ sig (Elt F) Λ₀ .tc) PUnit) :
    iprop(owns (c : Thread nD τ) arg3 fullShare x3 ∗ owns (c : Thread nD τ) arg4 fullShare x4 ∗ owns (c : Thread nD τ) arg9 fullShare x9 ∗ (∃ d, owns (c : Thread nD τ) arg13 fullShare d) ∗ (∃ d, owns (c : Thread nD τ) arg14 fullShare d) ∗ (∃ d, owns (c : Thread nD τ) arg15 fullShare d) ∗ (∃ d, ⌜¬ C1 i → d = diagBias (tabA x3 i)⌝ ∗ owns (c : Thread nD τ) arg16 fullShare d) ∗
      (iprop(owns (c : Thread nD τ) arg3 fullShare x3 ∗ owns (c : Thread nD τ) arg4 fullShare x4 ∗ owns (c : Thread nD τ) arg9 fullShare x9 ∗ owns (c : Thread nD τ) arg13 fullShare (boundOut x4 x9) ∗ owns (c : Thread nD τ) arg14 fullShare k0_pay29 ∗ owns (c : Thread nD τ) arg15 fullShare k0_pay30 ∗ owns (c : Thread nD τ) arg16 fullShare (diagBias (tabA x3 i))) -∗
        wp frame (wpE (defs₀ (F := F)) Variants.none (c : Thread nD τ) none) E (kk (tabA x3 i) (w51 i) (queryA x3 i x4 x9) (queryB x3 i x4 x9) (w163 i) 2#32 (w164 i) (w169 i)) K))
    ⊢ wp frame (wpE (defs₀ (F := F)) Variants.none (c : Thread nD τ) none) E (do
  let ⟨arg1, arg2, v1, v7, v8, v10, v21, v29, v36⟩ ← k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17
  let ⟨v41, v51, v61, v62, v64, v66, v68, v74, v75⟩ ← k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2 v1 v8 v21 v36
  let ⟨v98, v109, v111, v113, v115, v121, v123, v124⟩ ← k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v7 v8 v10 v29 v41 v61 v62 v64 v66 v68 v74 v75
  let ⟨v146, v163, c2_i32_42, v164, v169⟩ ← k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 v7 v8 v10 v51 v109 v111 v113 v115 v121 v123 v124
  kk v1 v51 v98 v146 v163 c2_i32_42 v164 v169) K := by
  by_cases h1 : C1 i
  · iintro ⟨H3, H4, H9, H13, H14, H15, ⟨%d, -, H16⟩, Hk⟩
    iapply (prep_pos c E i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x9 d h1 K kk)
    isplitl [H3]; iexact H3
    isplitl [H4]; iexact H4
    isplitl [H9]; iexact H9
    isplitl [H13]; iexact H13
    isplitl [H14]; iexact H14
    isplitl [H15]; iexact H15
    isplitl [H16]; (iexists _; iexact H16)
    iexact Hk
  · iintro ⟨H3, H4, H9, H13, H14, H15, ⟨%d, %hd, H16⟩, Hk⟩
    obtain rfl := hd h1
    iapply (prep_neg c E i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x9 _ h1 K kk)
    isplitl [H3]; iexact H3
    isplitl [H4]; iexact H4
    isplitl [H9]; iexact H9
    isplitl [H13]; iexact H13
    isplitl [H14]; iexact H14
    isplitl [H15]; iexact H15
    isplitl [H16]; iexact H16
    iexact Hk

/-- The body at a grid point: the output blocks and the bias of the diagonal after it. -/
theorem sound_kernel (c : Dev nD) (E : Set ℕ) (i : grid0.Coords) (arg3 : Memref sig .tc .smem S4x4 .f32) (harg3 : arg3.IsWhole) (arg4 : Memref sig .tc .vmem S1x1x512x128 .bf16) (harg4 : arg4.IsWhole) (arg5 : Memref sig .tc .vmem S1x1x16384x256 .bf16) (harg5 : arg5.IsWhole) (arg6 : Memref sig .tc .vmem S1x1x16384x128 .bf16) (harg6 : arg6.IsWhole) (arg7 : Memref sig .tc .vmem S1x1x512x256 .bf16) (harg7 : arg7.IsWhole) (arg8 : Memref sig .tc .vmem S1x1x512x128 .bf16) (harg8 : arg8.IsWhole) (arg9 : Memref sig .tc .vmem S1x1x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S1x1x1x8x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x512 .f32) (harg16 : arg16.IsWhole) (arg17 : Memref sig .tc .vmem S1024x1024 .f32) (harg17 : arg17.IsWhole)
    (x3 : Vec F S4x4 .f32) (x4 : Vec F S1x1x512x128 .bf16) (x5 : Vec F S1x1x16384x256 .bf16) (x6 : Vec F S1x1x16384x128 .bf16) (x7 : Vec F S1x1x512x256 .bf16) (x8 : Vec F S1x1x512x128 .bf16) (x9 : Vec F S1x1x128 .f32) (x10 : Vec F S4x64 .f32) (x11 : Vec F S1x128 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, ⌜¬ C1 i → d = diagBias (tabA x3 i)⌝ ∗ owns (c : Thread nD τ) arg16 fullShare d) ∗ (∃ d, owns (c : Thread nD τ) arg17 fullShare d) ∗
      (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outFrom i (tabA x3 i) (queryA x3 i x4 x9) (queryB x3 i x4 x9) x5 x6 x7 x8 x10 x11 (diagBias (tabA x3 i))) ∗ owns (c : Thread nD τ) arg13 fullShare (boundOut x4 x9) ∗ (∃ d, owns (c : Thread nD τ) arg14 fullShare d) ∗ (∃ d, owns (c : Thread nD τ) arg15 fullShare d) ∗ owns (c : Thread nD τ) arg16 fullShare (diagBias (tabA x3 i)) ∗ (∃ d, owns (c : Thread nD τ) arg17 fullShare d)) -∗ K ⟨⟩))
    ⊢ wp frame (wpE (defs₀ (F := F)) Variants.none (c : Thread nD τ) none) E (cc0_diff_attention i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_diff_attention_eq_skeleton]; unfold cc0_diff_attention_skel
  iintro ⟨H3, H4, H5, H6, H7, H8, H9, H10, H11, H12, H13, H14, H15, H16, H17, Hk⟩
  iapply (prep c E i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x9 K (fun v1 v51 v98 v146 v163 c2_i32_42 v164 v169 =>
    k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 v1 v51 v98 v146 v163 c2_i32_42 v164 v169 >>= fun _ => (do let v239 ← k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 v98 v146; let v281 ← k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 v239; Prog.lift (.store arg12 (Rect.unit (s := S1x512x128) ![0, 0, 0] S1x512x128.size inb_S1x512x128_S1x512x128_0_0_0) (k0_pay1 v281) Finset.univ (View.stores_vmem h_S1x512x128 (harg12.storeExact_slice rfl _ packedbf16_S1x512x128_S1x512x128_0_0_0) (fun _ => rfl)) (.inl rfl)); pure ⟨⟩)))
  isplitl [H3]
  · iexact H3
  isplitl [H4]
  · iexact H4
  isplitl [H9]
  · iexact H9
  isplitl [H13]
  · iexact H13
  isplitl [H14]
  · iexact H14
  isplitl [H15]
  · iexact H15
  isplitl [H16]
  · iexact H16

  iintro ⟨H3, H4, H9, H13, H14, H15, H16⟩
  iapply (part9 c E i arg3 harg3 arg4 harg4 arg5 harg5 arg6 harg6 arg7 harg7 arg8 harg8 arg9 harg9 arg10 harg10 arg11 harg11 arg12 harg12 arg13 harg13 arg14 harg14 arg15 harg15 arg16 harg16 arg17 harg17 (tabA x3 i) (queryA x3 i x4 x9) (queryB x3 i x4 x9) x5 x6 _ K)
  isplitl [H5]
  · iexact H5
  isplitl [H6]
  · iexact H6
  isplitl [H14]
  · iexact H14
  isplitl [H15]
  · iexact H15
  isplitl [H17]
  · iexact H17

  iintro ⟨H5, H6, H14, H15, H17⟩
  iapply (tail c E i arg3 harg3 arg4 harg4 arg5 harg5 arg6 harg6 arg7 harg7 arg8 harg8 arg9 harg9 arg10 harg10 arg11 harg11 arg12 harg12 arg13 harg13 arg14 harg14 arg15 harg15 arg16 harg16 arg17 harg17 (tabA x3 i) (queryA x3 i x4 x9) (queryB x3 i x4 x9) x5 x6 x7 x8 x10 x11 (diagBias (tabA x3 i)) K)
  isplitl [H7]
  · iexact H7
  isplitl [H8]
  · iexact H8
  isplitl [H10]
  · iexact H10
  isplitl [H11]
  · iexact H11
  isplitl [H12]
  · iexact H12
  isplitl [H14]
  · iexact H14
  isplitl [H15]
  · iexact H15
  isplitl [H16]
  · iexact H16

  iintro ⟨H7, H8, H10, H11, H12, H14, H15, H16⟩
  iapply Hk
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  iexact H17

end Cert.KernelIdeal.Body

end
-- ==== Proof.RunIdeal.lean ====
/-
The run of the program `KernelIdeal`: the proof data of its one pipeline, the obligation of its body at every grid point, and the run
of `main` to the contents that data names. The bias of the diagonal block is made at the first query block of a head and kept for the
others, so the invariant between two points says what that buffer holds.
-/
module

public import proofs.«01_k».proof.Proof.BodyIdeal

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the two output windows hold after the body at a point. -/
def outAt (c : Dev nD) (t : Fin cfg0.N) : Vec F S1x512x128 .bf16 :=
  outFrom (grid0.coords t) (tabA (iblk m c 0 t) (grid0.coords t)) (queryA (iblk m c 0 t) (grid0.coords t) (iblk m c 1 t) (iblk m c 6 t)) (queryB (iblk m c 0 t) (grid0.coords t) (iblk m c 1 t) (iblk m c 6 t)) (iblk m c 2 t) (iblk m c 3 t) (iblk m c 4 t) (iblk m c 5 t) (iblk m c 7 t) (iblk m c 8 t) (diagBias (tabA (iblk m c 0 t) (grid0.coords t)))
def bndAt (c : Dev nD) (t : Fin cfg0.N) : Vec F S1x1x1x8x128 .f32 := boundOut (iblk m c 1 t) (iblk m c 6 t)

/-- The scratch buffers before point `n`: the bias of the diagonal is the head's, unless the point refills it. -/
def Phi (c : Dev nD) (n : ℕ) : sProp 𝕄 :=
  iprop((∃ d, owns (c : Thread nD τ) (Memref.whole cc0_scratch0) fullShare d) ∗ (∃ d, owns (c : Thread nD τ) (Memref.whole cc0_scratch1) fullShare d)
    ∗ (∃ d, ⌜∀ h : n < cfg0.N, ¬ C1 (grid0.coords ⟨n, h⟩) → d = diagBias (tabA (iblk m c 0 ⟨n, h⟩) (grid0.coords ⟨n, h⟩))⌝ ∗ owns (c : Thread nD τ) (Memref.whole cc0_scratch2) fullShare d)
    ∗ (∃ d, owns (c : Thread nD τ) (Memref.whole cc0_scratch3) fullShare d) ∗ ∃ r, prngReg c r)

/-- The proof data: the arrays as `main` hands them over, the blocks after the body, the scratch buffers between points. -/
def dats (p : Fin 1) (c : Dev nD) : Dat τ (Elt F) Unit ℕ (UR sig nD τ) ℕ (cfgs p) c :=
  match p with
  | ⟨0, _⟩ =>
    { A := fun w => V m c (Pipeline.arrRef spec0 w)
      after := fun w t => match w with
        | ⟨0, _⟩ => iblk m c 0 t
        | ⟨1, _⟩ => iblk m c 1 t
        | ⟨2, _⟩ => iblk m c 2 t
        | ⟨3, _⟩ => iblk m c 3 t
        | ⟨4, _⟩ => iblk m c 4 t
        | ⟨5, _⟩ => iblk m c 5 t
        | ⟨6, _⟩ => iblk m c 6 t
        | ⟨7, _⟩ => iblk m c 7 t
        | ⟨8, _⟩ => iblk m c 8 t
        | ⟨9, _⟩ => outAt m c t
        | ⟨10, _⟩ => bndAt m c t
        | ⟨_ + 11, h⟩ => absurd h (by show ¬ _ < 11; omega)
      Φ := fun t => Phi m c t.val
      q := Pipeline.shareOf spec0
      owed := fun _ => 0 }
  | ⟨_ + 1, h⟩ => absurd h (by omega)

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = outAt m c t := by dsimp only [dats]
theorem after0_10 (c : Dev nD) (t : Fin cfg0.N) : (dats m 0 c).after 10 t = bndAt m c t := by dsimp only [dats]

/-- The slope read at a grid point depends on the head alone. -/
theorem tabA_congr (x : Vec F S4x4 .f32) (i i' : grid0.Coords) (h : (i 1).val = (i' 1).val) : tabA x i = tabA x i' := by
  have e : k0_off1 i = k0_off1 i' := by unfold k0_off1; simp only [h]
  unfold tabA
  have : ∀ (o o' : Fin 2 → ℕ) (_ : o = o') (p : ∀ a, o a + S1x1.size a ≤ S4x4.size a) (p' : ∀ a, o' a + S1x1.size a ≤ S4x4.size a),
      View.ld x (Rect.unit (s := S4x4) o S1x1.size p) (Shape.Idx.first Nat.one_pos)
        = View.ld x (Rect.unit (s := S4x4) o' S1x1.size p') (Shape.Idx.first Nat.one_pos) := by
    rintro o _ rfl p p'; rfl
  exact this _ _ e _ _

/-- A point that does not refill the bias is of the same head as the one before it. -/
theorem same_head : ∀ n : Fin 255, ¬ C1 (grid0.coords ⟨n.val + 1, by have := n.isLt; rw [N_0]; omega⟩) →
    (grid0.coords ⟨n.val, by have := n.isLt; rw [N_0]; omega⟩ 1).val = (grid0.coords ⟨n.val + 1, by have := n.isLt; rw [N_0]; omega⟩ 1).val := by
  decide +kernel

theorem keeps (c : Dev nD) (t : Fin cfg0.N) (h : t.val + 1 < cfg0.N) (hC : ¬ C1 (grid0.coords ⟨t.val + 1, h⟩)) :
    diagBias (tabA (iblk m c 0 t) (grid0.coords t)) = diagBias (tabA (iblk m c 0 ⟨t.val + 1, h⟩) (grid0.coords ⟨t.val + 1, h⟩)) := by
  have hb : iblk m c 0 t = iblk m c 0 ⟨t.val + 1, h⟩ := rfl
  have hn : t.val < 255 := by have := (show cfg0.N = 256 from N_0); omega
  rw [hb]
  exact congrArg diagBias (tabA_congr _ _ _ (same_head ⟨t.val, hn⟩ hC))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    show (dats m 0 c).Φ t.castSucc = Phi m c t.val from rfl, show (dats m 0 c).Φ t.succ = Phi m c (t.val + 1) from rfl,
    after0_0, after0_1, after0_2, after0_3, after0_4, after0_5, after0_6, after0_7, after0_8, after0_9, after0_10]
  unfold Phi
  iintro ⟨⟨G14, G15, ⟨%b, %hb, G16⟩, G17, Hr⟩, Ho, ⟨%d0, H3⟩, ⟨%d1, H4⟩, ⟨%d2, H5⟩, ⟨%d3, H6⟩, ⟨%d4, H7⟩, ⟨%d5, H8⟩, ⟨%d6, H9⟩, ⟨%d7, H10⟩, ⟨%d8, H11⟩, ⟨%d9, H12⟩, ⟨%d10, H13⟩⟩
  iapply (sound_kernel c Set.univ (grid0.coords t) _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) _)
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; (iexists _; iexact H12)
  isplitl [H13]; (iexists _; iexact H13)
  isplitl [G14]; iexact G14
  isplitl [G15]; iexact G15
  isplitl [G16]
  · iexists b
    isplitr [G16]; swap; iexact G16
    ipureintro; exact hb t.isLt
  isplitl [G17]; iexact G17
  iintro ⟨H3, H4, H5, H6, H7, H8, H9, H10, H11, H12, H13, H14, H15, H16, H17⟩
  isplitl [H14 H15 H16 H17 Hr]
  · isplitl [H14]; iexact H14
    isplitl [H15]; iexact H15
    isplitl [H16]
    · iexists _
      isplitr [H16]; swap; iexact H16
      ipureintro; exact fun h hC => keeps m c t h hC
    isplitl [H17]; iexact H17
    iexact Hr
  isplitl [Ho]; iexact Ho
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  iexact H13

theorem body_obligation (c : Dev nD) : BodyObligation (dats (F := F) m 0 c) (defs₀ (F := F)) Variants.none () Set.univ := fun t => by
  rw [bigSep_W0, bigSep_W0]
  exact sound_body m c t

/-- The first point refills the bias. -/
theorem first_refills : ∀ h : 0 < cfg0.N, C1 (grid0.coords ⟨0, h⟩) := by decide +kernel

theorem phi_in (c : Dev nD) : Pipeline.ΦA (cfgs (0 : Fin 1)).spec c ⊢ (dats (F := F) m 0 c).Φ 0 := by
  show Pipeline.ΦA spec0 c ⊢ Phi m c 0
  unfold Pipeline.ΦA Phi
  rw [scopedRest0_eq]
  simp only [owns_whole]
  iintro ⟨⟨H0, H1, ⟨%f, H2⟩, H3⟩, Hr⟩
  isplitl [H0]; iexact H0
  isplitl [H1]; iexact H1
  isplitl [H2]
  · iexists f
    isplitr [H2]; swap; iexact H2
    ipureintro; exact fun h hC => absurd (first_refills h) hC
  isplitl [H3]; iexact H3
  iexact Hr

theorem phi_out (c : Dev nD) : (dats (F := F) m 0 c).Φ (Fin.last cfg0.N) ⊢ Pipeline.ΦA (cfgs (0 : Fin 1)).spec c := by
  show Phi m c cfg0.N ⊢ Pipeline.ΦA spec0 c
  unfold Pipeline.ΦA Phi
  rw [scopedRest0_eq]
  simp only [owns_whole]
  iintro ⟨H0, H1, ⟨%f, -, H2⟩, H3, Hr⟩
  isplitr [Hr]; swap; iexact Hr
  isplitl [H0]; iexact H0
  isplitl [H1]; iexact H1
  isplitl [H2]; (iexists f; iexact H2)
  iexact H3

set_option backward.isDefEq.respectTransparency.types false in
/-- The run: `main` ends with each window's array at what the proof data computes, and every semaphore counter at zero. -/
theorem run_main : θ_run defs (onTc (τ := τ) (main (F := F))) (s₀ m ρ)
    (fun r => Pipeline.FramePost cfgs (dats m) 0 (V m) r ∧ r.2.sem = (fun _ => 0)) :=
  Pipeline.θ_run_frame_track_shared cfgs (dats m) (0 : Fin 1) launch₀0 defs₀ Variants.none m ρ main
    (hbody := fun c => (body_obligation m c).loose) (hq := fun _ _ _ => rfl) (howed := fun _ _ => rfl) (V := V m)
    (hmain := hmain m Variants.none) (hA := fun _ _ => rfl) (hin := phi_in m) (hout := phi_out m)
    (Q' := fun r => Pipeline.FramePost cfgs (dats m) 0 (V m) r ∧ r.2.sem = (fun _ => 0)) (hQ' := fun _ h => h)

/-- The frame: the argument arrays end as they began, every semaphore counter at zero, and the arrays of the windows
at what the proof data computes. -/
theorem frame_main : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 6).trans (((dats m 0 c).arrAt_in 6 rfl _).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.KernelIdeal.Body

end
-- ==== Proof.Frames.lean ====
/-
The claims that say a program runs: the two kernel programs from their pipeline runs, the reference from its line of host
operations; and the one rewrite between the kernel and its idealization.
-/
module

public import proofs.«01_k».proof.Defs
public import proofs.«01_k».proof.Proof.RunKernel
public import proofs.«01_k».proof.Proof.RunIdeal
public import proofs.«01_k».proof.Proof.Gen.ReferenceIdeal
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem

/-- The shape facts the precondition states. -/
theorem preFacts : Cert.Pre_finite_inputs.Facts := ⟨by decide, by decide, by decide⟩

instance : Cert.Pre_finite_inputs.Facts := preFacts

theorem kernel_runs : Cert.quiescent_Kernel (hKernel := Cert.Kernel.Gen.facts) :=
  fun m g _ => Cert.Kernel.Body.frame_main m g

theorem ideal_runs : Cert.quiescent_KernelIdeal (hKernelIdeal := Cert.KernelIdeal.Gen.facts) :=
  fun m g _ => Cert.KernelIdeal.Body.frame_main m g

theorem ideal_runs_pre : Cert.quiescent_KernelIdeal_pre_finite_inputs (hKernelIdeal := Cert.KernelIdeal.Gen.facts)
    (hPre_finite_inputs := preFacts) :=
  fun m g _ => Cert.KernelIdeal.Body.frame_main m g

/-- The reference is a line of host operations: it writes no argument and declares no semaphore. -/
theorem reference_runs : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem reference_runs_pre : Cert.quiescent_ReferenceIdeal_pre_finite_inputs (hReferenceIdeal := Cert.ReferenceIdeal.Gen.facts)
    (hPre_finite_inputs := preFacts) :=
  fun m g _ => reference_runs m g trivial

theorem preserved : Cert.preserves_Kernel_KernelIdeal :=
  IdealRules.named_const.statement Cert.KernelIdeal.κ "mask" .f32 0xF149F2CA#32 ⊥ (by rfl)

end Cert.Proof

end
-- ==== Proof.Finite.lean ====
/-
What the precondition says of the arguments: every entry but the gain's is a real number, and no key bound is negative.
-/
module

public import proofs.«01_k».proof.Proof.Frames
public import Idealize.ShloMosaic.Lib.Claim

@[expose] public section

set_option maxRecDepth 16384

noncomputable section

namespace Cert.Proof

open Idealize.ShloMosaic Idealize.ShloMosaic.TcCoe Idealize.ShloMosaic.Tactic Idealize.SL.Sem

/-- An extended real whose absolute value is below infinity is a real number. -/
theorem real_of_lt (x : EReal) (h : max x (-x) < ⊤) : ∃ r : ℝ, x = (r : EReal) := by
  induction x using EReal.rec with
  | bot => simp at h
  | top => simp at h
  | coe r => exact ⟨r, rfl⟩

theorem inf_word : (Ideal.ofBits .f32 0x7F800000#32 : EReal) = ⊤ := by
  simp [Ideal.ofBits, Ideal.ieee]

/-- The comparison the precondition makes of an entry, read as a fact about it. -/
theorem real_entry (x : Ideal .f32) (h : Ideal.cmp .olt (max x (-x)) (Ideal.ofBits .f32 0x7F800000#32) = 1#1) :
    ∃ r : ℝ, (x : EReal) = (r : EReal) := by
  rw [inf_word] at h
  refine real_of_lt x ?_
  by_contra hx
  simp [Ideal.cmp, hx] at h

theorem nonneg_entry (x : Ideal .f32) (h : Ideal.cmp .oge x (Ideal.ofBits .f32 0x00000000#32) = 1#1) : (0 : EReal) ≤ x := by
  rw [show (Ideal.ofBits .f32 0x00000000#32 : EReal) = 0 by simp [Ideal.ofBits, Ideal.ieee]] at h
  by_contra hx
  simp [Ideal.cmp, hx] at h

open Cert.KernelIdeal in
/-- The arguments of a device, entry by entry. -/
theorem pre_entries (m : (ℓ : Loc nD τ sig) → Buf (Elt Ideal) ℓ) (c : Dev nD)
    (h : Cert.Pre_KernelIdeal_finite_inputs (hPre_finite_inputs := preFacts) m) :
    (∀ i, ∃ r : ℝ, (m ((c.tc : Thread nD τ).loc main_arg0) i : EReal) = (r : EReal)) ∧
    (∀ i, ∃ r : ℝ, (m ((c.tc : Thread nD τ).loc main_arg1) i : EReal) = (r : EReal)) ∧
    (∀ i, ∃ r : ℝ, (m ((c.tc : Thread nD τ).loc main_arg2) i : EReal) = (r : EReal)) ∧
    (∀ i, ∃ r : ℝ, (m ((c.tc : Thread nD τ).loc main_arg3) i : EReal) = (r : EReal) ∧ 0 ≤ r) ∧
    (∀ i, ∃ r : ℝ, (m ((c.tc : Thread nD τ).loc main_arg4) i : EReal) = (r : EReal)) ∧
    (∀ i, ∃ r : ℝ, (m ((c.tc : Thread nD τ).loc main_arg5) i : EReal) = (r : EReal)) ∧
    (∀ i, ∃ r : ℝ, (m ((c.tc : Thread nD τ).loc main_arg6) i : EReal) = (r : EReal)) ∧
    (∀ i, ∃ r : ℝ, (m ((c.tc : Thread nD τ).loc main_arg7) i : EReal) = (r : EReal)) := by
  obtain ⟨h0, h1, h2, h3, h4, h5, h6, h7, h8⟩ := h c
  refine ⟨fun i => real_entry _ (congrFun h0 i), fun i => real_entry _ (congrFun h1 i), fun i => real_entry _ (congrFun h2 i),
    fun i => ?_, fun i => real_entry _ (congrFun h4 i), fun i => real_entry _ (congrFun h5 i),
    fun i => real_entry _ (congrFun h6 i), fun i => real_entry _ (congrFun h7 i)⟩
  obtain ⟨r, hr⟩ := real_entry _ (congrFun h3 i)
  exact ⟨r, hr, EReal.coe_nonneg.mp (hr ▸ nonneg_entry _ (congrFun h8 i))⟩

end Cert.Proof
-- ==== Proof.Sums.lean ====
/-
Sums of extended reals and of reals in the groupings the program makes them in.
-/
module

public import Idealize.ShloMosaic.Lib.Pointwise

@[expose] public section

noncomputable section

namespace Cert.KernelIdeal.Value

open Idealize.ShloMosaic

/-- A sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Eight lane groups of 128, added up. -/
theorem sum_eight {M : Type} [AddCommMonoid M] (f : Fin 1024 → M) :
    ∑ d : Fin 128, (f ⟨d.val, by omega⟩ + f ⟨128 + d.val, by omega⟩ + f ⟨256 + d.val, by omega⟩ + f ⟨384 + d.val, by omega⟩
      + f ⟨512 + d.val, by omega⟩ + f ⟨640 + d.val, by omega⟩ + f ⟨768 + d.val, by omega⟩ + f ⟨896 + d.val, by omega⟩) = ∑ k, f k := by
  rw [Fin.sum_univ_tiles 8 128 rfl f, Finset.sum_comm]
  refine Finset.sum_congr rfl fun d _ => ?_
  rw [Fin.sum_univ_eight]
  simp

/-- Four lane groups of 128, added up. -/
theorem sum_four {M : Type} [AddCommMonoid M] (f : Fin 512 → M) :
    ∑ d : Fin 128, (f ⟨d.val, by omega⟩ + f ⟨128 + d.val, by omega⟩ + f ⟨256 + d.val, by omega⟩ + f ⟨384 + d.val, by omega⟩) = ∑ k, f k := by
  rw [Fin.sum_univ_tiles 4 128 rfl f, Finset.sum_comm]
  refine Finset.sum_congr rfl fun d _ => ?_
  rw [Fin.sum_univ_four]
  simp

/-- A product over 128 lanes whose first 64 carry the vectors, lane 64 a shift and lane 67 a slope. -/
theorem dot_first (q k : Fin 128 → ℝ) (x c p : ℝ) :
    ∑ e : Fin 128, (if e.val < 64 then q e else if e.val = 64 then x else if e.val = 67 then c else 0)
        * (if e.val < 64 then k e else if e.val < 67 then 1 else if e.val < 70 then p else 0)
      = ∑ e : Fin 64, q ⟨e.val, by omega⟩ * k ⟨e.val, by omega⟩ + x + c * p := by
  rw [Fin.sum_univ_two_halves 64 64 rfl, add_assoc]
  refine congrArg₂ (· + ·) (Finset.sum_congr rfl fun e _ => ?_) ?_
  · simp
  · have h : ∀ e : Fin 64, (if 64 + e.val < 64 then q ⟨64 + e.val, by omega⟩ else if 64 + e.val = 64 then x else if 64 + e.val = 67 then c else 0)
        * (if 64 + e.val < 64 then k ⟨64 + e.val, by omega⟩ else if 64 + e.val < 67 then 1 else if 64 + e.val < 70 then p else 0)
        = (if e = 0 then x else 0) + (if e = 3 then c * p else 0) := by
      intro e
      rcases eq_or_ne e 0 with rfl | h0
      · simp
      rcases eq_or_ne e 3 with rfl | h3
      · simp
      have h0' : e.val ≠ 0 := fun h => h0 (Fin.ext h)
      have h3' : e.val ≠ 3 := fun h => h3 (Fin.ext h)
      rw [if_neg (by omega), if_neg (by omega), if_neg (by omega), if_neg h0, if_neg h3]
      simp
    rw [Finset.sum_congr rfl fun e _ => h e, Finset.sum_add_distrib, Finset.sum_ite_eq', Finset.sum_ite_eq']
    simp

/-- The same with the vectors on the last 64 lanes, the shift on lane 0 and the slope on lane 3. -/
theorem dot_second (q k : Fin 128 → ℝ) (x c p : ℝ) :
    ∑ e : Fin 128, (if e.val < 64 then (if e.val = 0 then x else if e.val = 3 then c else 0) else q e)
        * (if e.val < 3 then 1 else if e.val < 6 then p else if e.val < 64 then 0 else k e)
      = ∑ e : Fin 64, q ⟨64 + e.val, by omega⟩ * k ⟨64 + e.val, by omega⟩ + x + c * p := by
  rw [Fin.sum_univ_two_halves 64 64 rfl, add_comm, add_assoc]
  refine congrArg₂ (· + ·) (Finset.sum_congr rfl fun e _ => ?_) ?_
  · rw [if_neg (by simp), if_neg (by simp; omega), if_neg (by simp; omega), if_neg (by simp)]
  · have h : ∀ e : Fin 64, (if e.val < 64 then (if e.val = 0 then x else if e.val = 3 then c else 0) else q ⟨e.val, by omega⟩)
        * (if e.val < 3 then 1 else if e.val < 6 then p else if e.val < 64 then 0 else k ⟨e.val, by omega⟩)
        = (if e = 0 then x else 0) + (if e = 3 then c * p else 0) := by
      intro e
      rcases eq_or_ne e 0 with rfl | h0
      · simp
      rcases eq_or_ne e 3 with rfl | h3
      · simp
      have h0' : e.val ≠ 0 := fun h => h0 (Fin.ext h)
      have h3' : e.val ≠ 3 := fun h => h3 (Fin.ext h)
      rw [if_pos e.isLt, if_neg h0', if_neg h3', if_neg h0, if_neg h3]
      simp
    rw [Finset.sum_congr rfl fun e _ => h e, Finset.sum_add_distrib, Finset.sum_ite_eq', Finset.sum_ite_eq']
    simp

/-- A sum over the first `n + m` numbers, the last `m` of them written as an indexed sum. -/
theorem sum_range_block (f : ℕ → ℝ) (n m : ℕ) :
    ∑ j ∈ Finset.range (n + m), f j = ∑ j ∈ Finset.range n, f j + ∑ k : Fin m, f (n + k.val) := by
  rw [Finset.sum_range_add, Finset.sum_range (n := m)]

end Cert.KernelIdeal.Value
-- ==== Proof.Words.lean ====
/-
The machine words of the kernel's block bookkeeping, as numbers: which key blocks a query block reads.
-/
module

public import proofs.«01_k».proof.Proof.BodyIdeal

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic

/-- The first query of the block. -/
theorem w51_int (i : grid0.Coords) : (w51 i).toInt = 512 * ((i 2).val : ℤ) := by
  have h : ∀ q : Fin 32, ∀ i : grid0.Coords, (i 2).val = q.val → (w51 i).toInt = 512 * (q.val : ℤ) := by
    intro q i hi
    unfold w51
    simp only [hi]
    clear hi i
    revert q
    decide +kernel
  exact h ⟨(i 2).val, (i 2).isLt⟩ i rfl

/-- The number of blocks of 512 keys before the diagonal one is the index of the query block. -/
theorem w163_eq (i : grid0.Coords) : w163 i = BitVec.ofNat 32 (i 2).val := by
  have h : ∀ q : Fin 32, ∀ i : grid0.Coords, (i 2).val = q.val → w163 i = BitVec.ofNat 32 q.val := by
    intro q i hi
    unfold w163 w51
    simp only [hi]
    clear hi i
    revert q
    decide +kernel
  exact h ⟨(i 2).val, (i 2).isLt⟩ i rfl

theorem cond3_iff (i : grid0.Coords) : k0_cond3 i = 1#1 ↔ 0 < (i 2).val / 2 := by
  have h : ∀ q : Fin 32, ∀ i : grid0.Coords, (i 2).val = q.val → (k0_cond3 i = 1#1 ↔ 0 < q.val / 2) := by
    intro q i hi
    unfold k0_cond3
    simp only [hi]
    clear hi i
    revert q
    decide +kernel
  exact h ⟨(i 2).val, (i 2).isLt⟩ i rfl

theorem cond4_iff (i : grid0.Coords) : k0_cond4 i = 1#1 ↔ (i 2).val % 2 = 1 := by
  have h : ∀ q : Fin 32, ∀ i : grid0.Coords, (i 2).val = q.val → (k0_cond4 i = 1#1 ↔ q.val % 2 = 1) := by
    intro q i hi
    unfold k0_cond4
    simp only [hi]
    clear hi i
    revert q
    decide +kernel
  exact h ⟨(i 2).val, (i 2).isLt⟩ i rfl

theorem trips_eq (i : grid0.Coords) : (k0_t1_loop i).trips = (i 2).val / 2 - 1 := by
  have h : ∀ q : Fin 32, ∀ i : grid0.Coords, (i 2).val = q.val → (k0_t1_loop i).trips = q.val / 2 - 1 := by
    intro q i hi
    unfold k0_t1_loop
    simp only [hi]
    clear hi i
    revert q
    decide +kernel
  exact h ⟨(i 2).val, (i 2).isLt⟩ i rfl

theorem off11_eq (i : grid0.Coords) (h : 0 < (i 2).val / 2) : k0_off11 i = ![0, 0, ((i 2).val / 2 - 1) * 1024, 0] := by
  have h : ∀ q : Fin 32, ∀ i : grid0.Coords, (i 2).val = q.val → 0 < q.val / 2 → k0_off11 i = ![0, 0, (q.val / 2 - 1) * 1024, 0] := by
    intro q i hi
    unfold k0_off11
    simp only [hi]
    clear hi i
    revert q
    decide +kernel
  exact h ⟨(i 2).val, (i 2).isLt⟩ i rfl ‹_›

/-- The start of the odd block of 512 keys. -/
theorem off12_eq (i : grid0.Coords) (h : (i 2).val % 2 = 1) :
    k0_off12 i = ![0, 0, ((i 2).val - 1) * 512, 0] ∧ k0_off13 i = ![0, 0, ((i 2).val - 1) * 512, 128] ∧ k0_off14 i = ![0, 0, ((i 2).val - 1) * 512, 0]
      ∧ (Scalar.subi (w51 i) (Scalar.muli (Scalar.subi (w163 i) 1#32) 512#32)).toInt = 512 := by
  have h : ∀ q : Fin 32, ∀ i : grid0.Coords, (i 2).val = q.val → q.val % 2 = 1 →
      k0_off12 i = ![0, 0, (q.val - 1) * 512, 0] ∧ k0_off13 i = ![0, 0, (q.val - 1) * 512, 128] ∧ k0_off14 i = ![0, 0, (q.val - 1) * 512, 0]
      ∧ (Scalar.subi (w51 i) (Scalar.muli (Scalar.subi (w163 i) 1#32) 512#32)).toInt = 512 := by
    intro q i hi
    rw [w163_eq]
    unfold k0_off12 k0_off13 k0_off14 w51
    simp only [hi]
    clear hi i
    revert q
    decide +kernel
  exact h ⟨(i 2).val, (i 2).isLt⟩ i rfl ‹_›

/-- A step of the pass reads the values of its block and the keys of the next. -/
theorem off5_eq (i : grid0.Coords) (k : Fin (k0_t1_loop i).trips) :
    k0_off5 i k = ![0, 0, (k.val + 1) * 1024, 0] ∧ k0_off6 i k = ![0, 0, (k.val + 1) * 1024, 128] ∧ k0_off7 i k = ![0, 0, k.val * 1024, 0]
      ∧ (Scalar.subi (w51 i) (Scalar.muli (Scalar.addi (Scf.iv 0#32 1#32 k) 1#32) 1024#32)).toInt = 512 * ((i 2).val : ℤ) - 1024 * ((k.val : ℤ) + 1) := by
  have h : ∀ q : Fin 32, ∀ n : Fin 16, ∀ i : grid0.Coords, ∀ k : Fin (k0_t1_loop i).trips, (i 2).val = q.val → k.val = n.val →
      k0_off5 i k = ![0, 0, (n.val + 1) * 1024, 0] ∧ k0_off6 i k = ![0, 0, (n.val + 1) * 1024, 128] ∧ k0_off7 i k = ![0, 0, n.val * 1024, 0]
      ∧ (Scalar.subi (w51 i) (Scalar.muli (Scalar.addi (Scf.iv 0#32 1#32 k) 1#32) 1024#32)).toInt = 512 * (q.val : ℤ) - 1024 * ((n.val : ℤ) + 1) := by
    intro q n i k hi hk
    unfold k0_off5 k0_off6 k0_off7 w51 Scf.iv
    simp only [hi, hk]
    clear hi hk k i
    revert q n
    decide +kernel
  have hk := lt_of_lt_of_eq k.isLt (trips_eq i)
  have hi : (i 2).val < 32 := (i 2).isLt
  exact h ⟨(i 2).val, (i 2).isLt⟩ ⟨k.val, by omega⟩ i k rfl rfl

end Cert.KernelIdeal.Value
-- ==== Proof.Steps.lean ====
/-
The arithmetic of the program's vector operations at an index, over the reals with two infinities.
-/
module

public import proofs.«01_k».proof.Proof.BodyIdeal
public import proofs.«01_k».proof.Proof.Sums
public import proofs.«01_k».proof.Proof.Words
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic

/-! ### Weighted sums -/

theorem acc_wide (s : Vec Ideal S1024x1024 .f32) (x : Vec Ideal S1x1x1024x128 .bf16) (acc : Vec Ideal S1024x128 .f32) (r : Fin 1024) (d : Fin 128)
    (w v : ℕ → ℝ) (n : ℕ) (hs : ∀ k : Fin 1024, Ideal.exp2 (s (ix2 r k)) = (w (n + k.val) : ℝ)) (hx : ∀ k : Fin 1024, x (ix4 0 0 k d) = (v (n + k.val) : ℝ))
    (ha : acc (ix2 r d) = ((∑ j ∈ Finset.range n, w j * v j : ℝ) : EReal)) :
    k0_pay58 s x acc (ix2 r d) = ((∑ j ∈ Finset.range (n + 1024), w j * v j : ℝ) : EReal) := by
  rw [sum_range_block, EReal.coe_add, coe_sum Finset.univ, ← ha]
  pointwise [k0_pay58, k0_pay56]
  refine congrArg (_ + ·) (Finset.sum_congr rfl fun k _ => ?_)
  rw [EReal.coe_mul, ← hs, ← hx]
  rfl

theorem acc_step (s : Vec Ideal S1024x1024 .f32) (x : Vec Ideal S1x1x1024x128 .bf16) (acc : Vec Ideal S1024x128 .f32) :
    k0_pay51 (k0_pay8 x) (k0_pay9 s) acc = k0_pay58 s x acc := rfl

theorem acc_odd (s : FVec Ideal S1024x512 .bf16) (x : Vec Ideal S1x1x512x128 .bf16) (acc : Vec Ideal S1024x128 .f32) (r : Fin 1024) (d : Fin 128)
    (w v : ℕ → ℝ) (n : ℕ) (hs : ∀ k : Fin 512, s (ix2 r k) = (w (n + k.val) : ℝ)) (hx : ∀ k : Fin 512, x (ix4 0 0 k d) = (v (n + k.val) : ℝ))
    (ha : acc (ix2 r d) = ((∑ j ∈ Finset.range n, w j * v j : ℝ) : EReal)) :
    k0_pay59 (k0_pay15 x) acc s (constant S1024x128 .f32 0x00000000#32) (ix2 r d) = ((∑ j ∈ Finset.range (n + 512), w j * v j : ℝ) : EReal) := by
  rw [sum_range_block, EReal.coe_add, coe_sum Finset.univ, ← ha]
  pointwise [k0_pay59, k0_pay15]
  refine congrArg (_ + ·) (Finset.sum_congr rfl fun k _ => ?_)
  rw [EReal.coe_mul, ← hs, ← hx]

theorem acc_diag (qA qB : FVec Ideal S512x128 .bf16) (y z : Vec Ideal S1x1x512x128 .bf16) (b : Vec Ideal S1024x512 .f32)
    (x : Vec Ideal S1x1x512x128 .bf16) (acc : Vec Ideal S1024x128 .f32) (r : Fin 1024) (d : Fin 128)
    (w v : ℕ → ℝ) (n : ℕ) (hs : ∀ k : Fin 512, k0_pay60 qA qB y z b (ix2 r k) = (w (n + k.val) : ℝ)) (hx : ∀ k : Fin 512, x (ix4 0 0 k d) = (v (n + k.val) : ℝ))
    (ha : acc (ix2 r d) = ((∑ j ∈ Finset.range n, w j * v j : ℝ) : EReal)) :
    k0_pay62 qA qB y z b x acc (ix2 r d) = ((∑ j ∈ Finset.range (n + 512), w j * v j : ℝ) : EReal) := by
  rw [sum_range_block, EReal.coe_add, coe_sum Finset.univ, ← ha]
  unfold k0_pay62
  generalize k0_pay60 qA qB y z b = s at hs ⊢
  pointwise
  refine congrArg (_ + ·) (Finset.sum_congr rfl fun k _ => ?_)
  rw [EReal.coe_mul, ← hs, ← hx]

/-! ### Sums of weights, spread over 128 lanes -/

theorem sum_wide (s : Vec Ideal S1024x1024 .f32) (l : Vec Ideal S1024x128 .f32) (r : Fin 1024)
    (w : ℕ → ℝ) (n : ℕ) (hs : ∀ k : Fin 1024, Ideal.exp2 (s (ix2 r k)) = (w (n + k.val) : ℝ))
    (hl : ∑ d : Fin 128, l (ix2 r d) = ((∑ j ∈ Finset.range n, w j : ℝ) : EReal)) :
    ∑ d : Fin 128, k0_pay57 s l (ix2 r d) = ((∑ j ∈ Finset.range (n + 1024), w j : ℝ) : EReal) := by
  rw [sum_range_block, EReal.coe_add, coe_sum Finset.univ, ← hl, Finset.sum_congr rfl fun k _ => (hs k).symm, ← sum_eight, ← Finset.sum_add_distrib]
  refine Finset.sum_congr rfl fun d _ => ?_
  pointwise [k0_pay57, k0_pay56]
  rfl

theorem sum_step (s : Vec Ideal S1024x1024 .f32) (l : Vec Ideal S1024x128 .f32) :
    k0_pay50 (k0_pay10 s) l = k0_pay57 s l := rfl

theorem sum_odd (a : Elt Ideal .f32) (w51 : BitVec 32) (qA qB : FVec Ideal S512x128 .bf16) (w163 : BitVec 32) (c : FVec Ideal S1x1024 .f32)
    (y z : Vec Ideal S1x1x512x128 .bf16) (l : Vec Ideal S1024x128 .f32) (r : Fin 1024)
    (w : ℕ → ℝ) (n : ℕ) (hs : ∀ k : Fin 512, k0_pay16 a w51 qA qB w163 c y z (ix2 r k) = (w (n + k.val) : ℝ))
    (hl : ∑ d : Fin 128, l (ix2 r d) = ((∑ j ∈ Finset.range n, w j : ℝ) : EReal)) :
    ∑ d : Fin 128, k0_pay17 a w51 qA qB w163 c y z l (ix2 r d) = ((∑ j ∈ Finset.range (n + 512), w j : ℝ) : EReal) := by
  rw [sum_range_block, EReal.coe_add, coe_sum Finset.univ, ← hl, Finset.sum_congr rfl fun k _ => (hs k).symm, ← sum_four, ← Finset.sum_add_distrib]
  refine Finset.sum_congr rfl fun d _ => ?_
  unfold k0_pay17
  generalize k0_pay16 a w51 qA qB w163 c y z = s
  pointwise

theorem sum_diag (qA qB : FVec Ideal S512x128 .bf16) (y z : Vec Ideal S1x1x512x128 .bf16) (b : Vec Ideal S1024x512 .f32)
    (l : Vec Ideal S1024x128 .f32) (r : Fin 1024)
    (w : ℕ → ℝ) (n : ℕ) (hs : ∀ k : Fin 512, k0_pay60 qA qB y z b (ix2 r k) = (w (n + k.val) : ℝ))
    (hl : ∑ d : Fin 128, l (ix2 r d) = ((∑ j ∈ Finset.range n, w j : ℝ) : EReal)) :
    ∑ d : Fin 128, k0_pay61 qA qB y z b l (ix2 r d) = ((∑ j ∈ Finset.range (n + 512), w j : ℝ) : EReal) := by
  rw [sum_range_block, EReal.coe_add, coe_sum Finset.univ, ← hl, Finset.sum_congr rfl fun k _ => (hs k).symm, ← sum_four, ← Finset.sum_add_distrib]
  refine Finset.sum_congr rfl fun d _ => ?_
  unfold k0_pay61
  generalize k0_pay60 qA qB y z b = s
  pointwise

theorem zero_acc (r : Fin 1024) (d : Fin 128) : k0_pay29 (F := Ideal) (ix2 r d) = 0 := by
  pointwise [k0_pay29]
theorem zero_sum (r : Fin 1024) (d : Fin 128) : k0_pay30 (F := Ideal) (ix2 r d) = 0 := by
  pointwise [k0_pay30]
theorem lane_total (l : Vec Ideal S1024x128 .f32) (r : Fin 1024) : k0_pay63 l (ix2 r 0) = ∑ d : Fin 128, l (ix2 r d) := by
  pointwise [k0_pay63]

end Cert.KernelIdeal.Value
-- ==== Proof.Scores.lean ====
/-
The scores of the query rows against the keys, as real numbers.
-/
module

public import proofs.«01_k».proof.Proof.BodyIdeal
public import proofs.«01_k».proof.Proof.Sums
public import proofs.«01_k».proof.Proof.Words
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic

/-- The program's padded key lanes: 64 lanes of the first vector, then ones and the position in its period; for the second vector the
other way round. -/
def padK (kR : ℕ → Fin 128 → ℝ) (j : ℕ) (e : ℕ) : ℝ :=
  if h : e < 128 then
    (if e < 64 then kR j ⟨e, h⟩ else if e < 67 then 1 else if e < 70 then ((j % 256 : ℕ) : ℝ) else 0)
  else
    (if e - 128 < 3 then 1 else if e - 128 < 6 then ((j % 256 : ℕ) : ℝ) else if e - 128 < 64 then 0 else kR j ⟨(e - 128) % 128, Nat.mod_lt _ (by norm_num)⟩)

/-- The query lanes of the first vector with the shift and the slope in the lanes the keys leave free. -/
def augA (q : Fin 128 → ℝ) (x c : ℝ) (e : Fin 128) : ℝ := if e.val < 64 then q e else if e.val = 64 then x else if e.val = 67 then c else 0
/-- The same for the second vector. -/
def augB (q : Fin 128 → ℝ) (x c : ℝ) (e : Fin 128) : ℝ := if e.val < 64 then (if e.val = 0 then x else if e.val = 3 then c else 0) else q e

/-- The two scalar products of a query row and a key row. -/
def dotA (q k : Fin 128 → ℝ) : ℝ := ∑ e : Fin 64, q ⟨e.val, by omega⟩ * k ⟨e.val, by omega⟩
def dotB (q k : Fin 128 → ℝ) : ℝ := ∑ e : Fin 64, q ⟨64 + e.val, by omega⟩ * k ⟨64 + e.val, by omega⟩

theorem lanes_A (f g : Fin 128 → EReal) (q : Fin 128 → ℝ) (kR : ℕ → Fin 128 → ℝ) (j : ℕ) (x c : ℝ)
    (hf : ∀ e, f e = (augA q x c e : ℝ)) (hg : ∀ e, g e = (padK kR j e.val : ℝ)) :
    ∑ e, f e * g e = ((dotA q (kR j) + x + c * ((j % 256 : ℕ) : ℝ) : ℝ) : EReal) := by
  rw [dotA, ← dot_first q (kR j) x c _, coe_sum]
  refine Finset.sum_congr rfl fun e _ => ?_
  rw [hf, hg, ← EReal.coe_mul, padK, dif_pos e.isLt, augA]

theorem lanes_B (f g : Fin 128 → EReal) (q : Fin 128 → ℝ) (kR : ℕ → Fin 128 → ℝ) (j : ℕ) (x c : ℝ)
    (hf : ∀ e, f e = (augB q x c e : ℝ)) (hg : ∀ e, g e = (padK kR j (128 + e.val) : ℝ)) :
    ∑ e, f e * g e = ((dotB q (kR j) + x + c * ((j % 256 : ℕ) : ℝ) : ℝ) : EReal) := by
  rw [dotB, ← dot_second q (kR j) x c _, coe_sum]
  refine Finset.sum_congr rfl fun e _ => ?_
  rw [hf, hg, ← EReal.coe_mul, padK, dif_neg (by omega), augB]
  have h : 128 + e.val - 128 = e.val := by omega
  have h2 : (⟨(128 + e.val - 128) % 128, Nat.mod_lt _ (by norm_num)⟩ : Fin 128) = e := Fin.ext (by show (128 + e.val - 128) % 128 = e.val; have := e.isLt; omega)
  rw [h2, h]

/-- The column's offset within its period of 256. -/
theorem col_word (d : ℕ) (h : d < 1024) : (IntOp.subi (BitVec.ofNat 32 d) (IntOp.andi (BitVec.ofNat 32 d) 255#32)).toInt = (d : ℤ) - ((d % 256 : ℕ) : ℤ) := by
  have h' : ∀ d : Fin 1024, (IntOp.subi (BitVec.ofNat 32 d.val) (IntOp.andi (BitVec.ofNat 32 d.val) 255#32)).toInt = (d.val : ℤ) - ((d.val % 256 : ℕ) : ℤ) := by
    decide +kernel
  exact h' ⟨d, h⟩

/-- A row's scalar product with a key together with its shift: rows below 512 belong to the first vector, the others to the second. -/
def raw (qR : Fin 512 → Fin 128 → ℝ) (xA xB : Fin 512 → ℝ) (kR : ℕ → Fin 128 → ℝ) (R : Fin 1024) (j : ℕ) : ℝ :=
  if h : R.val < 512 then dotA (qR ⟨R.val, h⟩) (kR j) + xA ⟨R.val, h⟩ else dotB (qR ⟨R.val - 512, by omega⟩) (kR j) + xB ⟨R.val - 512, by omega⟩

section
variable (cs b : ℝ) (qA qB : FVec Ideal S512x128 .bf16) (qR : Fin 512 → Fin 128 → ℝ) (xA xB : Fin 512 → ℝ) (kR : ℕ → Fin 128 → ℝ) (n : ℕ)
  (hA : ∀ r e, qA (ix2 r e) = (augA (qR r) (xA r) cs e : ℝ)) (hB : ∀ r e, qB (ix2 r e) = (augB (qR r) (xB r) cs e : ℝ))
include hA hB

/-- Both products in one formula. -/
theorem rows_eq (R : Fin 1024) (f g : Fin 128 → EReal) (j : ℕ)
    (hx : ∀ e, f e = (padK kR j e.val : ℝ)) (hy : ∀ e, g e = (padK kR j (128 + e.val) : ℝ)) :
    (if h : R.val < 512 then ∑ e, qA (ix2 ⟨R.val, h⟩ e) * f e else ∑ e, qB (ix2 ⟨R.val - 512, by omega⟩ e) * g e)
      = ((raw qR xA xB kR R j + cs * ((j % 256 : ℕ) : ℝ) : ℝ) : EReal) := by
  unfold raw
  split
  · exact lanes_A _ _ _ kR j _ _ (hA _) hx
  · exact lanes_B _ _ _ kR j _ _ (hB _) hy

theorem past_value (w : BitVec 32) (hn : n % 256 = 0) (tw : (w.toInt : ℝ) = b - n) (R : Fin 1024) (d : ℕ) (hd : d < 1024) :
    ((raw qR xA xB kR R (n + d) + cs * (((n + d) % 256 : ℕ) : ℝ) : ℝ) : EReal)
      + ((cs : EReal) * (FloatOps.sitofp (F := Ideal) .f32 (IntOp.subi (BitVec.ofNat 32 d) (IntOp.andi (BitVec.ofNat 32 d) 255#32)) : EReal) - (cs : EReal) * ((w.toInt : ℝ) : EReal))
      = ((raw qR xA xB kR R (n + d) + cs * (((n + d : ℕ) : ℝ) - b) : ℝ) : EReal) := by
  have h1 : (FloatOps.sitofp (F := Ideal) .f32 (IntOp.subi (BitVec.ofNat 32 d) (IntOp.andi (BitVec.ofNat 32 d) 255#32)) : EReal)
      = (((IntOp.subi (BitVec.ofNat 32 d) (IntOp.andi (BitVec.ofNat 32 d) 255#32)).toInt : ℝ) : EReal) := rfl
  rw [h1, col_word d hd, tw, ← EReal.coe_mul, ← EReal.coe_mul, ← EReal.coe_sub, ← EReal.coe_add]
  have h2 : (n + d) % 256 = d % 256 := by omega
  rw [h2]
  generalize d % 256 = m
  exact congrArg Real.toEReal (by push_cast; ring)

theorem score_wide (w : BitVec 32) (hn : n % 256 = 0) (tw : ((Scalar.subi w 0#32).toInt : ℝ) = b - n) (x y : Vec Ideal S1x1x1024x128 .bf16) (R : Fin 1024) (d : Fin 1024)
    (hx : ∀ k e, x (ix4 0 0 k e) = (padK kR (n + k.val) e.val : ℝ)) (hy : ∀ k e, y (ix4 0 0 k e) = (padK kR (n + k.val) (128 + e.val) : ℝ)) :
    k0_pay49 (cs : EReal) w qA qB x y (ix2 R d) = ((raw qR xA xB kR R (n + d.val) + cs * (((n + d.val : ℕ) : ℝ) - b) : ℝ) : EReal) := by
  rw [← past_value cs b qA qB qR xA xB kR n hA hB _ hn tw R d.val d.isLt, ← rows_eq cs qA qB qR xA xB kR hA hB R _ _ _ (hx d) (hy d)]
  pointwise [k0_pay49, k0_pay48]

theorem score_step (i : grid0.Coords) (k : Fin (k0_t1_loop i).trips) (w : BitVec 32) (hn : n % 256 = 0)
    (tw : ((Scalar.subi w (Scalar.muli (Scalar.addi (Scf.iv 0#32 1#32 k) 1#32) 1024#32)).toInt : ℝ) = b - n) (x y : Vec Ideal S1x1x1024x128 .bf16) (R : Fin 1024) (d : Fin 1024)
    (hx : ∀ k e, x (ix4 0 0 k e) = (padK kR (n + k.val) e.val : ℝ)) (hy : ∀ k e, y (ix4 0 0 k e) = (padK kR (n + k.val) (128 + e.val) : ℝ)) :
    k0_pay52 (k0_pay7 i (cs : EReal) w qA qB (k0_pay48 (cs : EReal)) 0#32 1#32 k x y) (ix2 R d) = ((raw qR xA xB kR R (n + d.val) + cs * (((n + d.val : ℕ) : ℝ) - b) : ℝ) : EReal) := by
  rw [← past_value cs b qA qB qR xA xB kR n hA hB _ hn tw R d.val d.isLt, ← rows_eq cs qA qB qR xA xB kR hA hB R _ _ _ (hx d) (hy d)]
  pointwise [k0_pay52, k0_pay7, k0_pay48]

theorem score_odd (w w' : BitVec 32) (hn : n % 256 = 0) (tw : ((Scalar.subi w (Scalar.muli (Scalar.subi w' 1#32) 512#32)).toInt : ℝ) = b - n)
    (x y : Vec Ideal S1x1x512x128 .bf16) (R : Fin 1024) (d : Fin 512)
    (hx : ∀ k e, x (ix4 0 0 k e) = (padK kR (n + k.val) e.val : ℝ)) (hy : ∀ k e, y (ix4 0 0 k e) = (padK kR (n + k.val) (128 + e.val) : ℝ)) :
    k0_pay16 (cs : EReal) w qA qB w' (k0_pay48 (cs : EReal)) x y (ix2 R d) = ((Real.rpow 2 (raw qR xA xB kR R (n + d.val) + cs * (((n + d.val : ℕ) : ℝ) - b)) : ℝ) : EReal) := by
  rw [← Ideal.exp2_coe, ← past_value cs b qA qB qR xA xB kR n hA hB _ hn tw R d.val (by omega), ← rows_eq cs qA qB qR xA xB kR hA hB R _ _ _ (hx d) (hy d)]
  pointwise [k0_pay16, k0_pay48]
  rfl

theorem score_diag (x y : Vec Ideal S1x1x512x128 .bf16) (bd : Vec Ideal S1024x512 .f32) (R : Fin 1024) (d : Fin 512)
    (hx : ∀ k e, x (ix4 0 0 k e) = (padK kR (n + k.val) e.val : ℝ)) (hy : ∀ k e, y (ix4 0 0 k e) = (padK kR (n + k.val) (128 + e.val) : ℝ)) :
    k0_pay60 qA qB x y bd (ix2 R d) = Ideal.exp2 (((raw qR xA xB kR R (n + d.val) + cs * (((n + d.val) % 256 : ℕ) : ℝ) : ℝ) : EReal) + bd (ix2 R d)) := by
  rw [← rows_eq cs qA qB qR xA xB kR hA hB R _ _ _ (hx d) (hy d)]
  pointwise [k0_pay60]
  rfl

end

end Cert.KernelIdeal.Value
-- ==== Proof.Query.lean ====
/-
The augmented query rows and the bias of the diagonal block, as real numbers.
-/
module

public import proofs.«01_k».proof.Proof.Scores
public import proofs.«01_k».proof.Proof.Sums
public import proofs.«01_k».proof.Proof.Words
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic

/-! ### Words -/

theorem sel_if {α : Type} (p : Prop) [Decidable p] (a b : α) : Scalar.select (if p then 1#1 else 0#1) a b = if p then a else b := by
  split <;> rfl

theorem lane_slt (e : Fin 128) : IntOp.cmpi .slt (BitVec.ofNat 32 e.val) 64#32 = if e.val < 64 then 1#1 else 0#1 := by
  revert e; decide +kernel

theorem lane_sge (e : Fin 128) : IntOp.xori (IntOp.cmpi .slt (BitVec.ofNat 32 e.val) 64#32) 1#1 = if 64 ≤ e.val then 1#1 else 0#1 := by
  revert e; decide +kernel

theorem lane_eq (e : Fin 128) (n : ℕ) (hn : n < 128) : IntOp.cmpi .eq (BitVec.ofNat 32 e.val) (BitVec.ofNat 32 n) = if e.val = n then 1#1 else 0#1 := by
  have h : ∀ e n : Fin 128, IntOp.cmpi .eq (BitVec.ofNat 32 e.val) (BitVec.ofNat 32 n.val) = if e.val = n.val then 1#1 else 0#1 := by decide +kernel
  exact h e ⟨n, hn⟩

/-- The quotient by 64 rounded down, as the program spells it on words. -/
def fdiv (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem fdiv_eq (k : Fin 512) : fdiv (BitVec.ofNat 32 k.val) = BitVec.ofNat 32 (k.val / 64) := by
  revert k; decide +kernel

theorem row_word (R : Fin 1024) : IntOp.remsi .vector (BitVec.ofNat 32 R.val) 512#32 = BitVec.ofNat 32 (R.val % 512) := by
  revert R; decide +kernel

theorem chunk_le (k r : Fin 512) : IntOp.cmpi .sle (BitVec.ofNat 32 (k.val / 64)) (BitVec.ofNat 32 (r.val / 64)) = if k.val / 64 ≤ r.val / 64 then 1#1 else 0#1 := by
  have h : ∀ a b : Fin 8, IntOp.cmpi .sle (BitVec.ofNat 32 a.val) (BitVec.ofNat 32 b.val) = if a.val ≤ b.val then 1#1 else 0#1 := by decide +kernel
  exact h ⟨k.val / 64, by omega⟩ ⟨r.val / 64, by omega⟩

theorem nat_toInt (a : ℕ) (ha : a < 65536) : (BitVec.ofNat 32 a).toInt = (a : ℤ) := by
  rw [BitVec.toInt_eq_toNat_cond, BitVec.toNat_ofNat]
  split <;> omega

theorem sub_toInt (a b : ℕ) (ha : a < 65536) (hb : b < 65536) : (IntOp.subi (BitVec.ofNat 32 a) (BitVec.ofNat 32 b)).toInt = (a : ℤ) - b := by
  unfold IntOp.subi
  rw [BitVec.toInt_sub, nat_toInt a ha, nat_toInt b hb]
  simp only [Int.bmod_def]
  omega

theorem period_word (k : Fin 512) : IntOp.subi (BitVec.ofNat 32 k.val) (IntOp.andi (BitVec.ofNat 32 k.val) 255#32) = BitVec.ofNat 32 (k.val - k.val % 256) := by
  revert k; decide +kernel

theorem double_word (k : Fin 512) : IntOp.muli 2#32 (BitVec.ofNat 32 k.val) = BitVec.ofNat 32 (2 * k.val) := by
  revert k; decide +kernel

theorem excess_word (k r : Fin 512) : IntOp.maxsi (IntOp.subi (BitVec.ofNat 32 k.val) (BitVec.ofNat 32 r.val)) 0#32 = BitVec.ofNat 32 (k.val - r.val) := by
  have h := sub_toInt k.val r.val (by omega) (by omega)
  unfold IntOp.maxsi
  rw [BitVec.slt, h]
  apply BitVec.eq_of_toInt_eq
  by_cases hk : r.val < k.val
  · rw [if_pos (by simp; omega), h, nat_toInt _ (by omega)]
    omega
  · rw [if_neg (by simp; omega), nat_toInt 0 (by omega), nat_toInt (k.val - r.val) (by omega)]
    omega

theorem bias_word (k r : Fin 512) :
    (IntOp.subi (IntOp.subi (BitVec.ofNat 32 k.val) (IntOp.andi (BitVec.ofNat 32 k.val) 255#32))
      (IntOp.muli 2#32 (IntOp.maxsi (IntOp.subi (BitVec.ofNat 32 k.val) (BitVec.ofNat 32 r.val)) 0#32))).toInt
      = ((k.val - k.val % 256 : ℕ) : ℤ) - ((2 * (k.val - r.val) : ℕ) : ℤ) := by
  rw [excess_word, period_word]
  have := double_word ⟨k.val - r.val, by omega⟩
  dsimp only at this
  rw [this, sub_toInt _ _ (by omega) (by omega)]

/-! ### The bound's square roots -/

theorem norm_A (x4 : Vec Ideal S1x1x512x128 .bf16) (x9 : Vec Ideal S1x1x128 .f32) (qR : Fin 512 → Fin 128 → ℝ) (km : ℝ) (h0 : 0 ≤ km)
    (hq : ∀ r e, x4 (ix4 0 0 r e) = (qR r e : ℝ)) (hk : x9 (ix3 0 0 0) = (km : ℝ)) (r : Fin 512) :
    ∃ β : ℝ, k0_pay24 x4 x9 (ix2 r 0) = (β : EReal) := by
  refine ⟨Real.sqrt ((∑ e : Fin 128, if e.val < 64 then qR r e * qR r e else 0) * km), ?_⟩
  have h : k0_pay24 x4 x9 (ix2 r 0) = Ideal.sqrt ((∑ e : Fin 128, Scalar.select (IntOp.cmpi .slt (BitVec.ofNat 32 e.val) 64#32) (x4 (ix4 0 0 r e) * x4 (ix4 0 0 r e)) 0) * x9 (ix3 0 0 0)) := by
    pointwise [k0_pay24, k0_pay21, k0_pay22, k0_pay23, k0_pay20]
  have h2 : (∑ e : Fin 128, Scalar.select (IntOp.cmpi .slt (BitVec.ofNat 32 e.val) 64#32) (x4 (ix4 0 0 r e) * x4 (ix4 0 0 r e)) 0) = ((∑ e : Fin 128, if e.val < 64 then qR r e * qR r e else 0 : ℝ) : EReal) := by
    rw [coe_sum]
    refine Finset.sum_congr rfl fun e _ => ?_
    rw [lane_slt, sel_if, hq]
    split <;> simp
  rw [h, h2, hk, ← EReal.coe_mul, Ideal.sqrt_coe, if_neg]
  exact not_lt.mpr (mul_nonneg (Finset.sum_nonneg fun e _ => by split <;> [exact mul_self_nonneg _; exact le_rfl]) h0)

theorem norm_B (x4 : Vec Ideal S1x1x512x128 .bf16) (x9 : Vec Ideal S1x1x128 .f32) (qR : Fin 512 → Fin 128 → ℝ) (km : ℝ) (h0 : 0 ≤ km)
    (hq : ∀ r e, x4 (ix4 0 0 r e) = (qR r e : ℝ)) (hk : x9 (ix3 0 0 64) = (km : ℝ)) (r : Fin 512) :
    ∃ β : ℝ, k0_pay25 x4 x9 (ix2 r 0) = (β : EReal) := by
  refine ⟨Real.sqrt ((∑ e : Fin 128, if e.val < 64 then 0 else qR r e * qR r e) * km), ?_⟩
  have h : k0_pay25 x4 x9 (ix2 r 0) = Ideal.sqrt ((∑ e : Fin 128, Scalar.select (IntOp.cmpi .slt (BitVec.ofNat 32 e.val) 64#32) 0 (x4 (ix4 0 0 r e) * x4 (ix4 0 0 r e))) * x9 (ix3 0 0 64)) := by
    pointwise [k0_pay25, k0_pay21, k0_pay22, k0_pay23, k0_pay20]
  have h2 : (∑ e : Fin 128, Scalar.select (IntOp.cmpi .slt (BitVec.ofNat 32 e.val) 64#32) 0 (x4 (ix4 0 0 r e) * x4 (ix4 0 0 r e))) = ((∑ e : Fin 128, if e.val < 64 then 0 else qR r e * qR r e : ℝ) : EReal) := by
    rw [coe_sum]
    refine Finset.sum_congr rfl fun e _ => ?_
    rw [lane_slt, sel_if, hq]
    split <;> simp
  rw [h, h2, hk, ← EReal.coe_mul, Ideal.sqrt_coe, if_neg]
  exact not_lt.mpr (mul_nonneg (Finset.sum_nonneg fun e _ => by split <;> [exact le_rfl; exact mul_self_nonneg _]) h0)

/-! ### The query rows with their free lanes filled -/

theorem coe_sub_self (x : ℝ) : (x : EReal) - (x : EReal) = 0 := by
  rw [← EReal.coe_sub, sub_self, EReal.coe_zero]

theorem shift_A (cs : ℝ) (n : FVec Ideal S512x1 .f32) (β : Fin 512 → ℝ) (hn : ∀ r, n (ix2 r 0) = (β r : ℝ)) (r : Fin 512) :
    k0_pay31 (cs : EReal) n (ix2 r 0) = ((-(cs * r.val + β r) : ℝ) : EReal) := by
  have h : k0_pay31 (cs : EReal) n (ix2 r 0) = 0 - ((cs : EReal) * (((BitVec.ofNat 32 r.val).toInt : ℝ) : EReal) + n (ix2 r 0)) := by
    pointwise [k0_pay31, k0_pay28, k0_pay26, k0_pay27]
    rfl
  have hw := nat_toInt r.val (by omega)
  rw [h, hn, hw, ← EReal.coe_mul, ← EReal.coe_add, ← EReal.coe_zero, ← EReal.coe_sub]
  simp

theorem shift_B (cs : ℝ) (n : FVec Ideal S512x1 .f32) (β : Fin 512 → ℝ) (hn : ∀ r, n (ix2 r 0) = (β r : ℝ)) (r : Fin 512) :
    k0_pay39 (cs : EReal) n k0_pay28 (ix2 r 0) = ((-(cs * r.val + β r) : ℝ) : EReal) := by
  have h : k0_pay39 (cs : EReal) n k0_pay28 (ix2 r 0) = 0 - ((cs : EReal) * (((BitVec.ofNat 32 r.val).toInt : ℝ) : EReal) + n (ix2 r 0)) := by
    pointwise [k0_pay39, k0_pay28]
    rfl
  have hw := nat_toInt r.val (by omega)
  rw [h, hn, hw, ← EReal.coe_mul, ← EReal.coe_add, ← EReal.coe_zero, ← EReal.coe_sub]
  simp

theorem query_A (cs : ℝ) (x4 : Vec Ideal S1x1x512x128 .bf16) (n : FVec Ideal S512x1 .f32) (qR : Fin 512 → Fin 128 → ℝ) (β : Fin 512 → ℝ)
    (hq : ∀ r e, x4 (ix4 0 0 r e) = (qR r e : ℝ)) (hn : ∀ r, n (ix2 r 0) = (β r : ℝ)) (r : Fin 512) (e : Fin 128) :
    k0_pay38 (k0_pay20 x4) lanes k0_pay21 (k0_pay34 (cs : EReal) n) (k0_pay35 (cs : EReal) n) (cs : EReal) (0 : EReal) (0 : EReal) (k0_pay36 (cs : EReal) lanes n) k0_pay37 (ix2 r e)
      = (augA (qR r) (-(cs * r.val + β r)) cs e : ℝ) := by
  have hp := shift_A cs n β hn r
  pointwise [k0_pay38, k0_pay20, lanes, k0_pay21, k0_pay34, k0_pay35, k0_pay36, k0_pay37, k0_pay32, k0_pay33]
  rw [hp, coe_sub_self, sub_zero, hq]
  simp only [lane_slt, lane_eq e 64 (by norm_num), lane_eq e 65 (by norm_num), lane_eq e 66 (by norm_num), lane_eq e 67 (by norm_num), lane_eq e 68 (by norm_num), lane_eq e 69 (by norm_num), sel_if, augA]
  generalize -(cs * (r.val : ℝ) + β r) = x
  split_ifs <;> first | rfl | omega

theorem query_B (cs : ℝ) (x4 : Vec Ideal S1x1x512x128 .bf16) (n : FVec Ideal S512x1 .f32) (qR : Fin 512 → Fin 128 → ℝ) (β : Fin 512 → ℝ)
    (hq : ∀ r e, x4 (ix4 0 0 r e) = (qR r e : ℝ)) (hn : ∀ r, n (ix2 r 0) = (β r : ℝ)) (r : Fin 512) (e : Fin 128) :
    k0_pay47 (k0_pay20 x4) lanes k0_pay21 (k0_pay43 (cs : EReal) n k0_pay28) (cs : EReal) (0 : EReal) (0 : EReal) (k0_pay44 (cs : EReal) lanes n k0_pay28) (k0_pay45 lanes) (k0_pay46 (cs : EReal) n k0_pay28) (ix2 r e)
      = (augB (qR r) (-(cs * r.val + β r)) cs e : ℝ) := by
  have hp := shift_B cs n β hn r
  generalize (k0_pay28 : FVec Ideal S512x1 .f32) = rows at hp ⊢
  pointwise [k0_pay47, k0_pay20, lanes, k0_pay21, k0_pay43, k0_pay44, k0_pay45, k0_pay46, k0_pay40, k0_pay41, k0_pay42]
  rw [hp, coe_sub_self, sub_zero, hq]
  simp only [lane_sge, lane_eq e 0 (by norm_num), lane_eq e 1 (by norm_num), lane_eq e 2 (by norm_num), lane_eq e 3 (by norm_num), lane_eq e 4 (by norm_num), lane_eq e 5 (by norm_num), sel_if, augB]
  generalize -(cs * (r.val : ℝ) + β r) = x
  split_ifs <;> first | rfl | omega

/-! ### The diagonal block's bias -/

theorem bias_eq (cs : ℝ) (R : Fin 1024) (k : Fin 512) :
    diagBias (F := Ideal) (cs : EReal) (ix2 R k) = if k.val / 64 ≤ R.val % 512 / 64 then ((cs * (((k.val - k.val % 256 : ℕ) : ℝ) - 2 * ((k.val - R.val % 512 : ℕ) : ℝ)) : ℝ) : EReal) else ⊥ := by
  have hr : R.val % 512 < 512 := Nat.mod_lt _ (by norm_num)
  pointwise [diagBias, k0_pay19, k0_pay2, k0_pay3, k0_pay4, k0_pay5, k0_pay6]
  rw [row_word R]
  have h1 := chunk_le k ⟨R.val % 512, hr⟩
  have h2 := fdiv_eq ⟨R.val % 512, hr⟩
  have h3 := bias_word k ⟨R.val % 512, hr⟩
  dsimp only at h1 h2 h3
  rw [← fdiv_eq k, ← h2] at h1
  unfold fdiv at h1
  rw [h1, sel_if]
  refine if_congr Iff.rfl ?_ rfl
  show (cs : EReal) * (((IntOp.subi (IntOp.subi (BitVec.ofNat 32 k.val) (IntOp.andi (BitVec.ofNat 32 k.val) 255#32))
      (IntOp.muli 2#32 (IntOp.maxsi (IntOp.subi (BitVec.ofNat 32 k.val) (BitVec.ofNat 32 (R.val % 512))) 0#32))).toInt : ℝ) : EReal) = _
  rw [h3, ← EReal.coe_mul]
  exact congrArg Real.toEReal (by push_cast; ring)

end Cert.KernelIdeal.Value
-- ==== Proof.Pass.lean ====
/-
The pass over the key blocks: the accumulators hold the weighted sum of the values and the sum of the weights.
-/
module

public import proofs.«01_k».proof.Proof.Steps
public import proofs.«01_k».proof.Proof.Query
public import proofs.«01_k».proof.Proof.Sums
public import proofs.«01_k».proof.Proof.Words
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic

/-! ### Blocks of a window -/

theorem ld_keys_wide (x : Vec Ideal S1x1x16384x256 .bf16) (off : Fin 4 → ℕ) (inb : ∀ a, off a + S1x1x1024x128.size a ≤ S1x1x16384x256.size a) (s l : ℕ) (hoff : off = ![0, 0, s, l])
    (k : Fin 1024) (e : Fin 128) (hs : s + k.val < 16384) (hl : l + e.val < 256) :
    View.ld x (Rect.unit (s := S1x1x16384x256) off S1x1x1024x128.size inb) (ix4 0 0 k e) = x (ix4 0 0 ⟨s + k.val, hs⟩ ⟨l + e.val, hl⟩) := by
  subst hoff
  exact congrArg x (funext fun a => Fin.ext (by fin_cases a <;> simp [LoadRect.idx, Rect.unit, ix4]))

theorem ld_keys_odd (x : Vec Ideal S1x1x16384x256 .bf16) (off : Fin 4 → ℕ) (inb : ∀ a, off a + S1x1x512x128.size a ≤ S1x1x16384x256.size a) (s l : ℕ) (hoff : off = ![0, 0, s, l])
    (k : Fin 512) (e : Fin 128) (hs : s + k.val < 16384) (hl : l + e.val < 256) :
    View.ld x (Rect.unit (s := S1x1x16384x256) off S1x1x512x128.size inb) (ix4 0 0 k e) = x (ix4 0 0 ⟨s + k.val, hs⟩ ⟨l + e.val, hl⟩) := by
  subst hoff
  exact congrArg x (funext fun a => Fin.ext (by fin_cases a <;> simp [LoadRect.idx, Rect.unit, ix4]))

theorem ld_keys_diag (x : Vec Ideal S1x1x512x256 .bf16) (off : Fin 4 → ℕ) (inb : ∀ a, off a + S1x1x512x128.size a ≤ S1x1x512x256.size a) (l : ℕ) (hoff : off = ![0, 0, 0, l])
    (k : Fin 512) (e : Fin 128) (hl : l + e.val < 256) :
    View.ld x (Rect.unit (s := S1x1x512x256) off S1x1x512x128.size inb) (ix4 0 0 k e) = x (ix4 0 0 k ⟨l + e.val, hl⟩) := by
  subst hoff
  exact congrArg x (funext fun a => Fin.ext (by fin_cases a <;> simp [LoadRect.idx, Rect.unit, ix4]))

theorem ld_values_wide (x : Vec Ideal S1x1x16384x128 .bf16) (off : Fin 4 → ℕ) (inb : ∀ a, off a + S1x1x1024x128.size a ≤ S1x1x16384x128.size a) (s : ℕ) (hoff : off = ![0, 0, s, 0])
    (k : Fin 1024) (d : Fin 128) (hs : s + k.val < 16384) :
    View.ld x (Rect.unit (s := S1x1x16384x128) off S1x1x1024x128.size inb) (ix4 0 0 k d) = x (ix4 0 0 ⟨s + k.val, hs⟩ d) := by
  subst hoff
  exact congrArg x (funext fun a => Fin.ext (by fin_cases a <;> simp [LoadRect.idx, Rect.unit, ix4]))

theorem ld_values_odd (x : Vec Ideal S1x1x16384x128 .bf16) (off : Fin 4 → ℕ) (inb : ∀ a, off a + S1x1x512x128.size a ≤ S1x1x16384x128.size a) (s : ℕ) (hoff : off = ![0, 0, s, 0])
    (k : Fin 512) (d : Fin 128) (hs : s + k.val < 16384) :
    View.ld x (Rect.unit (s := S1x1x16384x128) off S1x1x512x128.size inb) (ix4 0 0 k d) = x (ix4 0 0 ⟨s + k.val, hs⟩ d) := by
  subst hoff
  exact congrArg x (funext fun a => Fin.ext (by fin_cases a <;> simp [LoadRect.idx, Rect.unit, ix4]))

/-! ### Weights -/

/-- The weight the program gives key `j` in row `R` of the query block that starts at `n`. -/
def wt (cs : ℝ) (qR : Fin 512 → Fin 128 → ℝ) (xA xB : Fin 512 → ℝ) (kR : ℕ → Fin 128 → ℝ) (n : ℕ) (R : Fin 1024) (j : ℕ) : ℝ :=
  if j / 64 ≤ (n + R.val % 512) / 64 then Real.rpow 2 (raw qR xA xB kR R j + cs * ((j : ℝ) - n - 2 * ((j - (n + R.val % 512) : ℕ) : ℝ))) else 0

theorem wt_past (cs : ℝ) (qR : Fin 512 → Fin 128 → ℝ) (xA xB : Fin 512 → ℝ) (kR : ℕ → Fin 128 → ℝ) (n : ℕ) (R : Fin 1024) (j : ℕ) (h : j < n) :
    wt cs qR xA xB kR n R j = Real.rpow 2 (raw qR xA xB kR R j + cs * ((j : ℝ) - n)) := by
  unfold wt
  rw [if_pos (Nat.div_le_div_right (by omega)), Nat.sub_eq_zero_of_le (by omega), Nat.cast_zero, mul_zero, sub_zero]

section
variable (i : grid0.Coords) (cs : ℝ) (qA qB : FVec Ideal S512x128 .bf16) (qR : Fin 512 → Fin 128 → ℝ) (xA xB : Fin 512 → ℝ) (kR vR : ℕ → Fin 128 → ℝ)
  (x5 : Vec Ideal S1x1x16384x256 .bf16) (x6 : Vec Ideal S1x1x16384x128 .bf16)
  (hA : ∀ r e, qA (ix2 r e) = (augA (qR r) (xA r) cs e : ℝ)) (hB : ∀ r e, qB (ix2 r e) = (augB (qR r) (xB r) cs e : ℝ))
  (h5 : ∀ (j : Fin 16384) (e : Fin 256), x5 (ix4 0 0 j e) = (padK kR j.val e.val : ℝ)) (h6 : ∀ (j : Fin 16384) (d : Fin 128), x6 (ix4 0 0 j d) = (vR j.val d : ℝ))

include hA hB h5 in
theorem score_first (hq : 0 < (i 2).val / 2) (R k : Fin 1024) :
    score0 i (cs : EReal) qA qB x5 (ix2 R k) = ((raw qR xA xB kR R k.val + cs * ((k.val : ℝ) - ((512 * (i 2).val : ℕ) : ℝ)) : ℝ) : EReal) := by
  have hw : Scalar.subi (w51 i) 0#32 = w51 i := by unfold Scalar.subi IntOp.subi; exact BitVec.sub_zero _
  have h := score_wide cs ((512 * (i 2).val : ℕ) : ℝ) qA qB qR xA xB kR 0 hA hB (w51 i) rfl (by rw [hw, w51_int]; push_cast; ring)
    (View.ld x5 (Rect.unit (s := S1x1x16384x256) ![0, 0, 0, 0] S1x1x1024x128.size inb_S1x1x16384x256_S1x1x1024x128_0_0_0_0))
    (View.ld x5 (Rect.unit (s := S1x1x16384x256) ![0, 0, 0, 128] S1x1x1024x128.size inb_S1x1x16384x256_S1x1x1024x128_0_0_0_128)) R k
    (fun k e => by rw [ld_keys_wide x5 _ _ 0 0 rfl k e (by omega) (by omega), h5]; simp only [zero_add])
    (fun k e => by rw [ld_keys_wide x5 _ _ 0 128 rfl k e (by omega) (by omega), h5])
  simp only [zero_add] at h
  exact h

include hA hB h5 h6 in
theorem run_state (hq : 0 < (i 2).val / 2) (n : ℕ) (hn : n ≤ (k0_t1_loop i).trips) :
    let st := runSt i (cs : EReal) qA qB x5 x6 (k0_pay29 (F := Ideal), k0_pay30 (F := Ideal), score0 i (cs : EReal) qA qB x5) n
    (∀ R d, st.1 (ix2 R d) = ((∑ j ∈ Finset.range (1024 * n), wt cs qR xA xB kR (512 * (i 2).val) R j * vR j d : ℝ) : EReal))
      ∧ (∀ R : Fin 1024, ∑ d : Fin 128, st.2.1 (ix2 R d) = ((∑ j ∈ Finset.range (1024 * n), wt cs qR xA xB kR (512 * (i 2).val) R j : ℝ) : EReal))
      ∧ ∀ R k : Fin 1024, st.2.2 (ix2 R k) = ((raw qR xA xB kR R (1024 * n + k.val) + cs * (((1024 * n + k.val : ℕ) : ℝ) - ((512 * (i 2).val : ℕ) : ℝ)) : ℝ) : EReal) := by
  induction n with
  | zero =>
    refine ⟨fun R d => ?_, fun R => ?_, fun R k => ?_⟩
    · simp only [mul_zero, Finset.range_zero, Finset.sum_empty, EReal.coe_zero]
      exact zero_acc R d
    · simp only [mul_zero, Finset.range_zero, Finset.sum_empty, EReal.coe_zero]
      exact Finset.sum_eq_zero fun d _ => zero_sum R d
    · simp only [mul_zero, zero_add]
      exact score_first i cs qA qB qR xA xB kR x5 hA hB h5 hq R k
  | succ n ih =>
    obtain ⟨h1, h2, h3⟩ := ih (by omega)
    have hi : (i 2).val < 32 := (i 2).isLt
    have ht := trips_eq i
    obtain ⟨o5, o6, o7, hw⟩ := off5_eq i ⟨n, by omega⟩
    intro st
    have hst : st = _ := runSt_succ i (cs : EReal) qA qB x5 x6 (k0_pay29 (F := Ideal), k0_pay30 (F := Ideal), score0 i (cs : EReal) qA qB x5) ⟨n, by omega⟩
    have hs : ∀ R k : Fin 1024, Ideal.exp2 ((runSt i (cs : EReal) qA qB x5 x6 (k0_pay29 (F := Ideal), k0_pay30 (F := Ideal), score0 i (cs : EReal) qA qB x5) n).2.2 (ix2 R k))
        = (wt cs qR xA xB kR (512 * (i 2).val) R (1024 * n + k.val) : ℝ) := fun R k => by
      rw [h3, Ideal.exp2_coe, wt_past _ _ _ _ _ _ _ _ (by omega)]
    rw [hst]
    refine ⟨fun R d => ?_, fun R => ?_, fun R k => ?_⟩
    · unfold tripSt
      rw [acc_step]
      exact acc_wide _ _ _ R d _ (fun j => vR j d) _ (hs R) (fun k => by
        rw [ld_values_wide x6 _ _ (n * 1024) o7 k d (by omega), h6]
        exact congrArg (fun m => ((vR (m + k.val) d : ℝ) : EReal)) (mul_comm n 1024)) (h1 R d)
    · unfold tripSt
      rw [sum_step]
      exact sum_wide _ _ R _ _ (hs R) (h2 R)
    · unfold tripSt
      exact score_step cs ((512 * (i 2).val : ℕ) : ℝ) qA qB qR xA xB kR (1024 * (n + 1)) hA hB i ⟨n, by omega⟩ (w51 i) (by omega) (by rw [hw]; push_cast; ring) _ _ R k
        (fun k e => by rw [ld_keys_wide x5 _ _ ((n + 1) * 1024) 0 o5 k e (by omega) (by omega), h5]; simp only [zero_add, mul_comm])
        (fun k e => by rw [ld_keys_wide x5 _ _ ((n + 1) * 1024) 128 o6 k e (by omega) (by omega), h5]; simp only [mul_comm])

include hA hB h5 h6 in
theorem wide_state :
    (∀ R d, (wide i (cs : EReal) qA qB x5 x6).1 (ix2 R d) = ((∑ j ∈ Finset.range (1024 * ((i 2).val / 2)), wt cs qR xA xB kR (512 * (i 2).val) R j * vR j d : ℝ) : EReal))
      ∧ (∀ R : Fin 1024, ∑ d : Fin 128, (wide i (cs : EReal) qA qB x5 x6).2 (ix2 R d) = ((∑ j ∈ Finset.range (1024 * ((i 2).val / 2)), wt cs qR xA xB kR (512 * (i 2).val) R j : ℝ) : EReal)) := by
  have hi : (i 2).val < 32 := (i 2).isLt
  unfold wide
  by_cases hq : 0 < (i 2).val / 2
  · have hc := (cond3_iff i).mpr hq
    rw [dif_pos hc]
    have ht := trips_eq i
    obtain ⟨h1, h2, h3⟩ := run_state i cs qA qB qR xA xB kR vR x5 x6 hA hB h5 h6 hq _ le_rfl
    have e : 1024 * ((i 2).val / 2) = 1024 * (k0_t1_loop i).trips + 1024 := by omega
    have hs : ∀ R k : Fin 1024, Ideal.exp2 ((runSt i (cs : EReal) qA qB x5 x6 (k0_pay29 (F := Ideal), k0_pay30 (F := Ideal), score0 i (cs : EReal) qA qB x5) (k0_t1_loop i).trips).2.2 (ix2 R k))
        = (wt cs qR xA xB kR (512 * (i 2).val) R (1024 * (k0_t1_loop i).trips + k.val) : ℝ) := fun R k => by
      rw [h3, Ideal.exp2_coe, wt_past _ _ _ _ _ _ _ _ (by omega)]
    rw [e]
    refine ⟨fun R d => ?_, fun R => ?_⟩
    · exact acc_wide _ _ _ R d _ (fun j => vR j d) _ (hs R) (fun k => by
        rw [ld_values_wide x6 _ _ (((i 2).val / 2 - 1) * 1024) (off11_eq i hq) k d (by omega), h6]
        simp only [ht, mul_comm]) (h1 R d)
    · exact sum_wide _ _ R _ _ (hs R) (h2 R)
  · rw [dif_neg (fun h => hq ((cond3_iff i).mp h))]
    have e : (i 2).val / 2 = 0 := by omega
    rw [e]
    refine ⟨fun R d => ?_, fun R => ?_⟩
    · simp only [mul_zero, Finset.range_zero, Finset.sum_empty, EReal.coe_zero]
      exact zero_acc R d
    · simp only [mul_zero, Finset.range_zero, Finset.sum_empty, EReal.coe_zero]
      exact Finset.sum_eq_zero fun d _ => zero_sum R d

include hA hB h5 h6 in
theorem past_state :
    (∀ R d, (past i (cs : EReal) qA qB x5 x6).1 (ix2 R d) = ((∑ j ∈ Finset.range (512 * (i 2).val), wt cs qR xA xB kR (512 * (i 2).val) R j * vR j d : ℝ) : EReal))
      ∧ (∀ R : Fin 1024, ∑ d : Fin 128, (past i (cs : EReal) qA qB x5 x6).2 (ix2 R d) = ((∑ j ∈ Finset.range (512 * (i 2).val), wt cs qR xA xB kR (512 * (i 2).val) R j : ℝ) : EReal)) := by
  have hi : (i 2).val < 32 := (i 2).isLt
  obtain ⟨h1, h2⟩ := wide_state i cs qA qB qR xA xB kR vR x5 x6 hA hB h5 h6
  unfold past
  by_cases hq : (i 2).val % 2 = 1
  · have hc := (cond4_iff i).mpr hq
    rw [dif_pos hc]
    obtain ⟨o12, o13, o14, hw⟩ := off12_eq i hq
    have e : 512 * (i 2).val = 1024 * ((i 2).val / 2) + 512 := by omega
    have hs : ∀ (R : Fin 1024) (k : Fin 512), k0_pay16 (cs : EReal) (w51 i) qA qB (w163 i) (k0_pay48 (cs : EReal))
        (View.ld x5 (Rect.unit (s := S1x1x16384x256) (k0_off12 i) S1x1x512x128.size (k0_off12_inb i hc)))
        (View.ld x5 (Rect.unit (s := S1x1x16384x256) (k0_off13 i) S1x1x512x128.size (k0_off13_inb i hc))) (ix2 R k)
        = (wt cs qR xA xB kR (512 * (i 2).val) R (1024 * ((i 2).val / 2) + k.val) : ℝ) := fun R k => by
      rw [wt_past _ _ _ _ _ _ _ _ (by omega)]
      exact score_odd cs ((512 * (i 2).val : ℕ) : ℝ) qA qB qR xA xB kR (1024 * ((i 2).val / 2)) hA hB (w51 i) (w163 i) (by omega)
        (by rw [hw, e]; push_cast; ring) _ _ R k
        (fun k e => by
          rw [ld_keys_odd x5 _ _ (((i 2).val - 1) * 512) 0 o12 k e (by omega) (by omega), h5]
          have : ((i 2).val - 1) * 512 = 1024 * ((i 2).val / 2) := by omega
          simp only [zero_add, this])
        (fun k e => by
          rw [ld_keys_odd x5 _ _ (((i 2).val - 1) * 512) 128 o13 k e (by omega) (by omega), h5]
          have : ((i 2).val - 1) * 512 = 1024 * ((i 2).val / 2) := by omega
          simp only [this])
    refine ⟨fun R d => ?_, fun R => ?_⟩
    · have h := acc_odd (k0_pay18 (cs : EReal) (w51 i) qA qB (w163 i) (k0_pay48 (cs : EReal))
        (View.ld x5 (Rect.unit (s := S1x1x16384x256) (k0_off12 i) S1x1x512x128.size (k0_off12_inb i hc)))
        (View.ld x5 (Rect.unit (s := S1x1x16384x256) (k0_off13 i) S1x1x512x128.size (k0_off13_inb i hc))))
        (View.ld x6 (Rect.unit (s := S1x1x16384x128) (k0_off14 i) S1x1x512x128.size (k0_off14_inb i hc))) _ R d _ (fun j => vR j d) _ (hs R) (fun k => by
        rw [ld_values_odd x6 _ (k0_off14_inb i hc) (((i 2).val - 1) * 512) o14 k d (by omega), h6]
        have : ((i 2).val - 1) * 512 = 1024 * ((i 2).val / 2) := by omega
        simp only [this]) (h1 R d)
      rw [← e] at h
      exact h
    · have h := sum_odd (cs : EReal) _ _ _ _ _ _ _ _ R _ _ (hs R) (h2 R)
      rw [← e] at h
      exact h
  · rw [dif_neg (fun h => hq ((cond4_iff i).mp h))]
    have e : 512 * (i 2).val = 1024 * ((i 2).val / 2) := by omega
    rw [← e] at h1 h2
    exact ⟨h1, h2⟩

/-- The diagonal block's weights. -/
theorem diag_weight (x y : Vec Ideal S1x1x512x128 .bf16)
    (hA : ∀ r e, qA (ix2 r e) = (augA (qR r) (xA r) cs e : ℝ)) (hB : ∀ r e, qB (ix2 r e) = (augB (qR r) (xB r) cs e : ℝ))
    (hx : ∀ k e, x (ix4 0 0 k e) = (padK kR (512 * (i 2).val + k.val) e.val : ℝ)) (hy : ∀ k e, y (ix4 0 0 k e) = (padK kR (512 * (i 2).val + k.val) (128 + e.val) : ℝ))
    (R : Fin 1024) (k : Fin 512) :
    k0_pay60 qA qB x y (diagBias (F := Ideal) (cs : EReal)) (ix2 R k) = (wt cs qR xA xB kR (512 * (i 2).val) R (512 * (i 2).val + k.val) : ℝ) := by
  rw [score_diag cs qA qB qR xA xB kR _ hA hB x y _ R k hx hy, bias_eq, wt]
  have hc : (512 * (i 2).val + k.val) / 64 ≤ (512 * (i 2).val + R.val % 512) / 64 ↔ k.val / 64 ≤ R.val % 512 / 64 := by omega
  by_cases h : k.val / 64 ≤ R.val % 512 / 64
  · rw [if_pos h, if_pos (hc.mpr h), ← EReal.coe_add, Ideal.exp2_coe]
    have e1 : (512 * (i 2).val + k.val) % 256 = k.val % 256 := by omega
    have e2 : 512 * (i 2).val + k.val - (512 * (i 2).val + R.val % 512) = k.val - R.val % 512 := by omega
    have e3 : ((k.val - k.val % 256 : ℕ) : ℝ) = (k.val : ℝ) - ((k.val % 256 : ℕ) : ℝ) := Nat.cast_sub (Nat.mod_le _ _)
    rw [e1, e2, e3]
    generalize k.val % 256 = m
    generalize k.val - R.val % 512 = m'
    exact congrArg (fun z : ℝ => ((Real.rpow 2 z : ℝ) : EReal)) (by push_cast; ring)
  · rw [if_neg h, if_neg (fun h' => h (hc.mp h')), EReal.add_bot, Ideal.exp2_bot, EReal.coe_zero]

end

end Cert.KernelIdeal.Value
-- ==== Proof.Attention.lean ====
/-
The mathematics of the layer: weighted means of the values under two score vectors, their difference, and its normalization.
-/
module

public import Idealize.ShloMosaic.Lib.Pointwise
public import Mathlib.Analysis.SpecialFunctions.Pow.Real

@[expose] public section

noncomputable section

namespace Cert.Attention

open Idealize.ShloMosaic

/-- The score of key row `k` at position `j` for query row `q` at position `p`, in the vector `s`. -/
def score (q k : Fin 128 → ℝ) (slope : ℝ) (s : Fin 2) (p j : ℕ) : ℝ :=
  (1 / 8) * (∑ e : Fin 64, q ⟨64 * s.val + e.val, by omega⟩ * k ⟨64 * s.val + e.val, by omega⟩) - slope * |(p : ℝ) - j|

/-- Its weight before normalization: keys of later chunks of 64 have none. -/
def weight (q : Fin 128 → ℝ) (k : ℕ → Fin 128 → ℝ) (slope : ℝ) (s : Fin 2) (p j : ℕ) : ℝ :=
  if j / 64 ≤ p / 64 then Real.exp (score q (k j) slope s p j) else 0

/-- The weighted mean of the values. -/
def mean (q : Fin 128 → ℝ) (k v : ℕ → Fin 128 → ℝ) (slope : ℝ) (s : Fin 2) (p : ℕ) (d : Fin 128) : ℝ :=
  (∑ j ∈ Finset.range 16384, weight q k slope s p j * v j d) / ∑ j ∈ Finset.range 16384, weight q k slope s p j

theorem weight_nonneg (q : Fin 128 → ℝ) (k : ℕ → Fin 128 → ℝ) (slope : ℝ) (s : Fin 2) (p j : ℕ) : 0 ≤ weight q k slope s p j := by
  unfold weight
  split
  · exact (Real.exp_pos _).le
  · exact le_rfl

theorem total_pos (q : Fin 128 → ℝ) (k : ℕ → Fin 128 → ℝ) (slope : ℝ) (s : Fin 2) (p : ℕ) : 0 < ∑ j ∈ Finset.range 16384, weight q k slope s p j := by
  refine Finset.sum_pos' (fun j _ => weight_nonneg q k slope s p j) ⟨0, by simp, ?_⟩
  unfold weight
  rw [if_pos (by simp)]
  exact Real.exp_pos _

/-- Only the keys up to the end of the query's block have a weight. -/
theorem sum_upto (q : Fin 128 → ℝ) (k : ℕ → Fin 128 → ℝ) (slope : ℝ) (s : Fin 2) (p n : ℕ) (hn : n % 64 = 0) (hp : p < n) (hN : n ≤ 16384) (f : ℕ → ℝ) :
    ∑ j ∈ Finset.range n, weight q k slope s p j * f j = ∑ j ∈ Finset.range 16384, weight q k slope s p j * f j := by
  refine Finset.sum_subset (Finset.range_mono hN) fun j _ hj => ?_
  rw [Finset.mem_range, not_lt] at hj
  unfold weight
  rw [if_neg (by omega), zero_mul]

/-- The factor of the second vector's mean. -/
def lam (a b c d : Fin 64 → EReal) : EReal :=
  Ideal.exp (∑ x, a x * b x) - Ideal.exp (∑ x, c x * d x) + Ideal.ofBits FTy.f32 0x3E4CCCCD#32

/-- The normalization of a row and the two factors after it. -/
def ending (z : Fin 128 → EReal) (s : EReal) (d : Fin 128) : EReal :=
  z d * Ideal.rsqrt (Ideal.div (∑ x, z x * z x) (Ideal.ofBits FTy.f32 0x43000000#32) + Ideal.ofBits FTy.f32 0x358637BD#32) * s
    * Ideal.ofBits FTy.f32 0x3F4CCCCD#32

end Cert.Attention
-- ==== Proof.Ending.lean ====
/-
The body's result: the difference of the two weighted means, normalized.
-/
module

public import proofs.«01_k».proof.Proof.Pass
public import proofs.«01_k».proof.Proof.Attention
public import proofs.«01_k».proof.Proof.Sums
public import proofs.«01_k».proof.Proof.Words
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic

open Cert.Attention

theorem end_eq (l : FVec Ideal S1024x1 .f32) (acc : Vec Ideal S1024x128 .f32) (x10 : Vec Ideal S4x64 .f32) (x11 : Vec Ideal S1x128 .f32) (r : Fin 512) (d : Fin 128) :
    k0_pay1 (k0_pay64 l acc x10 x11) (ix3 0 r d)
      = ending (fun x => Ideal.div (acc (ix2 ⟨r.val, by omega⟩ x)) (l (ix2 ⟨r.val, by omega⟩ 0))
          - lam (fun y => x10 (ix2 0 y)) (fun y => x10 (ix2 1 y)) (fun y => x10 (ix2 2 y)) (fun y => x10 (ix2 3 y))
            * Ideal.div (acc (ix2 ⟨512 + r.val, by omega⟩ x)) (l (ix2 ⟨512 + r.val, by omega⟩ 0))) (x11 (ix2 0 d)) d := by
  unfold ending lam
  pointwise [k0_pay1, k0_pay64]

/-! ### The weights, from the layer's -/

/-- The slope and the scale are both divided by log 2, so that powers of two stand for exponentials. -/
theorem pow_eq (y β : ℝ) : Real.rpow 2 (y * (1 / Real.log 2) - β) = Real.rpow 2 (-β) * Real.exp y := by
  have h2 : (0 : ℝ) < 2 := by norm_num
  have hl : Real.log 2 ≠ 0 := (Real.log_pos (by norm_num)).ne'
  show (2 : ℝ) ^ (y * (1 / Real.log 2) - β) = (2 : ℝ) ^ (-β) * Real.exp y
  rw [Real.rpow_def_of_pos h2, Real.rpow_def_of_pos h2, ← Real.exp_add]
  congr 1
  field_simp
  ring

theorem dist_eq (n r j : ℕ) : (j : ℝ) - n - 2 * ((j - (n + r) : ℕ) : ℝ) - r = -|((n + r : ℕ) : ℝ) - j| := by
  rcases le_total j (n + r) with h | h
  · rw [Nat.sub_eq_zero_of_le h, abs_of_nonneg (sub_nonneg.mpr (Nat.cast_le.mpr h))]
    push_cast
    ring
  · rw [Nat.cast_sub h, abs_of_nonpos (sub_nonpos.mpr (Nat.cast_le.mpr h))]
    push_cast
    ring

section
variable (q : Fin 512 → Fin 128 → ℝ) (kR vR : ℕ → Fin 128 → ℝ) (slope : ℝ) (βA βB : Fin 512 → ℝ) (n : ℕ)

/-- The query rows the program multiplies with, and its shifts. -/
def scaled (r : Fin 512) (e : Fin 128) : ℝ := q r e * ((1 / 8) * (1 / Real.log 2))
def shift (β : Fin 512 → ℝ) (r : Fin 512) : ℝ := -(slope * (1 / Real.log 2) * r.val + β r)

theorem wt_first (r : Fin 512) (j : ℕ) :
    wt (slope * (1 / Real.log 2)) (scaled q) (shift slope βA) (shift slope βB) kR n ⟨r.val, by omega⟩ j = Real.rpow 2 (-βA r) * weight (q r) kR slope 0 (n + r.val) j := by
  have hr : r.val % 512 = r.val := Nat.mod_eq_of_lt r.isLt
  unfold wt weight
  simp only [hr]
  by_cases h : j / 64 ≤ (n + r.val) / 64
  · rw [if_pos h, if_pos h, ← pow_eq]
    refine congrArg (Real.rpow 2) ?_
    have hd := dist_eq n r.val j
    unfold raw dotA scaled shift score
    rw [dif_pos (show (⟨r.val, by omega⟩ : Fin 1024).val < 512 from r.isLt)]
    have hs : ∑ e : Fin 64, q r ⟨e.val, by omega⟩ * ((1 / 8) * (1 / Real.log 2)) * kR j ⟨e.val, by omega⟩
        = (1 / 8) * (1 / Real.log 2) * ∑ e : Fin 64, q r ⟨64 * (0 : Fin 2).val + e.val, by simp; omega⟩ * kR j ⟨64 * (0 : Fin 2).val + e.val, by simp; omega⟩ := by
      rw [Finset.mul_sum]
      refine Finset.sum_congr rfl fun e _ => ?_
      have : (⟨64 * (0 : Fin 2).val + e.val, by simp; omega⟩ : Fin 128) = ⟨e.val, by omega⟩ := Fin.ext (by simp)
      rw [this]
      ring
    dsimp only
    rw [hs]
    generalize |((n + r.val : ℕ) : ℝ) - (j : ℝ)| = D at hd ⊢
    generalize (∑ e : Fin 64, q r ⟨64 * (0 : Fin 2).val + e.val, by simp; omega⟩ * kR j ⟨64 * (0 : Fin 2).val + e.val, by simp; omega⟩) = S
    linear_combination (slope * (1 / Real.log 2)) * hd
  · rw [if_neg h, if_neg h, mul_zero]

theorem wt_second (r : Fin 512) (j : ℕ) :
    wt (slope * (1 / Real.log 2)) (scaled q) (shift slope βA) (shift slope βB) kR n ⟨512 + r.val, by omega⟩ j = Real.rpow 2 (-βB r) * weight (q r) kR slope 1 (n + r.val) j := by
  have hr : (512 + r.val) % 512 = r.val := by omega
  unfold wt weight
  simp only [hr]
  by_cases h : j / 64 ≤ (n + r.val) / 64
  · rw [if_pos h, if_pos h, ← pow_eq]
    refine congrArg (Real.rpow 2) ?_
    have hd := dist_eq n r.val j
    unfold raw dotB scaled shift score
    rw [dif_neg (show ¬ (⟨512 + r.val, by omega⟩ : Fin 1024).val < 512 from by simp)]
    have hr2 : (⟨(⟨512 + r.val, by omega⟩ : Fin 1024).val - 512, by dsimp only; omega⟩ : Fin 512) = r := Fin.ext (by simp)
    rw [hr2]
    have hs : ∑ e : Fin 64, q r ⟨64 + e.val, by omega⟩ * ((1 / 8) * (1 / Real.log 2)) * kR j ⟨64 + e.val, by omega⟩
        = (1 / 8) * (1 / Real.log 2) * ∑ e : Fin 64, q r ⟨64 * (1 : Fin 2).val + e.val, by simp; omega⟩ * kR j ⟨64 * (1 : Fin 2).val + e.val, by simp; omega⟩ := by
      rw [Finset.mul_sum]
      refine Finset.sum_congr rfl fun e _ => ?_
      have : (⟨64 * (1 : Fin 2).val + e.val, by simp; omega⟩ : Fin 128) = ⟨64 + e.val, by omega⟩ := Fin.ext (by simp)
      rw [this]
      ring
    rw [hs]
    generalize |((n + r.val : ℕ) : ℝ) - (j : ℝ)| = D at hd ⊢
    generalize (∑ e : Fin 64, q r ⟨64 * (1 : Fin 2).val + e.val, by simp; omega⟩ * kR j ⟨64 * (1 : Fin 2).val + e.val, by simp; omega⟩) = S
    linear_combination (slope * (1 / Real.log 2)) * hd
  · rw [if_neg h, if_neg h, mul_zero]

/-- A quotient of the program is the layer's mean: the shift cancels. -/
theorem mean_of (w : ℕ → ℝ) (C : ℝ) (hC : 0 < C) (r : Fin 512) (s : Fin 2) (hw : ∀ j, w j = C * weight (q r) kR slope s (n + r.val) j)
    (hn : n % 64 = 0) (hN : n + 512 ≤ 16384) (d : Fin 128) :
    Ideal.div ((∑ j ∈ Finset.range (n + 512), w j * vR j d : ℝ) : EReal) ((∑ j ∈ Finset.range (n + 512), w j : ℝ) : EReal)
      = (mean (q r) kR vR slope s (n + r.val) d : EReal) := by
  have h1 := sum_upto (q r) kR slope s (n + r.val) (n + 512) (by omega) (by omega) hN (fun j => vR j d)
  have h2 := sum_upto (q r) kR slope s (n + r.val) (n + 512) (by omega) (by omega) hN (fun _ => 1)
  simp only [mul_one] at h2
  have hp := total_pos (q r) kR slope s (n + r.val)
  have e1 : ∑ j ∈ Finset.range (n + 512), w j * vR j d = C * ∑ j ∈ Finset.range 16384, weight (q r) kR slope s (n + r.val) j * vR j d := by
    rw [← h1, Finset.mul_sum]
    exact Finset.sum_congr rfl fun j _ => by rw [hw]; ring
  have e2 : ∑ j ∈ Finset.range (n + 512), w j = C * ∑ j ∈ Finset.range 16384, weight (q r) kR slope s (n + r.val) j := by
    rw [← h2, Finset.mul_sum]
    exact Finset.sum_congr rfl fun j _ => hw j
  have hne := (mul_pos hC hp).ne'
  rw [e1, e2, Ideal.div_coe hne, ← EReal.coe_mul, mean]
  refine congrArg Real.toEReal ?_
  have := hp.ne'
  have := hC.ne'
  field_simp

end

section
variable (i : grid0.Coords) (qA qB : FVec Ideal S512x128 .bf16) (q : Fin 512 → Fin 128 → ℝ) (kR vR : ℕ → Fin 128 → ℝ) (slope : ℝ) (βA βB : Fin 512 → ℝ)
  (x5 : Vec Ideal S1x1x16384x256 .bf16) (x6 : Vec Ideal S1x1x16384x128 .bf16) (x7 : Vec Ideal S1x1x512x256 .bf16) (x8 : Vec Ideal S1x1x512x128 .bf16)
  (x10 : Vec Ideal S4x64 .f32) (x11 : Vec Ideal S1x128 .f32)

theorem out_value
    (hA : ∀ r e, qA (ix2 r e) = (augA (scaled q r) (shift slope βA r) (slope * (1 / Real.log 2)) e : ℝ))
    (hB : ∀ r e, qB (ix2 r e) = (augB (scaled q r) (shift slope βB r) (slope * (1 / Real.log 2)) e : ℝ))
    (h5 : ∀ (j : Fin 16384) (e : Fin 256), x5 (ix4 0 0 j e) = (padK kR j.val e.val : ℝ)) (h6 : ∀ (j : Fin 16384) (d : Fin 128), x6 (ix4 0 0 j d) = (vR j.val d : ℝ))
    (h7 : ∀ (k : Fin 512) (e : Fin 256), x7 (ix4 0 0 k e) = (padK kR (512 * (i 2).val + k.val) e.val : ℝ))
    (h8 : ∀ (k : Fin 512) (d : Fin 128), x8 (ix4 0 0 k d) = (vR (512 * (i 2).val + k.val) d : ℝ)) (r : Fin 512) (d : Fin 128) :
    outFrom i ((slope * (1 / Real.log 2) : ℝ) : EReal) qA qB x5 x6 x7 x8 x10 x11 (diagBias (((slope * (1 / Real.log 2) : ℝ) : EReal) : Elt Ideal .f32)) (ix3 0 r d)
      = ending (fun x => (mean (q r) kR vR slope 0 (512 * (i 2).val + r.val) x : EReal)
          - lam (fun y => x10 (ix2 0 y)) (fun y => x10 (ix2 1 y)) (fun y => x10 (ix2 2 y)) (fun y => x10 (ix2 3 y))
            * (mean (q r) kR vR slope 1 (512 * (i 2).val + r.val) x : EReal)) (x11 (ix2 0 d)) d := by
  have hi : (i 2).val < 32 := (i 2).isLt
  obtain ⟨p1, p2⟩ := past_state i _ qA qB _ _ _ kR vR x5 x6 hA hB h5 h6
  have hx : ∀ (k : Fin 512) (e : Fin 128), View.ld x7 (Rect.unit (s := S1x1x512x256) ![0, 0, 0, 0] S1x1x512x128.size inb_S1x1x512x256_S1x1x512x128_0_0_0_0) (ix4 0 0 k e) = (padK kR (512 * (i 2).val + k.val) e.val : ℝ) := fun k e => by
    rw [ld_keys_diag x7 _ _ 0 rfl k e (by omega), h7]; simp only [zero_add]
  have hy : ∀ (k : Fin 512) (e : Fin 128), View.ld x7 (Rect.unit (s := S1x1x512x256) ![0, 0, 0, 128] S1x1x512x128.size inb_S1x1x512x256_S1x1x512x128_0_0_0_128) (ix4 0 0 k e) = (padK kR (512 * (i 2).val + k.val) (128 + e.val) : ℝ) := fun k e => by
    rw [ld_keys_diag x7 _ _ 128 rfl k e (by omega), h7]
  have hw := diag_weight i _ qA qB _ _ _ kR _ _ hA hB hx hy
  unfold outFrom
  rw [end_eq]
  have hacc := fun (R : Fin 1024) (x : Fin 128) => acc_diag qA qB _ _ _ x8 _ R x _ (fun j => vR j x) _ (hw R) (fun k => h8 k x) (p1 R x)
  have hsum := fun (R : Fin 1024) => (lane_total _ R).trans (sum_diag qA qB _ _ _ _ R _ _ (hw R) (p2 R))
  have hz : ∀ x : Fin 128, _ := fun x => congrArg₂ Ideal.div (hacc ⟨r.val, by omega⟩ x) (hsum ⟨r.val, by omega⟩)
  have hz' : ∀ x : Fin 128, _ := fun x => congrArg₂ Ideal.div (hacc ⟨512 + r.val, by omega⟩ x) (hsum ⟨512 + r.val, by omega⟩)
  refine congrArg (fun z => ending z (x11 (ix2 0 d)) d) (funext fun x => ?_)
  rw [hz x, hz' x, mean_of q kR vR slope _ _ _ (Real.rpow_pos_of_pos (by norm_num) (-βA r)) r 0 (wt_first q kR slope βA βB _ r) (by omega) (by omega) x,
    mean_of q kR vR slope _ _ _ (Real.rpow_pos_of_pos (by norm_num) (-βB r)) r 1 (wt_second q kR slope βA βB _ r) (by omega) (by omega) x]

end

end Cert.KernelIdeal.Value
-- ==== Proof.Operands.lean ====
/-
The arrays the host operations make for the program, from its arguments.
-/
module

public import proofs.«01_k».proof.Proof.RunIdeal
public import proofs.«01_k».proof.Proof.Ending
public import Idealize.ShloMosaic.Lib.Claim

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.SL.Sem

variable (m : (ℓ : Loc nD τ sig) → Buf (Elt Ideal) ℓ) (c : Dev nD)

/-- The scale of the last normalization, unchanged. -/
theorem host_subln (d : Fin 128) :
    (V m c main_v71 : (⟨S1x128, .f32⟩ : BufTy).Contents (Elt Ideal)) (ix2 0 d) =
      m ((c.tc : Thread nD τ).loc main_arg8) (ix1 d) := by
  unfold V hostOps0 hostOps0_1 hostOps0_2 hostOps0_3 hostOps0_4 hostOps0_5 hostOps0_6 hostOps0_7
    hostOps0_8 hostOps0_9 hostOps0_10 hostOps0_11 hostOps0_12
  simp only [List.flatten_cons, List.flatten_nil, List.cons_append, List.nil_append,
    List.append_nil]
  entry_read
  pointwise

/-- The values, head by head. -/
theorem host_values (h : Fin 4) (b : Fin 2) (s : Fin 16384) (d : Fin 128) :
    (V m c main_v10 : (⟨S4x2x16384x128, .bf16⟩ : BufTy).Contents (Elt Ideal)) (ix4 h b s d) =
      m ((c.tc : Thread nD τ).loc main_arg2) (ix3 b s ⟨h.val * 128 + d.val, by omega⟩) := by
  unfold V hostOps0 hostOps0_1 hostOps0_2 hostOps0_3 hostOps0_4 hostOps0_5 hostOps0_6 hostOps0_7
    hostOps0_8 hostOps0_9 hostOps0_10 hostOps0_11 hostOps0_12
  simp only [List.flatten_cons, List.flatten_nil, List.cons_append, List.nil_append,
    List.append_nil]
  entry_read
  pointwise

/-- The queries, head by head and scaled. -/
theorem host_queries (h : Fin 4) (b : Fin 2) (s : Fin 16384) (d : Fin 128) :
    (V m c main_v7 : (⟨S4x2x16384x128, .bf16⟩ : BufTy).Contents (Elt Ideal)) (ix4 h b s d) =
      HMul.hMul (α := EReal) (β := EReal) (m ((c.tc : Thread nD τ).loc main_arg0) (ix3 b s ⟨h.val * 128 + d.val, by omega⟩))
        (Ideal.ofBits .f32 0x3E000000#32 *
          Ideal.div 1 (Ideal.log (Ideal.ofBits .f32 0x40000000#32))) := by
  unfold V hostOps0 hostOps0_1 hostOps0_2 hostOps0_3 hostOps0_4 hostOps0_5 hostOps0_6 hostOps0_7
    hostOps0_8 hostOps0_9 hostOps0_10 hostOps0_11 hostOps0_12
  simp only [List.flatten_cons, List.flatten_nil, List.cons_append, List.nil_append,
    List.append_nil]
  entry_read
  pointwise

end Cert.KernelIdeal.Value
-- ==== Proof.OpKeys.lean ====
/-
The keys as the host operations lay them out: each row carries, beside the two sub-keys, lanes of ones and lanes of
the position modulo 256.
-/
module

public import proofs.«01_k».proof.Proof.RunIdeal
public import proofs.«01_k».proof.Proof.Ending
public import Idealize.ShloMosaic.Lib.Claim

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.SL.Sem

variable (m : (ℓ : Loc nD τ sig) → Buf (Elt Ideal) ℓ) (c : Dev nD)

/-! ### Words -/

theorem lane_from (n : ℕ) (hn : n < 128) (e : Fin 128) :
    IntOp.cmpi .sge (BitVec.ofNat 32 e.val) (BitVec.ofNat 32 n) = if n ≤ e.val then 1#1 else 0#1 := by
  have h : ∀ e n : Fin 128, IntOp.cmpi .sge (BitVec.ofNat 32 e.val) (BitVec.ofNat 32 n.val) =
      if n.val ≤ e.val then 1#1 else 0#1 := by decide +kernel
  exact h e ⟨n, hn⟩

theorem lane_below (n : ℕ) (hn : n < 128) (e : Fin 128) :
    IntOp.cmpi .slt (BitVec.ofNat 32 e.val) (BitVec.ofNat 32 n) = if e.val < n then 1#1 else 0#1 := by
  have h : ∀ e n : Fin 128, IntOp.cmpi .slt (BitVec.ofNat 32 e.val) (BitVec.ofNat 32 n.val) =
      if e.val < n.val then 1#1 else 0#1 := by decide +kernel
  exact h e ⟨n, hn⟩

theorem both (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The position modulo 256, as a real. -/
theorem place (s : Fin 16384) :
    (FloatOps.sitofp (F := Ideal) .f32 (IntOp.andi (BitVec.ofNat 32 s.val) 255#32) : EReal) = ((s.val % 256 : ℕ) : ℝ) := by
  have e : IntOp.andi (BitVec.ofNat 32 s.val) 255#32 = BitVec.ofNat 32 (s.val % 256) := by
    apply BitVec.eq_of_toNat_eq
    have h := Nat.and_two_pow_sub_one_eq_mod s.val 8
    have hs : s.val % 4294967296 = s.val := Nat.mod_eq_of_lt (by omega)
    have ht : s.val % 256 % 4294967296 = s.val % 256 := Nat.mod_eq_of_lt (by omega)
    simp only [IntOp.andi, BitVec.toNat_and, BitVec.toNat_ofNat]
    norm_num at h ⊢
    rw [hs, ht, h]
  rw [e]
  show (((BitVec.ofNat 32 (s.val % 256)).toInt : ℝ) : EReal) = _
  rw [nat_toInt _ (by omega)]
  push_cast
  rfl

/-! ### The two halves of a row -/

theorem first_lanes (e : Fin 128) (s : Fin 16384) (x : EReal) :
    (Scalar.select (IntOp.cmpi .slt (BitVec.ofNat 32 e.val) 64#32) x
        (Scalar.select
          (IntOp.andi (IntOp.cmpi .sge (BitVec.ofNat 32 e.val) 64#32)
            (IntOp.cmpi .slt (BitVec.ofNat 32 e.val) 67#32)) (1 : EReal)
          (Scalar.select
            (IntOp.andi (IntOp.cmpi .sge (BitVec.ofNat 32 e.val) 67#32)
              (IntOp.cmpi .slt (BitVec.ofNat 32 e.val) 70#32))
            (FloatOps.sitofp (F := Ideal) .f32 (IntOp.andi (BitVec.ofNat 32 s.val) 255#32) : EReal) (0 : EReal))) : EReal) =
      if e.val < 64 then x else if e.val < 67 then 1 else if e.val < 70 then (((s.val % 256 : ℕ) : ℝ) : EReal) else 0 := by
  rw [place, lane_below 64 (by omega), lane_below 67 (by omega), lane_below 70 (by omega),
    lane_from 64 (by omega), lane_from 67 (by omega), both, both, sel_if, sel_if, sel_if]
  split_ifs <;> first | rfl | omega

theorem second_lanes (e : Fin 128) (s : Fin 16384) (x : EReal) :
    (Scalar.select (IntOp.cmpi .sge (BitVec.ofNat 32 e.val) 64#32) x
        (Scalar.select
          (IntOp.andi (IntOp.cmpi .sge (BitVec.ofNat 32 e.val) 0#32)
            (IntOp.cmpi .slt (BitVec.ofNat 32 e.val) 3#32)) (1 : EReal)
          (Scalar.select
            (IntOp.andi (IntOp.cmpi .sge (BitVec.ofNat 32 e.val) 3#32)
              (IntOp.cmpi .slt (BitVec.ofNat 32 e.val) 6#32))
            (FloatOps.sitofp (F := Ideal) .f32 (IntOp.andi (BitVec.ofNat 32 s.val) 255#32) : EReal) (0 : EReal))) : EReal) =
      if e.val < 3 then 1 else if e.val < 6 then (((s.val % 256 : ℕ) : ℝ) : EReal) else if e.val < 64 then 0 else x := by
  rw [place, lane_below 3 (by omega), lane_below 6 (by omega),
    lane_from 64 (by omega), lane_from 0 (by omega), lane_from 3 (by omega), both, both, sel_if, sel_if, sel_if]
  split_ifs <;> first | rfl | omega

set_option maxHeartbeats 1000000 in
/-- The keys, head by head, with the lanes that carry the position. -/
theorem host_keys (b : Fin 2) (h : Fin 4) (kR : ℕ → Fin 128 → ℝ)
    (hk : ∀ (s : Fin 16384) (e : Fin 128), (m ((c.tc : Thread nD τ).loc main_arg1) (ix3 b s ⟨h.val * 128 + e.val, by omega⟩) : EReal) = ((kR s.val e : ℝ) : EReal))
    (s : Fin 16384) (e : Fin 256) :
    (V m c main_v50 : (⟨S2x4x16384x256, .bf16⟩ : BufTy).Contents (Elt Ideal)) (ix4 b h s e) =
      ((padK kR s.val e.val : ℝ) : EReal) := by
  unfold V hostOps0 hostOps0_1 hostOps0_2 hostOps0_3 hostOps0_4 hostOps0_5 hostOps0_6 hostOps0_7
    hostOps0_8 hostOps0_9 hostOps0_10 hostOps0_11 hostOps0_12
  simp only [List.flatten_cons, List.flatten_nil, List.cons_append, List.nil_append,
    List.append_nil]
  entry_read
  simp only [StableHlo.TRef.toBuf, StableHlo.TRef.ofBuf, cast_cast, cast_eq]
  pointwise
  unfold padK
  split
  · next he =>
    refine (first_lanes ⟨e.val, he⟩ s _).trans ?_
    refine Eq.trans (congrArg (fun x : EReal => if e.val < 64 then x else if e.val < 67 then 1 else if e.val < 70 then (((s.val % 256 : ℕ) : ℝ) : EReal) else 0) (hk s ⟨e.val, he⟩)) ?_
    split_ifs <;> rfl
  · next he =>
    refine (second_lanes ⟨e.val - 128, by omega⟩ s _).trans ?_
    refine Eq.trans (congrArg (fun x : EReal => if e.val - 128 < 3 then 1 else if e.val - 128 < 6 then (((s.val % 256 : ℕ) : ℝ) : EReal) else if e.val - 128 < 64 then 0 else x) (hk s ⟨e.val - 128, by omega⟩)) ?_
    have : (⟨e.val - 128, by omega⟩ : Fin 128) = ⟨(e.val - 128) % 128, Nat.mod_lt _ (by omega)⟩ := Fin.ext (by show e.val - 128 = (e.val - 128) % 128; omega)
    rw [this]
    split_ifs <;> rfl

end Cert.KernelIdeal.Value
-- ==== Proof.OpLate.lean ====
/-
The host operations before the program, cut where the last stretch begins.
-/
module

public import proofs.«01_k».proof.Proof.RunIdeal
public import proofs.«01_k».proof.Proof.Ending
public import Idealize.ShloMosaic.Lib.Claim
public import Idealize.ShloMosaic.Lib.StableHlo.RunRead

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.SL.Sem

variable (m : (ℓ : Loc nD τ sig) → Buf (Elt Ideal) ℓ) (c : Dev nD)

/-- Running two lists of host operations one after the other. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons a l ih => exact ih _

/-- The arrays before the last stretch of host operations. -/
def early : Valuation τ sig (Elt Ideal) :=
  StableHlo.after (List.flatten [hostOps0, hostOps0_1, hostOps0_2, hostOps0_3, hostOps0_4,
    hostOps0_5, hostOps0_6, hostOps0_7, hostOps0_8, hostOps0_9, hostOps0_10, hostOps0_11])
    (fun b => m (c, b))

theorem entry_late (r : Ref sig .tc) :
    V m c r = StableHlo.after hostOps0_12 (early m c) (Proc.tc.devRef r) := by
  unfold early
  rw [← after_two]
  rfl

end Cert.KernelIdeal.Value
-- ==== Proof.Consts.lean ====
/-
The constants of the layer as real numbers.
-/
module

public import proofs.«01_k».proof.Proof.Attention

@[expose] public section

noncomputable section

namespace Cert.Attention

open Idealize.ShloMosaic

/-- The slope of a head's distance penalty: 1/4, 1/16, 1/64, 1/256. -/
def slopeOf (h : Fin 4) : ℝ := (1 / 4) ^ (h.val + 1)

theorem slope_0 : Ideal.ofBits .f32 0x3E800000#32 = ((slopeOf 0 : ℝ) : EReal) := by
  simp [Ideal.ofBits, Ideal.ieee, slopeOf, -EReal.coe_mul]; norm_num

theorem slope_1 : Ideal.ofBits .f32 0x3D800000#32 = ((slopeOf 1 : ℝ) : EReal) := by
  simp [Ideal.ofBits, Ideal.ieee, slopeOf, -EReal.coe_mul, -EReal.coe_pow]; norm_num

theorem slope_2 : Ideal.ofBits .f32 0x3C800000#32 = ((slopeOf 2 : ℝ) : EReal) := by
  simp [Ideal.ofBits, Ideal.ieee, slopeOf, -EReal.coe_mul, -EReal.coe_pow]; norm_num

theorem slope_3 : Ideal.ofBits .f32 0x3B800000#32 = ((slopeOf 3 : ℝ) : EReal) := by
  simp [Ideal.ofBits, Ideal.ieee, slopeOf, -EReal.coe_mul, -EReal.coe_pow]; norm_num

theorem eighth : Ideal.ofBits .f32 0x3E000000#32 = (((1 : ℝ) / 8 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem lowest : Ideal.ofBits .f32 0xFF800000#32 = ⊥ := by
  simp [Ideal.ofBits, Ideal.ieee]

theorem fifth : ∃ r : ℝ, Ideal.ofBits .f32 0x3E4CCCCD#32 = (r : EReal) := by
  refine ⟨13421773 / 67108864, ?_⟩
  simp [Ideal.ofBits, Ideal.ieee, -EReal.coe_mul]; norm_num

/-- The change of base, as the program computes it. -/
theorem base_two : Ideal.div 1 (Ideal.log (Ideal.ofBits .f32 0x40000000#32)) = ((1 / Real.log 2 : ℝ) : EReal) := by
  have hpos : (0 : ℝ) < Real.log 2 := Real.log_pos (by norm_num)
  rw [two, Ideal.log_coe, if_neg (by norm_num), Ideal.div_coe hpos.ne', one_mul]

/-- Over reals, the factor of the second mean is a real. -/
theorem lam_real (a b c d : Fin 64 → EReal) (ha : ∀ x, ∃ r : ℝ, a x = r) (hb : ∀ x, ∃ r : ℝ, b x = r)
    (hc : ∀ x, ∃ r : ℝ, c x = r) (hd : ∀ x, ∃ r : ℝ, d x = r) : ∃ l : ℝ, lam a b c d = (l : EReal) := by
  choose a' ha using ha
  choose b' hb using hb
  choose c' hc using hc
  choose d' hd using hd
  obtain ⟨t, ht⟩ := fifth
  have sum_real : ∀ f g : Fin 64 → ℝ, (∑ x, (f x : EReal) * (g x : EReal)) = ((∑ x, f x * g x : ℝ) : EReal) := by
    intro f g
    have h : ∀ S : Finset (Fin 64), (∑ x ∈ S, (f x : EReal) * (g x : EReal)) = ((∑ x ∈ S, f x * g x : ℝ) : EReal) := by
      intro S
      induction S using Finset.cons_induction with
      | empty => simp
      | cons x S hx ih => rw [Finset.sum_cons, Finset.sum_cons, ih, EReal.coe_add, EReal.coe_mul]
    exact h _
  unfold lam
  simp only [ha, hb, hc, hd]
  rw [sum_real, sum_real, ht, Ideal.exp_coe, Ideal.exp_coe, ← EReal.coe_sub, ← EReal.coe_add]
  exact ⟨_, rfl⟩

end Cert.Attention
-- ==== Proof.OpLam.lean ====
/-
The four rows of factors, as the host operations stack them.
-/
module

public import proofs.«01_k».proof.Proof.RunIdeal
public import proofs.«01_k».proof.Proof.OpLate
public import proofs.«01_k».proof.Proof.Consts
public import Idealize.ShloMosaic.Lib.Claim
public import Idealize.ShloMosaic.Lib.StableHlo.RunRead

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.SL.Sem

variable (m : (ℓ : Loc nD τ sig) → Buf (Elt Ideal) ℓ) (c : Dev nD)

set_option maxHeartbeats 1000000 in
theorem early_arg4 : early m c (Proc.tc.devRef main_arg4) = m (c, Proc.tc.devRef main_arg4) := by
  unfold early hostOps0 hostOps0_1 hostOps0_2 hostOps0_3 hostOps0_4 hostOps0_5 hostOps0_6 hostOps0_7
    hostOps0_8 hostOps0_9 hostOps0_10 hostOps0_11
  simp only [List.flatten_cons, List.flatten_nil, List.cons_append, List.nil_append,
    List.append_nil]
  entry_read
  rfl

set_option maxHeartbeats 1000000 in
theorem early_arg5 : early m c (Proc.tc.devRef main_arg5) = m (c, Proc.tc.devRef main_arg5) := by
  unfold early hostOps0 hostOps0_1 hostOps0_2 hostOps0_3 hostOps0_4 hostOps0_5 hostOps0_6 hostOps0_7
    hostOps0_8 hostOps0_9 hostOps0_10 hostOps0_11
  simp only [List.flatten_cons, List.flatten_nil, List.cons_append, List.nil_append,
    List.append_nil]
  entry_read
  rfl

set_option maxHeartbeats 1000000 in
theorem early_arg6 : early m c (Proc.tc.devRef main_arg6) = m (c, Proc.tc.devRef main_arg6) := by
  unfold early hostOps0 hostOps0_1 hostOps0_2 hostOps0_3 hostOps0_4 hostOps0_5 hostOps0_6 hostOps0_7
    hostOps0_8 hostOps0_9 hostOps0_10 hostOps0_11
  simp only [List.flatten_cons, List.flatten_nil, List.cons_append, List.nil_append,
    List.append_nil]
  entry_read
  rfl

set_option maxHeartbeats 1000000 in
theorem early_arg7 : early m c (Proc.tc.devRef main_arg7) = m (c, Proc.tc.devRef main_arg7) := by
  unfold early hostOps0 hostOps0_1 hostOps0_2 hostOps0_3 hostOps0_4 hostOps0_5 hostOps0_6 hostOps0_7
    hostOps0_8 hostOps0_9 hostOps0_10 hostOps0_11
  simp only [List.flatten_cons, List.flatten_nil, List.cons_append, List.nil_append,
    List.append_nil]
  entry_read
  rfl

theorem row_4 (W : Valuation τ sig (Elt Ideal)) (x : Fin 64) :
    (StableHlo.upto hostOps0_12 W 6 (Proc.tc.devRef main_v51) : (⟨S1x64, .f32⟩ : BufTy).Contents (Elt Ideal)) (ix2 0 x)
      = (W (Proc.tc.devRef main_arg4) : (⟨S64, .f32⟩ : BufTy).Contents (Elt Ideal)) (ix1 x) := by
  unfold StableHlo.upto hostOps0_12
  simp only [List.take_succ_cons, List.take_zero]
  entry_read
  pointwise

theorem row_5 (W : Valuation τ sig (Elt Ideal)) (x : Fin 64) :
    (StableHlo.upto hostOps0_12 W 6 (Proc.tc.devRef main_v52) : (⟨S1x64, .f32⟩ : BufTy).Contents (Elt Ideal)) (ix2 0 x)
      = (W (Proc.tc.devRef main_arg5) : (⟨S64, .f32⟩ : BufTy).Contents (Elt Ideal)) (ix1 x) := by
  unfold StableHlo.upto hostOps0_12
  simp only [List.take_succ_cons, List.take_zero]
  entry_read
  pointwise

theorem row_6 (W : Valuation τ sig (Elt Ideal)) (x : Fin 64) :
    (StableHlo.upto hostOps0_12 W 6 (Proc.tc.devRef main_v53) : (⟨S1x64, .f32⟩ : BufTy).Contents (Elt Ideal)) (ix2 0 x)
      = (W (Proc.tc.devRef main_arg6) : (⟨S64, .f32⟩ : BufTy).Contents (Elt Ideal)) (ix1 x) := by
  unfold StableHlo.upto hostOps0_12
  simp only [List.take_succ_cons, List.take_zero]
  entry_read
  pointwise

theorem row_7 (W : Valuation τ sig (Elt Ideal)) (x : Fin 64) :
    (StableHlo.upto hostOps0_12 W 6 (Proc.tc.devRef main_v54) : (⟨S1x64, .f32⟩ : BufTy).Contents (Elt Ideal)) (ix2 0 x)
      = (W (Proc.tc.devRef main_arg7) : (⟨S64, .f32⟩ : BufTy).Contents (Elt Ideal)) (ix1 x) := by
  unfold StableHlo.upto hostOps0_12
  simp only [List.take_succ_cons, List.take_zero]
  entry_read
  pointwise

theorem late_lam (W : Valuation τ sig (Elt Ideal)) (r : Fin 4) (x : Fin 64) :
    (StableHlo.after hostOps0_12 W (Proc.tc.devRef main_v55) : (⟨S4x64, .f32⟩ : BufTy).Contents (Elt Ideal)) (ix2 r x)
      = (match r with
        | 0 => (W (Proc.tc.devRef main_arg4) : (⟨S64, .f32⟩ : BufTy).Contents (Elt Ideal))
        | 1 => (W (Proc.tc.devRef main_arg5) : (⟨S64, .f32⟩ : BufTy).Contents (Elt Ideal))
        | 2 => (W (Proc.tc.devRef main_arg6) : (⟨S64, .f32⟩ : BufTy).Contents (Elt Ideal))
        | 3 => (W (Proc.tc.devRef main_arg7) : (⟨S64, .f32⟩ : BufTy).Contents (Elt Ideal))) (ix1 x) := by
  have h := StableHlo.after_last_write (ops := hostOps0_12) (i := 6) (r := main_v55)
    [main_cst_17, main_v56, main_cst_18, main_v57, main_v58, main_v59, main_v60, main_v61, main_v62, main_v63, main_v64, main_v65, main_v66, main_v67, main_v68, main_v69, main_v70, main_v71] rfl rfl (by decide) W
  rw [h, StableHlo.nary_result]
  have h4 := row_4 W x
  have h5 := row_5 W x
  have h6 := row_6 W x
  have h7 := row_7 W x
  generalize StableHlo.upto hostOps0_12 W 6 = U at h4 h5 h6 h7 ⊢
  show concatenate S4x64 0 [⟨S1x64, (U (Proc.tc.devRef main_v51) : (⟨S1x64, .f32⟩ : BufTy).Contents (Elt Ideal))⟩,
    ⟨S1x64, (U (Proc.tc.devRef main_v52) : (⟨S1x64, .f32⟩ : BufTy).Contents (Elt Ideal))⟩,
    ⟨S1x64, (U (Proc.tc.devRef main_v53) : (⟨S1x64, .f32⟩ : BufTy).Contents (Elt Ideal))⟩,
    ⟨S1x64, (U (Proc.tc.devRef main_v54) : (⟨S1x64, .f32⟩ : BufTy).Contents (Elt Ideal))⟩]
    concatenates_S1x64_S1x64_S1x64_S1x64_S4x64_d0 (ix2 r x) = _
  generalize (U (Proc.tc.devRef main_v51) : (⟨S1x64, .f32⟩ : BufTy).Contents (Elt Ideal)) = u4 at h4 ⊢
  generalize (U (Proc.tc.devRef main_v52) : (⟨S1x64, .f32⟩ : BufTy).Contents (Elt Ideal)) = u5 at h5 ⊢
  generalize (U (Proc.tc.devRef main_v53) : (⟨S1x64, .f32⟩ : BufTy).Contents (Elt Ideal)) = u6 at h6 ⊢
  generalize (U (Proc.tc.devRef main_v54) : (⟨S1x64, .f32⟩ : BufTy).Contents (Elt Ideal)) = u7 at h7 ⊢
  fin_cases r
  · refine Eq.trans ?_ h4
    pointwise
  · refine Eq.trans ?_ h5
    pointwise
  · refine Eq.trans ?_ h6
    pointwise
  · refine Eq.trans ?_ h7
    pointwise

/-- The four rows of factors. -/
theorem host_lam (r : Fin 4) (x : Fin 64) :
    (V m c main_v55 : (⟨S4x64, .f32⟩ : BufTy).Contents (Elt Ideal)) (ix2 r x)
      = (match r with
        | 0 => (m ((c.tc : Thread nD τ).loc main_arg4) : (⟨S64, .f32⟩ : BufTy).Contents (Elt Ideal))
        | 1 => (m ((c.tc : Thread nD τ).loc main_arg5) : (⟨S64, .f32⟩ : BufTy).Contents (Elt Ideal))
        | 2 => (m ((c.tc : Thread nD τ).loc main_arg6) : (⟨S64, .f32⟩ : BufTy).Contents (Elt Ideal))
        | 3 => (m ((c.tc : Thread nD τ).loc main_arg7) : (⟨S64, .f32⟩ : BufTy).Contents (Elt Ideal))) (ix1 x) := by
  rw [entry_late, late_lam, early_arg4, early_arg5, early_arg6, early_arg7]

end Cert.KernelIdeal.Value
-- ==== Proof.OpTab.lean ====
/-
The table of slopes, as the host operations stack it.
-/
module

public import proofs.«01_k».proof.Proof.RunIdeal
public import proofs.«01_k».proof.Proof.OpLate
public import proofs.«01_k».proof.Proof.Consts
public import Idealize.ShloMosaic.Lib.Claim
public import Idealize.ShloMosaic.Lib.StableHlo.RunRead

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.SL.Sem

variable (m : (ℓ : Loc nD τ sig) → Buf (Elt Ideal) ℓ) (c : Dev nD)

open Cert.Attention

set_option maxHeartbeats 1000000 in
theorem early_slopes (h : Fin 4) :
    (early m c (Proc.tc.devRef main_cst) : (⟨S4, .f32⟩ : BufTy).Contents (Elt Ideal)) (ix1 h) = ((slopeOf h : ℝ) : EReal) := by
  unfold early hostOps0 hostOps0_1 hostOps0_2 hostOps0_3 hostOps0_4 hostOps0_5 hostOps0_6 hostOps0_7
    hostOps0_8 hostOps0_9 hostOps0_10 hostOps0_11
  simp only [List.flatten_cons, List.flatten_nil, List.cons_append, List.nil_append,
    List.append_nil]
  entry_read
  fin_cases h
  · exact slope_0
  · exact slope_1
  · exact slope_2
  · exact slope_3

theorem col_0 (W : Valuation τ sig (Elt Ideal)) (h : Fin 4) (w : EReal)
    (hw : w = HMul.hMul (α := EReal) (β := EReal) (Ideal.div 1 (Ideal.log (Ideal.ofBits .f32 0x40000000#32))) ((W (Proc.tc.devRef main_cst) : (⟨S4, .f32⟩ : BufTy).Contents (Elt Ideal)) (ix1 h))) :
    (StableHlo.upto hostOps0_12 W 23 (Proc.tc.devRef main_v66) : (⟨S4x1, .f32⟩ : BufTy).Contents (Elt Ideal)) (ix2 h 0)
      = w := by
  subst hw
  unfold StableHlo.upto hostOps0_12
  simp only [List.take_succ_cons, List.take_zero]
  entry_read
  pointwise

theorem col_1 (W : Valuation τ sig (Elt Ideal)) (h : Fin 4) (w : EReal)
    (hw : w = HMul.hMul (α := EReal) (β := EReal) (Ideal.div 1 (Ideal.log (Ideal.ofBits .f32 0x40000000#32))) ((W (Proc.tc.devRef main_cst) : (⟨S4, .f32⟩ : BufTy).Contents (Elt Ideal)) (ix1 h))) :
    (StableHlo.upto hostOps0_12 W 23 (Proc.tc.devRef main_v67) : (⟨S4x1, .f32⟩ : BufTy).Contents (Elt Ideal)) (ix2 h 0)
      = w := by
  subst hw
  unfold StableHlo.upto hostOps0_12
  simp only [List.take_succ_cons, List.take_zero]
  entry_read
  pointwise

theorem col_2 (W : Valuation τ sig (Elt Ideal)) (h : Fin 4) (w : EReal)
    (hw : w = HMul.hMul (α := EReal) (β := EReal) (Ideal.div 1 (Ideal.log (Ideal.ofBits .f32 0x40000000#32))) ((W (Proc.tc.devRef main_cst) : (⟨S4, .f32⟩ : BufTy).Contents (Elt Ideal)) (ix1 h))) :
    (StableHlo.upto hostOps0_12 W 23 (Proc.tc.devRef main_v68) : (⟨S4x1, .f32⟩ : BufTy).Contents (Elt Ideal)) (ix2 h 0)
      = w - w := by
  subst hw
  unfold StableHlo.upto hostOps0_12
  simp only [List.take_succ_cons, List.take_zero]
  entry_read
  pointwise

theorem col_3 (W : Valuation τ sig (Elt Ideal)) (h : Fin 4) (w : EReal)
    (hw : w = HMul.hMul (α := EReal) (β := EReal) (Ideal.div 1 (Ideal.log (Ideal.ofBits .f32 0x40000000#32))) ((W (Proc.tc.devRef main_cst) : (⟨S4, .f32⟩ : BufTy).Contents (Elt Ideal)) (ix1 h))) :
    (StableHlo.upto hostOps0_12 W 23 (Proc.tc.devRef main_v69) : (⟨S4x1, .f32⟩ : BufTy).Contents (Elt Ideal)) (ix2 h 0)
      = w - w - (w - w) := by
  subst hw
  unfold StableHlo.upto hostOps0_12
  simp only [List.take_succ_cons, List.take_zero]
  entry_read
  pointwise

theorem late_tab (W : Valuation τ sig (Elt Ideal)) (h r : Fin 4) (w : EReal)
    (hw : w = HMul.hMul (α := EReal) (β := EReal) (Ideal.div 1 (Ideal.log (Ideal.ofBits .f32 0x40000000#32))) ((W (Proc.tc.devRef main_cst) : (⟨S4, .f32⟩ : BufTy).Contents (Elt Ideal)) (ix1 h))) :
    (StableHlo.after hostOps0_12 W (Proc.tc.devRef main_v70) : (⟨S4x4, .f32⟩ : BufTy).Contents (Elt Ideal)) (ix2 h r)
      = (match r with
        | 0 => w
        | 1 => w
        | 2 => w - w
        | 3 => w - w - (w - w)) := by
  have hl := StableHlo.after_last_write (ops := hostOps0_12) (i := 23) (r := main_v70)
    [main_v71] rfl rfl (by decide) W
  rw [hl, StableHlo.nary_result]
  have h0 := col_0 W h w hw
  have h1 := col_1 W h w hw
  have h2 := col_2 W h w hw
  have h3 := col_3 W h w hw
  generalize StableHlo.upto hostOps0_12 W 23 = U at h0 h1 h2 h3 ⊢
  show concatenate S4x4 1 [⟨S4x1, (U (Proc.tc.devRef main_v66) : (⟨S4x1, .f32⟩ : BufTy).Contents (Elt Ideal))⟩,
    ⟨S4x1, (U (Proc.tc.devRef main_v67) : (⟨S4x1, .f32⟩ : BufTy).Contents (Elt Ideal))⟩,
    ⟨S4x1, (U (Proc.tc.devRef main_v68) : (⟨S4x1, .f32⟩ : BufTy).Contents (Elt Ideal))⟩,
    ⟨S4x1, (U (Proc.tc.devRef main_v69) : (⟨S4x1, .f32⟩ : BufTy).Contents (Elt Ideal))⟩]
    concatenates_S4x1_S4x1_S4x1_S4x1_S4x4_d1 (ix2 h r) = _
  generalize (U (Proc.tc.devRef main_v66) : (⟨S4x1, .f32⟩ : BufTy).Contents (Elt Ideal)) = u0 at h0 ⊢
  generalize (U (Proc.tc.devRef main_v67) : (⟨S4x1, .f32⟩ : BufTy).Contents (Elt Ideal)) = u1 at h1 ⊢
  generalize (U (Proc.tc.devRef main_v68) : (⟨S4x1, .f32⟩ : BufTy).Contents (Elt Ideal)) = u2 at h2 ⊢
  generalize (U (Proc.tc.devRef main_v69) : (⟨S4x1, .f32⟩ : BufTy).Contents (Elt Ideal)) = u3 at h3 ⊢
  fin_cases r
  · refine Eq.trans ?_ h0
    pointwise
  · refine Eq.trans ?_ h1
    pointwise
  · refine Eq.trans ?_ h2
    pointwise
  · refine Eq.trans ?_ h3
    pointwise

/-- The row of a head: its slope over log 2, twice, and two zeros (what casts would have cut off). -/
theorem host_tab (h r : Fin 4) :
    (V m c main_v70 : (⟨S4x4, .f32⟩ : BufTy).Contents (Elt Ideal)) (ix2 h r)
      = (if r.val < 2 then ((slopeOf h * (1 / Real.log 2) : ℝ) : EReal) else 0) := by
  rw [entry_late, late_tab (early m c) h r ((slopeOf h * (1 / Real.log 2) : ℝ) : EReal)
    (by rw [early_slopes, base_two, ← EReal.coe_mul, mul_comm])]
  have z : ((slopeOf h * (1 / Real.log 2) : ℝ) : EReal) - ((slopeOf h * (1 / Real.log 2) : ℝ) : EReal) = 0 := by
    rw [← EReal.coe_sub, sub_self, EReal.coe_zero]
  fin_cases r
  · rfl
  · rfl
  · exact z
  · show _ - _ - (_ - _) = (0 : EReal)
    rw [z, sub_zero]

end Cert.KernelIdeal.Value
-- ==== Proof.Blocks.lean ====
/-
What each window shows of its array at a step of the grid, in terms of the program's arguments.
-/
module

public import proofs.«01_k».proof.Proof.RunIdeal
public import proofs.«01_k».proof.Proof.Ending
public import Idealize.ShloMosaic.Lib.Claim
public import proofs.«01_k».proof.Proof.Operands
public import proofs.«01_k».proof.Proof.OpKeys
public import proofs.«01_k».proof.Proof.OpLam
public import proofs.«01_k».proof.Proof.OpTab
public import proofs.«01_k».proof.Proof.Consts

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.SL.Sem Cert.Attention

variable (m : (ℓ : Loc nD τ sig) → Buf (Elt Ideal) ℓ) (c : Dev nD)

theorem idx_0 : ∀ t : Fin cfg0.N, win0_0.index t = ![0, 0] :=
  (by decide +kernel : ∀ t : Fin grid0.N, win0_0.index t = ![0, 0])

theorem idx_1 : ∀ t : Fin cfg0.N, win0_1.index t = ![(grid0.coords t 1).val, (grid0.coords t 0).val, (grid0.coords t 2).val, 0] :=
  (by decide +kernel : ∀ t : Fin grid0.N, win0_1.index t = ![(grid0.coords t 1).val, (grid0.coords t 0).val, (grid0.coords t 2).val, 0])

theorem idx_2 : ∀ t : Fin cfg0.N, win0_2.index t = ![(grid0.coords t 0).val, (grid0.coords t 1).val, 0, 0] :=
  (by decide +kernel : ∀ t : Fin grid0.N, win0_2.index t = ![(grid0.coords t 0).val, (grid0.coords t 1).val, 0, 0])

theorem idx_3 : ∀ t : Fin cfg0.N, win0_3.index t = ![(grid0.coords t 1).val, (grid0.coords t 0).val, 0, 0] :=
  (by decide +kernel : ∀ t : Fin grid0.N, win0_3.index t = ![(grid0.coords t 1).val, (grid0.coords t 0).val, 0, 0])

theorem idx_4 : ∀ t : Fin cfg0.N, win0_4.index t = ![(grid0.coords t 0).val, (grid0.coords t 1).val, (grid0.coords t 2).val, 0] :=
  (by decide +kernel : ∀ t : Fin grid0.N, win0_4.index t = ![(grid0.coords t 0).val, (grid0.coords t 1).val, (grid0.coords t 2).val, 0])

theorem idx_5 : ∀ t : Fin cfg0.N, win0_5.index t = ![(grid0.coords t 1).val, (grid0.coords t 0).val, (grid0.coords t 2).val, 0] :=
  (by decide +kernel : ∀ t : Fin grid0.N, win0_5.index t = ![(grid0.coords t 1).val, (grid0.coords t 0).val, (grid0.coords t 2).val, 0])

theorem idx_6 : ∀ t : Fin cfg0.N, win0_6.index t = ![(grid0.coords t 0).val, 0, (grid0.coords t 1).val] :=
  (by decide +kernel : ∀ t : Fin grid0.N, win0_6.index t = ![(grid0.coords t 0).val, 0, (grid0.coords t 1).val])

theorem idx_7 : ∀ t : Fin cfg0.N, win0_7.index t = ![0, 0] :=
  (by decide +kernel : ∀ t : Fin grid0.N, win0_7.index t = ![0, 0])

theorem idx_8 : ∀ t : Fin cfg0.N, win0_8.index t = ![0, 0] :=
  (by decide +kernel : ∀ t : Fin grid0.N, win0_8.index t = ![0, 0])

theorem idx_9 : ∀ t : Fin cfg0.N, win0_9.index t = ![(grid0.coords t 0).val, (grid0.coords t 2).val, (grid0.coords t 1).val] :=
  (by decide +kernel : ∀ t : Fin grid0.N, win0_9.index t = ![(grid0.coords t 0).val, (grid0.coords t 2).val, (grid0.coords t 1).val])

/-- The batch and the head of a step. -/
def batch (t : Fin cfg0.N) : Fin 2 := grid0.coords t 0
def head (t : Fin cfg0.N) : Fin 4 := grid0.coords t 1

theorem row_lt (t : Fin cfg0.N) (r : Fin 512) : 512 * (grid0.coords t 2).val + r.val < 16384 := by
  have : (grid0.coords t 2).val < 32 := (grid0.coords t 2).isLt
  omega

theorem col_lt (t : Fin cfg0.N) (d : Fin 128) : (head t).val * 128 + d.val < 512 := by
  have := (head t).isLt
  omega

theorem blk_queries (t : Fin cfg0.N) (r : Fin 512) (d : Fin 128) :
    iblk m c 1 t (ix4 0 0 r d) = V m c main_v7 (ix4 (head t) (batch t) ⟨512 * (grid0.coords t 2).val + r.val, row_lt t r⟩ d) := by
  blk_point [iblk, idx_1 t, batch, head]

theorem blk_all_keys (t : Fin cfg0.N) (r : Fin 16384) (d : Fin 256) :
    iblk m c 2 t (ix4 0 0 r d) = V m c main_v50 (ix4 (batch t) (head t) r d) := by
  blk_point [iblk, idx_2 t, batch, head]

theorem blk_all_values (t : Fin cfg0.N) (r : Fin 16384) (d : Fin 128) :
    iblk m c 3 t (ix4 0 0 r d) = V m c main_v10 (ix4 (head t) (batch t) r d) := by
  blk_point [iblk, idx_3 t, batch, head]

theorem blk_keys (t : Fin cfg0.N) (r : Fin 512) (d : Fin 256) :
    iblk m c 4 t (ix4 0 0 r d) = V m c main_v50 (ix4 (batch t) (head t) ⟨512 * (grid0.coords t 2).val + r.val, row_lt t r⟩ d) := by
  blk_point [iblk, idx_4 t, batch, head]

theorem blk_values (t : Fin cfg0.N) (r : Fin 512) (d : Fin 128) :
    iblk m c 5 t (ix4 0 0 r d) = V m c main_v10 (ix4 (head t) (batch t) ⟨512 * (grid0.coords t 2).val + r.val, row_lt t r⟩ d) := by
  blk_point [iblk, idx_5 t, batch, head]

theorem blk_kmax (t : Fin cfg0.N) (d : Fin 128) :
    iblk m c 6 t (ix3 0 0 d) = V m c main_arg3 (ix3 (batch t) 0 ⟨(head t).val * 128 + d.val, col_lt t d⟩) := by
  blk_point [iblk, idx_6 t, batch, head]

theorem blk_lam (t : Fin cfg0.N) (r : Fin 4) (d : Fin 64) :
    iblk m c 7 t (ix2 r d) = V m c main_v55 (ix2 r d) := by
  blk_point [iblk, idx_7 t, batch, head]

theorem blk_subln (t : Fin cfg0.N) (d : Fin 128) :
    iblk m c 8 t (ix2 0 d) = V m c main_v71 (ix2 0 d) := by
  blk_point [iblk, idx_8 t, batch, head]

theorem blk_tab (t : Fin cfg0.N) (r : Fin 4) (d : Fin 4) :
    iblk m c 0 t (ix2 r d) = V m c main_v70 (ix2 r d) := by
  blk_point [iblk, idx_0 t, batch, head]

/-- The four entries of the head's row of the table of scalars. -/
theorem tab_offs (i : grid0.Coords) :
    k0_off1 i = ![(i 1).val, 0] ∧ k0_off2 i = ![(i 1).val, 1] ∧ k0_off3 i = ![(i 1).val, 2] ∧ k0_off4 i = ![(i 1).val, 3] := by
  have h : ∀ q : Fin 4, ∀ i : grid0.Coords, (i 1).val = q.val →
      k0_off1 i = ![q.val, 0] ∧ k0_off2 i = ![q.val, 1] ∧ k0_off3 i = ![q.val, 2] ∧ k0_off4 i = ![q.val, 3] := by
    intro q i hi
    unfold k0_off1 k0_off2 k0_off3 k0_off4
    simp only [hi]
    clear hi i
    revert q
    decide +kernel
  exact h ⟨(i 1).val, (i 1).isLt⟩ i rfl

/-- One entry read from a four by four array, at an offset the machine computes. -/
theorem entry_at (x : Vec Ideal S4x4 .f32) (off : Fin 2 → ℕ) (hin : ∀ a, off a + S1x1.size a ≤ S4x4.size a)
    (r s : Fin 4) (h : off = ![r.val, s.val]) :
    View.ld x (Rect.unit (s := S4x4) off S1x1.size hin) (Shape.Idx.first (s := S1x1) Nat.one_pos) = x (ix2 r s) := by
  subst h
  exact congrArg x (funext fun a => Fin.ext (by fin_cases a <;> simp [LoadRect.idx, Rect.unit, ix2]))

theorem tab_A (t : Fin cfg0.N) : tabA (iblk m c 0 t) (grid0.coords t) = ((slopeOf (head t) * (1 / Real.log 2) : ℝ) : EReal) := by
  have h := entry_at (iblk m c 0 t) (k0_off1 (grid0.coords t)) (k0_off1_inb (grid0.coords t)) (head t) 0 (tab_offs _).1
  have e := host_tab m c (head t) 0
  rw [if_pos (by decide)] at e
  exact h.trans ((blk_tab m c t _ _).trans e)

theorem tab_B (t : Fin cfg0.N) : tabB (iblk m c 0 t) (grid0.coords t) = ((slopeOf (head t) * (1 / Real.log 2) : ℝ) : EReal) := by
  have h := entry_at (iblk m c 0 t) (k0_off2 (grid0.coords t)) (k0_off2_inb (grid0.coords t)) (head t) 1 (tab_offs _).2.1
  have e := host_tab m c (head t) 1
  rw [if_pos (by decide)] at e
  exact h.trans ((blk_tab m c t _ _).trans e)

theorem tab_C (t : Fin cfg0.N) : tabC (iblk m c 0 t) (grid0.coords t) = (0 : EReal) := by
  have h := entry_at (iblk m c 0 t) (k0_off3 (grid0.coords t)) (k0_off3_inb (grid0.coords t)) (head t) 2 (tab_offs _).2.2.1
  have e := host_tab m c (head t) 2
  rw [if_neg (by decide)] at e
  exact h.trans ((blk_tab m c t _ _).trans e)

theorem tab_D (t : Fin cfg0.N) : tabD (iblk m c 0 t) (grid0.coords t) = (0 : EReal) := by
  have h := entry_at (iblk m c 0 t) (k0_off4 (grid0.coords t)) (k0_off4_inb (grid0.coords t)) (head t) 3 (tab_offs _).2.2.2
  have e := host_tab m c (head t) 3
  rw [if_neg (by decide)] at e
  exact h.trans ((blk_tab m c t _ _).trans e)

end Cert.KernelIdeal.Value
-- ==== Proof.RefScores.lean ====
/-
The scores of the reference: dot products, the distance penalty, and −∞ for the later chunks.
-/
module

public import proofs.«01_k».proof.Proof.Gen.ReferenceIdeal.Read
public import proofs.«01_k».proof.Proof.Consts
public import proofs.«01_k».proof.Proof.Sums
public import proofs.«01_k».proof.Proof.Query
public import Idealize.ShloMosaic.Lib.Pointwise

@[expose] public section

set_option maxRecDepth 16384

noncomputable section

namespace Cert.ReferenceIdeal.Value

open Cert.ReferenceIdeal Cert.ReferenceIdeal.Gen Cert.ReferenceIdeal.Read
open Cert.Attention
open Idealize.ShloMosaic Idealize.ShloMosaic.TcCoe Idealize.ShloMosaic.Tactic

variable (x0 x1 x2 : (⟨S2x16384x512, .f32⟩ : BufTy).Contents (Elt Ideal))
  (x4 x5 x6 x7 : (⟨S64, .f32⟩ : BufTy).Contents (Elt Ideal)) (x8 : (⟨S128, .f32⟩ : BufTy).Contents (Elt Ideal))
  (b : Fin 2) (h : Fin 4) (s : Fin 2) (p j : Fin 16384)

/-! ### Words -/

theorem word_sub (a b : ℕ) (hb : b ≤ a) (ha : a < 65536) :
    BitVec.ofNat 32 a - BitVec.ofNat 32 b = BitVec.ofNat 32 (a - b) := by
  apply BitVec.eq_of_toNat_eq
  simp only [BitVec.toNat_sub, BitVec.toNat_ofNat]
  omega

theorem word_msb (a : ℕ) (ha : a < 65536) : (BitVec.ofNat 32 a).msb = false := by
  rw [BitVec.msb_eq_false_iff_two_mul_lt, BitVec.toNat_ofNat]
  omega

/-- The distance of two positions, as a real. -/
theorem distance :
    (FloatOps.sitofp (F := Ideal) .f32 (IntOp.absi (IntOp.subi (BitVec.ofNat 32 p.val) (BitVec.ofNat 32 j.val))) : EReal) =
      ((|(p.val : ℝ) - (j.val : ℝ)| : ℝ) : EReal) := by
  have hp := p.isLt
  have hj := j.isLt
  have key : (IntOp.absi (IntOp.subi (BitVec.ofNat 32 p.val) (BitVec.ofNat 32 j.val))).toInt = |(p.val : ℤ) - j.val| := by
    unfold IntOp.absi IntOp.subi
    rcases Nat.lt_or_ge p.val j.val with h | h
    · have e : BitVec.ofNat 32 p.val - BitVec.ofNat 32 j.val = -(BitVec.ofNat 32 (j.val - p.val)) := by
        rw [← word_sub j.val p.val h.le (by omega), BitVec.neg_sub, BitVec.add_comm, BitVec.sub_eq_add_neg]
      have hm : (-(BitVec.ofNat 32 (j.val - p.val))).msb = true := by
        rw [BitVec.msb_eq_true_iff_two_mul_ge, BitVec.toNat_neg, BitVec.toNat_ofNat]
        omega
      rw [e, if_pos hm, BitVec.neg_neg, Cert.KernelIdeal.Value.nat_toInt _ (by omega), abs_of_nonpos (by omega)]
      omega
    · rw [word_sub _ _ h (by omega), if_neg (by rw [word_msb _ (by omega)]; exact Bool.false_ne_true),
        Cert.KernelIdeal.Value.nat_toInt _ (by omega), abs_of_nonneg (by omega)]
      omega
  show (((IntOp.absi (IntOp.subi (BitVec.ofNat 32 p.val) (BitVec.ofNat 32 j.val))).toInt : ℝ) : EReal) = _
  rw [key]
  push_cast
  rfl

theorem chunk_word : IntOp.divsi .host (BitVec.ofNat 32 j.val) 64#32 = BitVec.ofNat 32 (j.val / 64) := by
  revert j; decide +kernel

theorem chunk_before :
    IntOp.cmpi .sle (IntOp.divsi .host (BitVec.ofNat 32 j.val) 64#32) (IntOp.divsi .host (BitVec.ofNat 32 p.val) 64#32) =
      if j.val / 64 ≤ p.val / 64 then 1#1 else 0#1 := by
  rw [chunk_word, chunk_word]
  show BitVec.ofBool ((BitVec.ofNat 32 (j.val / 64)).sle (BitVec.ofNat 32 (p.val / 64))) = _
  have e : (BitVec.ofNat 32 (j.val / 64)).sle (BitVec.ofNat 32 (p.val / 64)) = decide (j.val / 64 ≤ p.val / 64) := by
    rw [BitVec.sle, Cert.KernelIdeal.Value.nat_toInt _ (by omega), Cert.KernelIdeal.Value.nat_toInt _ (by omega)]
    exact decide_eq_decide.mpr Int.ofNat_le
  rw [e]
  by_cases h : j.val / 64 ≤ p.val / 64 <;> simp [h]

/-! ### Scores -/

theorem ref_dot (q k : Fin 128 → ℝ)
    (hq : ∀ e : Fin 128, (x0 (ix3 b p ⟨h.val * 128 + e.val, by omega⟩) : EReal) = ((q e : ℝ) : EReal))
    (hk : ∀ e : Fin 128, (x1 (ix3 b j ⟨h.val * 128 + e.val, by omega⟩) : EReal) = ((k e : ℝ) : EReal)) :
    (val_main_v19 (F := Ideal) x0 x1 (ix5 b h s p j) : EReal) =
      (((1 / 8) * ∑ e : Fin 64, q ⟨64 * s.val + e.val, by omega⟩ * k ⟨64 * s.val + e.val, by omega⟩ : ℝ) : EReal) := by
  have e : (val_main_v19 (F := Ideal) x0 x1 (ix5 b h s p j) : EReal) =
      ∑ x : Fin 64, (x0 (ix3 b p ⟨h.val * 128 + s.val * 64 + x.val, by omega⟩) : EReal) * Ideal.ofBits .f32 0x3E000000#32 *
        (x1 (ix3 b j ⟨h.val * 128 + s.val * 64 + x.val, by omega⟩) : EReal) := by
    pointwise [val_main_v19, val_main_v18, val_main_v17, val_main_cst_6, val_main_v1, val_main_v0]
  rw [e, Finset.mul_sum, Cert.KernelIdeal.Value.coe_sum]
  refine Finset.sum_congr rfl fun x _ => ?_
  have i : (⟨h.val * 128 + s.val * 64 + x.val, by omega⟩ : Fin 512) = ⟨h.val * 128 + (64 * s.val + x.val), by omega⟩ :=
    Fin.ext (by show h.val * 128 + s.val * 64 + x.val = h.val * 128 + (64 * s.val + x.val); omega)
  rw [i, hq ⟨64 * s.val + x.val, by omega⟩, hk ⟨64 * s.val + x.val, by omega⟩, eighth, ← EReal.coe_mul, ← EReal.coe_mul]
  exact congrArg Real.toEReal (by ring)

theorem ref_bias : (val_main_v41 (F := Ideal) (ix5 b h s p j) : EReal) =
    ((-(slopeOf h) * |(p.val : ℝ) - (j.val : ℝ)| : ℝ) : EReal) := by
  have e : (val_main_v41 (F := Ideal) (ix5 b h s p j) : EReal) =
      -(if h.val < 1 then Ideal.ofBits .f32 0x3E800000#32 else if h.val - 1 < 1 then Ideal.ofBits .f32 0x3D800000#32
        else if h.val - 1 - 1 < 1 then Ideal.ofBits .f32 0x3C800000#32 else Ideal.ofBits .f32 0x3B800000#32) *
      (FloatOps.sitofp (F := Ideal) .f32 (IntOp.absi (IntOp.subi (BitVec.ofNat 32 p.val) (BitVec.ofNat 32 j.val))) : EReal) := by
    pointwise [val_main_v41, val_main_v40, val_main_v32, val_main_v31, val_main_v30, val_main_v29, val_main_v28,
      val_main_v27, val_main_v26, val_main_v25, val_main_v24, val_main_v23, val_main_v22, val_main_v21, val_main_v20,
      val_main_v16, val_main_v15, val_main_v14, val_main_v13, val_main_v12, val_main_cst_5, val_main_cst_4,
      val_main_cst_3, val_main_cst_2, val_main_v11]
    rfl
  have f : (if h.val < 1 then Ideal.ofBits .f32 0x3E800000#32 else if h.val - 1 < 1 then Ideal.ofBits .f32 0x3D800000#32
        else if h.val - 1 - 1 < 1 then Ideal.ofBits .f32 0x3C800000#32 else Ideal.ofBits .f32 0x3B800000#32)
      = ((slopeOf h : ℝ) : EReal) := by
    rw [slope_0, slope_1, slope_2, slope_3]
    fin_cases h <;> rfl
  rw [e, f, distance, ← EReal.coe_neg, ← EReal.coe_mul]

/-- The masked score: later chunks get −∞. -/
theorem ref_score (q k : Fin 128 → ℝ)
    (hq : ∀ e : Fin 128, (x0 (ix3 b p ⟨h.val * 128 + e.val, by omega⟩) : EReal) = ((q e : ℝ) : EReal))
    (hk : ∀ e : Fin 128, (x1 (ix3 b j ⟨h.val * 128 + e.val, by omega⟩) : EReal) = ((k e : ℝ) : EReal)) :
    (val_main_v43 (F := Ideal) x0 x1 (ix5 b h s p j) : EReal) =
      if j.val / 64 ≤ p.val / 64 then ((score q k (slopeOf h) s p.val j.val : ℝ) : EReal) else ⊥ := by
  have e : (val_main_v43 (F := Ideal) x0 x1 (ix5 b h s p j) : EReal) =
      Scalar.select (IntOp.cmpi .sle (IntOp.divsi .host (BitVec.ofNat 32 j.val) 64#32)
          (IntOp.divsi .host (BitVec.ofNat 32 p.val) 64#32))
        ((val_main_v19 (F := Ideal) x0 x1 (ix5 b h s p j) : EReal) + (val_main_v41 (F := Ideal) (ix5 b h s p j) : EReal))
        (Ideal.ofBits .f32 0xFF800000#32) := by
    unfold val_main_v43 val_main_v42
    generalize val_main_v19 (F := Ideal) x0 x1 = y
    generalize val_main_v41 (F := Ideal) = w
    pointwise [val_main_call0_v1, val_main_call0_v0, val_main_call0_v2, val_main_v39, val_main_v38, val_main_v37,
      val_main_v36, val_main_v35, val_main_v34, val_main_v33, val_main_c, val_main_v11, val_main_cst_7]
    rfl
  rw [e, chunk_before, Cert.KernelIdeal.Value.sel_if, ref_dot x0 x1 b h s p j q k hq hk, ref_bias, lowest, ← EReal.coe_add]
  refine if_congr Iff.rfl (congrArg Real.toEReal ?_) rfl
  unfold score
  ring

end Cert.ReferenceIdeal.Value
-- ==== Proof.Reference.lean ====
/-
The reference, row by row: the scores, their weights, the two weighted means and the normalized difference.
-/
module

public import proofs.«01_k».proof.Proof.RefScores
public import Idealize.ShloMosaic.Lib.Pointwise

@[expose] public section

set_option maxRecDepth 16384

noncomputable section

namespace Cert.ReferenceIdeal.Value

open Cert.ReferenceIdeal Cert.ReferenceIdeal.Gen Cert.ReferenceIdeal.Read
open Cert.Attention
open Idealize.ShloMosaic Idealize.ShloMosaic.TcCoe Idealize.ShloMosaic.Tactic

variable (x0 x1 x2 : (⟨S2x16384x512, .f32⟩ : BufTy).Contents (Elt Ideal))
  (x4 x5 x6 x7 : (⟨S64, .f32⟩ : BufTy).Contents (Elt Ideal)) (x8 : (⟨S128, .f32⟩ : BufTy).Contents (Elt Ideal))
  (b : Fin 2) (h : Fin 4) (s : Fin 2) (p j : Fin 16384)

/-! ### The largest score is a real -/

theorem ref_max (y : Fin 16384 → EReal) (c : Fin 16384 → ℝ) (hy : ∀ j, y j = ((c j : ℝ) : EReal) ∨ y j = ⊥)
    (h0 : y 0 = ((c 0 : ℝ) : EReal)) :
    ∃ M : ℝ, max (⊥ : EReal) (Finset.fold max (⊥ : EReal) y Finset.univ) = (M : EReal) := by
  rw [max_eq_right bot_le]
  have low : ((c 0 : ℝ) : EReal) ≤ Finset.fold max (⊥ : EReal) y Finset.univ :=
    Finset.le_fold_max _ |>.mpr (Or.inr ⟨0, Finset.mem_univ _, h0.ge⟩)
  have high : Finset.fold max (⊥ : EReal) y Finset.univ < ⊤ := by
    refine (Finset.fold_max_lt _).mpr ⟨bot_lt_top, fun j _ => ?_⟩
    rcases hy j with h | h
    · rw [h]; exact EReal.coe_lt_top _
    · rw [h]; exact bot_lt_top
  refine ⟨(Finset.fold max (⊥ : EReal) y Finset.univ).toReal, (EReal.coe_toReal high.ne ?_).symm⟩
  exact (lt_of_lt_of_le (EReal.bot_lt_coe _) low).ne'

/-! ### Weights -/

theorem ref_top : (val_main_v48 (F := Ideal) x0 x1 (ix5 b h s p j) : EReal) =
    max (Ideal.ofBits .f32 0xFF800000#32)
      (Finset.fold max (Ideal.ofBits .f32 0xFF800000#32)
        (fun x : Fin 16384 => (val_main_v43 (F := Ideal) x0 x1 (ix5 b h s p x) : EReal)) Finset.univ) := by
  have e : (val_main_v44 (F := Ideal) x0 x1 (ix4 b h s p) : EReal) =
      Finset.fold max (Ideal.ofBits .f32 0xFF800000#32)
        (fun x : Fin 16384 => (val_main_v43 (F := Ideal) x0 x1 (ix5 b h s p x) : EReal)) Finset.univ := by
    unfold val_main_v44
    generalize val_main_v43 (F := Ideal) x0 x1 = y
    pointwise [val_main_cst_8]
  rw [← e, val_main_v48_apply, val_main_v47_apply, val_main_v46_apply, val_main_v45_apply]
  have g : idx_main_v47 (idx_main_v48 (ix5 b h s p j)) = ix4 b h s p := funext fun a => Fin.ext (by
    match a with
    | ⟨0, _⟩ => rfl
    | ⟨1, _⟩ => rfl
    | ⟨2, _⟩ => rfl
    | ⟨3, _⟩ => rfl)
  rw [g]
  rfl

theorem ref_unnorm : (val_main_v50 (F := Ideal) x0 x1 (ix5 b h s p j) : EReal) =
    Ideal.exp ((val_main_v43 (F := Ideal) x0 x1 (ix5 b h s p j) : EReal) - (val_main_v48 (F := Ideal) x0 x1 (ix5 b h s p j) : EReal)) := rfl

theorem ref_total : (val_main_v51 (F := Ideal) x0 x1 (ix4 b h s p) : EReal) =
    ∑ x : Fin 16384, (val_main_v50 (F := Ideal) x0 x1 (ix5 b h s p x) : EReal) := by
  rw [val_main_v51_apply]
  have z : (val_main_cst_10 (F := Ideal) (Shape.Idx.first h_S_) : EReal) = 0 := Ideal.ofBits_zero_f32
  refine Eq.trans (congrArg (fun a : EReal => a + _) z) ?_
  rw [zero_add]
  refine Finset.sum_congr rfl fun x _ => ?_
  exact congrArg (val_main_v50 (F := Ideal) x0 x1) (funext fun a => Fin.ext (by
    match a with
    | ⟨0, _⟩ => rfl
    | ⟨1, _⟩ => rfl
    | ⟨2, _⟩ => rfl
    | ⟨3, _⟩ => rfl
    | ⟨4, _⟩ => rfl))

theorem ref_quot : (val_main_v54 (F := Ideal) x0 x1 (ix5 b h s p j) : EReal) =
    Ideal.div (val_main_v50 (F := Ideal) x0 x1 (ix5 b h s p j)) (val_main_v51 (F := Ideal) x0 x1 (ix4 b h s p)) := by
  rw [val_main_v54_apply, val_main_v53_apply, val_main_v52_apply]
  have g : idx_main_v52 (idx_main_v53 (ix5 b h s p j)) = ix4 b h s p := funext fun a => Fin.ext (by
    match a with
    | ⟨0, _⟩ => rfl
    | ⟨1, _⟩ => rfl
    | ⟨2, _⟩ => rfl
    | ⟨3, _⟩ => rfl)
  rw [g]
  rfl

/-- The normalized weight. -/
theorem ref_weight (q : Fin 128 → ℝ) (k : ℕ → Fin 128 → ℝ)
    (hq : ∀ e : Fin 128, (x0 (ix3 b p ⟨h.val * 128 + e.val, by omega⟩) : EReal) = ((q e : ℝ) : EReal))
    (hk : ∀ (j : Fin 16384) (e : Fin 128), (x1 (ix3 b j ⟨h.val * 128 + e.val, by omega⟩) : EReal) = ((k j.val e : ℝ) : EReal)) :
    (val_main_v54 (F := Ideal) x0 x1 (ix5 b h s p j) : EReal) =
      ((weight q k (slopeOf h) s p.val j.val / ∑ j ∈ Finset.range 16384, weight q k (slopeOf h) s p.val j : ℝ) : EReal) := by
  have hs := fun j => ref_score x0 x1 b h s p j q (k j.val) hq (hk j)
  obtain ⟨M, hM⟩ := ref_max (fun x => (val_main_v43 (F := Ideal) x0 x1 (ix5 b h s p x) : EReal))
    (fun x => score q (k x.val) (slopeOf h) s p.val x.val)
    (fun x => by
      rcases Nat.lt_or_ge (p.val / 64) (x.val / 64) with hx | hx
      · exact Or.inr ((hs x).trans (if_neg (by omega)))
      · exact Or.inl ((hs x).trans (if_pos hx)))
    ((hs 0).trans (if_pos (by simp)))
  have hu : ∀ x : Fin 16384, (val_main_v50 (F := Ideal) x0 x1 (ix5 b h s p x) : EReal) =
      ((weight q k (slopeOf h) s p.val x.val * Real.exp (-M) : ℝ) : EReal) := by
    intro x
    rw [ref_unnorm, ref_top, lowest, hM, hs x]
    unfold weight
    split
    · rw [← EReal.coe_sub, Ideal.exp_coe, ← Real.exp_add, sub_eq_add_neg]
    · rw [zero_mul, EReal.bot_sub, Ideal.exp_bot, EReal.coe_zero]
  have hT := total_pos q k (slopeOf h) s p.val
  have ht : (val_main_v51 (F := Ideal) x0 x1 (ix4 b h s p) : EReal) =
      (((∑ j ∈ Finset.range 16384, weight q k (slopeOf h) s p.val j) * Real.exp (-M) : ℝ) : EReal) := by
    rw [ref_total, Finset.sum_congr rfl fun x _ => hu x, ← Cert.KernelIdeal.Value.coe_sum, Finset.sum_mul,
      Finset.sum_range fun j => weight q k (slopeOf h) s p.val j * Real.exp (-M)]
  have hE := Real.exp_pos (-M)
  rw [ref_quot, hu, ht, Ideal.div_coe (mul_pos hT hE).ne', ← EReal.coe_mul]
  refine congrArg Real.toEReal ?_
  field_simp

/-! ### The difference of the means -/

theorem ref_lam : (val_main_v10 (F := Ideal) x4 x5 x6 x7 ix0 : EReal) =
    lam (fun x => x4 (ix1 x)) (fun x => x5 (ix1 x)) (fun x => x6 (ix1 x)) (fun x => x7 (ix1 x)) := by
  unfold lam
  pointwise [val_main_v10, val_main_v9, val_main_v8, val_main_v7, val_main_v6, val_main_v5, val_main_v4, val_main_v3,
    val_main_cst, val_main_cst_0, val_main_cst_1]

theorem ref_diff : (val_main_v61 (F := Ideal) x0 x1 x4 x5 x6 x7 (ix4 b h p j) : EReal) =
    (val_main_v54 (F := Ideal) x0 x1 (ix5 b h 0 p j) : EReal) -
      (val_main_v10 (F := Ideal) x4 x5 x6 x7 ix0 : EReal) * (val_main_v54 (F := Ideal) x0 x1 (ix5 b h 1 p j) : EReal) := by
  have g56 : idx_main_v55 (idx_main_v56 (ix4 b h p j)) = ix5 b h 0 p j := funext fun a => Fin.ext (by
    match a with
    | ⟨0, _⟩ => show (((b.val * 4 + h.val) * 16384 + p.val) * 16384 + j.val) / 1073741824 = b.val; omega
    | ⟨1, _⟩ => show (((b.val * 4 + h.val) * 16384 + p.val) * 16384 + j.val) / 268435456 % 4 = h.val; omega
    | ⟨2, _⟩ => rfl
    | ⟨3, _⟩ => show (((b.val * 4 + h.val) * 16384 + p.val) * 16384 + j.val) / 16384 % 16384 = p.val; omega
    | ⟨4, _⟩ => show (((b.val * 4 + h.val) * 16384 + p.val) * 16384 + j.val) % 16384 = j.val; omega)
  have g58 : idx_main_v57 (idx_main_v58 (ix4 b h p j)) = ix5 b h 1 p j := funext fun a => Fin.ext (by
    match a with
    | ⟨0, _⟩ => show (((b.val * 4 + h.val) * 16384 + p.val) * 16384 + j.val) / 1073741824 = b.val; omega
    | ⟨1, _⟩ => show (((b.val * 4 + h.val) * 16384 + p.val) * 16384 + j.val) / 268435456 % 4 = h.val; omega
    | ⟨2, _⟩ => rfl
    | ⟨3, _⟩ => show (((b.val * 4 + h.val) * 16384 + p.val) * 16384 + j.val) / 16384 % 16384 = p.val; omega
    | ⟨4, _⟩ => show (((b.val * 4 + h.val) * 16384 + p.val) * 16384 + j.val) % 16384 = j.val; omega)
  rw [val_main_v61_apply, val_main_v60_apply, val_main_v59_apply, val_main_v58_apply, val_main_v57_apply, val_main_v56_apply,
    val_main_v55_apply, g56, g58]
  have z : idx_main_v59 (ix4 b h p j) = ix0 := funext fun a => a.elim0
  rw [z]
  rfl

theorem ref_mix (d : Fin 128) : (val_main_v63 (F := Ideal) x0 x1 x2 x4 x5 x6 x7 (ix4 b p h d) : EReal) =
    ∑ x : Fin 16384, (x2 (ix3 b x ⟨h.val * 128 + d.val, by omega⟩) : EReal) *
      (val_main_v61 (F := Ideal) x0 x1 x4 x5 x6 x7 (ix4 b h p x) : EReal) := by
  have e : (val_main_v63 (F := Ideal) x0 x1 x2 x4 x5 x6 x7 (ix4 b p h d) : EReal) =
      val_main_v62 (F := Ideal) x0 x1 x2 x4 x5 x6 x7 (ix4 b h d p) := by
    unfold val_main_v63
    generalize val_main_v62 (F := Ideal) x0 x1 x2 x4 x5 x6 x7 = y
    pointwise
  have f : ∀ x : Fin 16384, (val_main_v2 (F := Ideal) x2 (ix4 b x h d) : EReal) = x2 (ix3 b x ⟨h.val * 128 + d.val, by omega⟩) := by
    intro x
    unfold val_main_v2
    pointwise
  rw [e, val_main_v62_apply]
  refine Finset.sum_congr rfl fun x _ => ?_
  refine congrArg₂ (fun a b : EReal => a * b) (Eq.trans (congrArg (val_main_v2 (F := Ideal) x2) (funext fun a => Fin.ext (by
    match a with
    | ⟨0, _⟩ => rfl
    | ⟨1, _⟩ => rfl
    | ⟨2, _⟩ => rfl
    | ⟨3, _⟩ => rfl))) (f x)) ?_
  exact congrArg (val_main_v61 (F := Ideal) x0 x1 x4 x5 x6 x7) (funext fun a => Fin.ext (by
    match a with
    | ⟨0, _⟩ => rfl
    | ⟨1, _⟩ => rfl
    | ⟨2, _⟩ => rfl
    | ⟨3, _⟩ => rfl))

theorem ref_means (q : Fin 128 → ℝ) (k v : ℕ → Fin 128 → ℝ) (l : ℝ)
    (hq : ∀ e : Fin 128, (x0 (ix3 b p ⟨h.val * 128 + e.val, by omega⟩) : EReal) = ((q e : ℝ) : EReal))
    (hk : ∀ (j : Fin 16384) (e : Fin 128), (x1 (ix3 b j ⟨h.val * 128 + e.val, by omega⟩) : EReal) = ((k j.val e : ℝ) : EReal))
    (hv : ∀ (j : Fin 16384) (e : Fin 128), (x2 (ix3 b j ⟨h.val * 128 + e.val, by omega⟩) : EReal) = ((v j.val e : ℝ) : EReal))
    (hl : lam (fun x => x4 (ix1 x)) (fun x => x5 (ix1 x)) (fun x => x6 (ix1 x)) (fun x => x7 (ix1 x)) = (l : EReal))
    (d : Fin 128) :
    (val_main_v63 (F := Ideal) x0 x1 x2 x4 x5 x6 x7 (ix4 b p h d) : EReal) =
      ((mean q k v (slopeOf h) 0 p.val d : ℝ) : EReal) - (l : EReal) * ((mean q k v (slopeOf h) 1 p.val d : ℝ) : EReal) := by
  have ht : ∀ x : Fin 16384, (x2 (ix3 b x ⟨h.val * 128 + d.val, by omega⟩) : EReal) *
      (val_main_v61 (F := Ideal) x0 x1 x4 x5 x6 x7 (ix4 b h p x) : EReal) =
      ((v x.val d * (weight q k (slopeOf h) 0 p.val x.val / (∑ j ∈ Finset.range 16384, weight q k (slopeOf h) 0 p.val j)
        - l * (weight q k (slopeOf h) 1 p.val x.val / ∑ j ∈ Finset.range 16384, weight q k (slopeOf h) 1 p.val j)) : ℝ) : EReal) := by
    intro x
    rw [hv, ref_diff, ref_lam, hl, ref_weight x0 x1 b h 0 p x q k hq hk, ref_weight x0 x1 b h 1 p x q k hq hk,
      ← EReal.coe_mul, ← EReal.coe_sub, ← EReal.coe_mul]
  rw [ref_mix, Finset.sum_congr rfl fun x _ => ht x, ← Cert.KernelIdeal.Value.coe_sum, ← EReal.coe_mul, ← EReal.coe_sub]
  refine congrArg Real.toEReal ?_
  unfold mean
  generalize ∑ j ∈ Finset.range 16384, weight q k (slopeOf h) 0 p.val j = T0
  generalize ∑ j ∈ Finset.range 16384, weight q k (slopeOf h) 1 p.val j = T1
  rw [Finset.sum_range, Finset.sum_range, Finset.sum_div, Finset.sum_div, Finset.mul_sum, ← Finset.sum_sub_distrib]
  refine Finset.sum_congr rfl fun x _ => ?_
  ring

/-- The reference's result. -/
theorem ref_value (q : Fin 128 → ℝ) (k v : ℕ → Fin 128 → ℝ) (l : ℝ)
    (hq : ∀ e : Fin 128, (x0 (ix3 b p ⟨h.val * 128 + e.val, by omega⟩) : EReal) = ((q e : ℝ) : EReal))
    (hk : ∀ (j : Fin 16384) (e : Fin 128), (x1 (ix3 b j ⟨h.val * 128 + e.val, by omega⟩) : EReal) = ((k j.val e : ℝ) : EReal))
    (hv : ∀ (j : Fin 16384) (e : Fin 128), (x2 (ix3 b j ⟨h.val * 128 + e.val, by omega⟩) : EReal) = ((v j.val e : ℝ) : EReal))
    (hl : lam (fun x => x4 (ix1 x)) (fun x => x5 (ix1 x)) (fun x => x6 (ix1 x)) (fun x => x7 (ix1 x)) = (l : EReal))
    (d : Fin 128) :
    (val_main_v80 (F := Ideal) x0 x1 x2 x4 x5 x6 x7 x8 (ix3 b p ⟨h.val * 128 + d.val, by omega⟩) : EReal) =
      ending (fun x => ((mean q k v (slopeOf h) 0 p.val x : ℝ) : EReal) - (l : EReal) * ((mean q k v (slopeOf h) 1 p.val x : ℝ) : EReal))
        (x8 (ix1 d)) d := by
  have e : (val_main_v80 (F := Ideal) x0 x1 x2 x4 x5 x6 x7 x8 (ix3 b p ⟨h.val * 128 + d.val, by omega⟩) : EReal) =
      ending (fun x => (val_main_v63 (F := Ideal) x0 x1 x2 x4 x5 x6 x7 (ix4 b p h x) : EReal)) (x8 (ix1 d)) d := by
    unfold val_main_v80 val_main_v79 val_main_v78 val_main_v77 val_main_v76 val_main_v75 val_main_v74 val_main_v73
      val_main_v72 val_main_v71 val_main_v70 val_main_v69 val_main_v68 val_main_v67 val_main_v66 val_main_v65 val_main_v64
    generalize val_main_v63 (F := Ideal) x0 x1 x2 x4 x5 x6 x7 = y
    unfold ending
    pointwise [val_main_cst_11, val_main_cst_12, val_main_cst_13, val_main_cst_14]
  rw [e]
  exact congrArg (fun z => ending z (x8 (ix1 d)) d) (funext fun x => ref_means x0 x1 x2 x4 x5 x6 x7 b h p q k v l hq hk hv hl x)

end Cert.ReferenceIdeal.Value
-- ==== Proof.Final.lean ====
/-
The block the program writes at a step of the grid is the reference's block; so the two results agree.
-/
module

public import proofs.«01_k».proof.Proof.RunIdeal
public import proofs.«01_k».proof.Proof.Ending
public import Idealize.ShloMosaic.Lib.Claim
public import proofs.«01_k».proof.Proof.Blocks
public import proofs.«01_k».proof.Proof.Query
public import proofs.«01_k».proof.Proof.Reference

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic Idealize.SL.Sem Cert.Attention

variable (m : (ℓ : Loc nD τ sig) → Buf (Elt Ideal) ℓ) (c : Dev nD)

/-- The arguments are real numbers, and the bounds on the keys are not negative. -/
structure RealArgs : Prop where
  q : ∀ i, ∃ r : ℝ, (m ((c.tc : Thread nD τ).loc main_arg0) i : EReal) = (r : EReal)
  k : ∀ i, ∃ r : ℝ, (m ((c.tc : Thread nD τ).loc main_arg1) i : EReal) = (r : EReal)
  v : ∀ i, ∃ r : ℝ, (m ((c.tc : Thread nD τ).loc main_arg2) i : EReal) = (r : EReal)
  kmax : ∀ i, ∃ r : ℝ, (m ((c.tc : Thread nD τ).loc main_arg3) i : EReal) = (r : EReal) ∧ 0 ≤ r
  l4 : ∀ i, ∃ r : ℝ, (m ((c.tc : Thread nD τ).loc main_arg4) i : EReal) = (r : EReal)
  l5 : ∀ i, ∃ r : ℝ, (m ((c.tc : Thread nD τ).loc main_arg5) i : EReal) = (r : EReal)
  l6 : ∀ i, ∃ r : ℝ, (m ((c.tc : Thread nD τ).loc main_arg6) i : EReal) = (r : EReal)
  l7 : ∀ i, ∃ r : ℝ, (m ((c.tc : Thread nD τ).loc main_arg7) i : EReal) = (r : EReal)

/-- The reference's result from the arguments of the program. -/
abbrev refOut : Cert.ReferenceIdeal.S2x16384x512.Idx → EReal :=
  Cert.ReferenceIdeal.Read.val_main_v80 (F := Ideal) (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- Real rows of an argument given as entries of a head, indexed by all natural numbers. -/
theorem rows_real (x : Cert.ReferenceIdeal.S2x16384x512.Idx → EReal) (hx : ∀ i, ∃ r : ℝ, x i = (r : EReal)) (b : Fin 2) (h : Fin 4) :
    ∃ f : ℕ → Fin 128 → ℝ, ∀ (j : Fin 16384) (e : Fin 128), x (ix3 b j ⟨h.val * 128 + e.val, by omega⟩) = ((f j.val e : ℝ) : EReal) := by
  choose f hf using hx
  refine ⟨fun j e => if hj : j < 16384 then f (ix3 b ⟨j, hj⟩ ⟨h.val * 128 + e.val, by omega⟩) else 0, fun j e => ?_⟩
  simp only [j.isLt, dif_pos, Fin.eta]
  exact hf _

variable {m c}

set_option maxHeartbeats 1000000 in
theorem block_value (H : RealArgs m c) (t : Fin cfg0.N) (r : Fin 512) (d : Fin 128) :
    (outAt m c t (ix3 0 r d) : EReal) =
      refOut m c (ix3 (batch t) ⟨512 * (grid0.coords t 2).val + r.val, row_lt t r⟩ ⟨(head t).val * 128 + d.val, col_lt t d⟩) := by
  obtain ⟨qR, hqR⟩ := rows_real _ H.q (batch t) (head t)
  obtain ⟨kR, hkR⟩ := rows_real _ H.k (batch t) (head t)
  obtain ⟨vR, hvR⟩ := rows_real _ H.v (batch t) (head t)
  obtain ⟨l, hl⟩ := lam_real _ _ _ _ (fun x => H.l4 (ix1 x)) (fun x => H.l5 (ix1 x)) (fun x => H.l6 (ix1 x)) (fun x => H.l7 (ix1 x))
  obtain ⟨ka, hka, hka0⟩ := H.kmax (ix3 (batch t) 0 ⟨(head t).val * 128 + (0 : Fin 128).val, col_lt t 0⟩)
  obtain ⟨kb, hkb, hkb0⟩ := H.kmax (ix3 (batch t) 0 ⟨(head t).val * 128 + (64 : Fin 128).val, col_lt t 64⟩)
  set q : Fin 512 → Fin 128 → ℝ := fun r => qR (512 * (grid0.coords t 2).val + r.val) with hqdef
  have hq : ∀ r e, iblk m c 1 t (ix4 0 0 r e) = ((scaled q r e : ℝ) : EReal) := by
    intro r e
    have := hqR ⟨512 * (grid0.coords t 2).val + r.val, row_lt t r⟩ e
    have hh := host_queries m c (head t) (batch t) ⟨512 * (grid0.coords t 2).val + r.val, row_lt t r⟩ e
    rw [eighth, base_two] at hh
    refine (blk_queries m c t r e).trans (hh.trans ?_)
    refine (congrArg (fun z : EReal => z * (((1 / 8 : ℝ) : EReal) * ((1 / Real.log 2 : ℝ) : EReal))) this).trans ?_
    simp only [scaled, hqdef, EReal.coe_mul]
  have hk0 : iblk m c 6 t (ix3 0 0 0) = ((ka : ℝ) : EReal) := by
    rw [blk_kmax, V_main_arg3]; exact hka
  have hk64 : iblk m c 6 t (ix3 0 0 64) = ((kb : ℝ) : EReal) := by
    rw [blk_kmax, V_main_arg3]; exact hkb
  choose βA hβA using norm_A (iblk m c 1 t) (iblk m c 6 t) (scaled q) ka hka0 hq hk0
  choose βB hβB using norm_B (iblk m c 1 t) (iblk m c 6 t) (scaled q) kb hkb0 hq hk64
  have hA : ∀ r e, queryA (iblk m c 0 t) (grid0.coords t) (iblk m c 1 t) (iblk m c 6 t) (ix2 r e)
      = ((augA (scaled q r) (shift (slopeOf (head t)) βA r) (slopeOf (head t) * (1 / Real.log 2)) e : ℝ) : EReal) := by
    intro r e
    unfold queryA
    rw [tab_A, tab_B, tab_C, tab_D]
    exact query_A _ _ _ (scaled q) βA hq hβA r e
  have hB : ∀ r e, queryB (iblk m c 0 t) (grid0.coords t) (iblk m c 1 t) (iblk m c 6 t) (ix2 r e)
      = ((augB (scaled q r) (shift (slopeOf (head t)) βB r) (slopeOf (head t) * (1 / Real.log 2)) e : ℝ) : EReal) := by
    intro r e
    unfold queryB
    rw [tab_A, tab_B, tab_C, tab_D]
    exact query_B _ _ _ (scaled q) βB hq hβB r e
  have h5 : ∀ (j : Fin 16384) (e : Fin 256), iblk m c 2 t (ix4 0 0 j e) = ((padK kR j.val e.val : ℝ) : EReal) :=
    fun j e => (blk_all_keys m c t j e).trans (host_keys m c _ _ kR hkR j e)
  have h6 : ∀ (j : Fin 16384) (d : Fin 128), iblk m c 3 t (ix4 0 0 j d) = ((vR j.val d : ℝ) : EReal) :=
    fun j d => (blk_all_values m c t j d).trans ((host_values m c _ _ j d).trans (hvR j d))
  have h7 : ∀ (j : Fin 512) (e : Fin 256), iblk m c 4 t (ix4 0 0 j e) = ((padK kR (512 * (grid0.coords t 2).val + j.val) e.val : ℝ) : EReal) :=
    fun j e => (blk_keys m c t j e).trans (host_keys m c _ _ kR hkR _ e)
  have h8 : ∀ (j : Fin 512) (d : Fin 128), iblk m c 5 t (ix4 0 0 j d) = ((vR (512 * (grid0.coords t 2).val + j.val) d : ℝ) : EReal) :=
    fun j d => (blk_values m c t j d).trans ((host_values m c _ _ _ d).trans (hvR _ d))
  have hout := out_value (grid0.coords t) _ _ q kR vR (slopeOf (head t)) βA βB (iblk m c 2 t) (iblk m c 3 t) (iblk m c 4 t) (iblk m c 5 t) (iblk m c 7 t) (iblk m c 8 t) hA hB h5 h6 h7 h8 r d
  have hlam : lam (fun y => iblk m c 7 t (ix2 0 y)) (fun y => iblk m c 7 t (ix2 1 y)) (fun y => iblk m c 7 t (ix2 2 y)) (fun y => iblk m c 7 t (ix2 3 y)) = (l : EReal) := by
    have e0 : (fun y => iblk m c 7 t (ix2 0 y)) = fun x => m ((c.tc : Thread nD τ).loc main_arg4) (ix1 x) :=
      funext fun y => (blk_lam m c t 0 y).trans (host_lam m c 0 y)
    have e1 : (fun y => iblk m c 7 t (ix2 1 y)) = fun x => m ((c.tc : Thread nD τ).loc main_arg5) (ix1 x) :=
      funext fun y => (blk_lam m c t 1 y).trans (host_lam m c 1 y)
    have e2 : (fun y => iblk m c 7 t (ix2 2 y)) = fun x => m ((c.tc : Thread nD τ).loc main_arg6) (ix1 x) :=
      funext fun y => (blk_lam m c t 2 y).trans (host_lam m c 2 y)
    have e3 : (fun y => iblk m c 7 t (ix2 3 y)) = fun x => m ((c.tc : Thread nD τ).loc main_arg7) (ix1 x) :=
      funext fun y => (blk_lam m c t 3 y).trans (host_lam m c 3 y)
    rw [e0, e1, e2, e3]
    exact hl
  have hs : iblk m c 8 t (ix2 0 d) = m ((c.tc : Thread nD τ).loc main_arg8) (ix1 d) := (blk_subln m c t d).trans (host_subln m c d)
  have hr := Cert.ReferenceIdeal.Value.ref_value _ _ _ _ _ _ _ (m ((c.tc : Thread nD τ).loc main_arg8)) (batch t) (head t) ⟨512 * (grid0.coords t 2).val + r.val, row_lt t r⟩ (q r) kR vR l
    (fun e => hqR _ e) hkR hvR hl d
  refine Eq.trans ?_ hr.symm
  unfold outAt
  rw [tab_A]
  refine hout.trans ?_
  rw [hlam, hs]

/-- The whole result of the program is the reference's. -/
theorem final (H : RealArgs m c) : (dats m 0 c).arrAt 9 cfg0.N = refOut m c := by
  refine (dats m 0 c).arrAt_eq_of_covers 9 (refOut m c) (by decide +kernel) fun t _ y => ?_
  rw [after0_9]
  blk_simp [idx_9 t]
  have hy : y = ix3 0 (y 1) (y 2) := by
    funext a
    match a with
    | ⟨0, _⟩ => exact Subsingleton.elim (α := Fin 1) _ _
    | ⟨1, _⟩ => rfl
    | ⟨2, _⟩ => rfl
  refine (congrArg (outAt m c t) hy).trans ((block_value H t (y 1) (y 2)).trans ?_)
  generalize refOut m c = R
  blk_ext [idx_9 t, batch, head]

end Cert.KernelIdeal.Value
-- ==== Proof.Algebraic.lean ====
/-
Over the real numbers the program and the reference end with the same result.
-/
module

public import proofs.«01_k».proof.Proof.Finite
public import proofs.«01_k».proof.Proof.Final

@[expose] public section

set_option maxRecDepth 16384

noncomputable section

namespace Cert.Proof

open Idealize.ShloMosaic Idealize.ShloMosaic.TcCoe Idealize.ShloMosaic.Tactic Idealize.SL.Sem

/-- What the precondition gives, as the value lemmas take it. -/
theorem real_args (m : (ℓ : Loc Cert.KernelIdeal.nD Cert.KernelIdeal.τ Cert.KernelIdeal.sig) → Buf (Elt Ideal) ℓ)
    (h : Cert.Pre_KernelIdeal_finite_inputs (hPre_finite_inputs := preFacts) m) (c : Dev Cert.KernelIdeal.nD) :
    Cert.KernelIdeal.Value.RealArgs m c := by
  obtain ⟨h0, h1, h2, h3, h4, h5, h6, h7⟩ := pre_entries m c h
  exact ⟨h0, h1, h2, h3, h4, h5, h6, h7⟩

theorem algebraic : Cert.algebraic_KernelIdeal_ReferenceIdeal_pre_finite_inputs (hKernelIdeal := Cert.KernelIdeal.Gen.facts)
    (hReferenceIdeal := Cert.ReferenceIdeal.Gen.facts) (hPre_finite_inputs := preFacts) := by
  intro m g m' g' hpre hagree
  refine ⟨fun c => Cert.KernelIdeal.Value.refOut m c, ?_, ?_⟩
  · refine (θ_run Cert.KernelIdeal.defs _ _).mono (fun r h c => ?_)
      (Idealize.ShloMosaic.θ_run_and (Cert.KernelIdeal.Body.run_main m g) (Cert.KernelIdeal.Body.frame_main m g))
    exact ⟨((h.1.1 c).1 9).trans (Cert.KernelIdeal.Value.final (real_args m hpre c)), h.2.1 c⟩
  · refine (θ_run Cert.ReferenceIdeal.defs _ _).mono (fun r h c => ?_) (Cert.ReferenceIdeal.Value.run (F := Ideal) m' g')
    obtain ⟨a0, a1, a2, a3, a4, a5, a6, a7, a8⟩ := hagree c
    obtain ⟨hv, hargs⟩ := h c
    refine ⟨hv.trans ?_, ?_⟩
    · rw [Cert.ReferenceIdeal.Read.val_main_v80_eq]
      rw [a0, a1, a2, a4, a5, a6, a7, a8]
    · exact hargs

end Cert.Proof
-- ==== Proof.OutRows.lean ====
/-
The output projection, row by row: the residual, its norm, and the scores of the sub-keys, and the values the program's
body computes from its blocks.
-/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.OutProj

open Idealize.ShloMosaic

/-- An entry of the residual row: the layer's input and the product of the pooled and the attention lanes with the weights. -/
def res (x : Fin 1024 → EReal) (p a : Fin 512 → EReal) (w : Fin 1024 → Fin 1024 → EReal) (j : Fin 1024) : EReal :=
  x j + (∑ k : Fin 512, p k * w ⟨k.val, by omega⟩ j + ∑ k : Fin 512, a k * w ⟨512 + k.val, by omega⟩ j)

/-- An entry of the row divided by its root mean square, times the norm's scale. -/
def normed (h g : Fin 1024 → EReal) (j : Fin 1024) : EReal :=
  h j * Ideal.rsqrt (Ideal.div (∑ k : Fin 1024, h k * h k) (Ideal.ofBits .f32 0x44800000#32) + Ideal.ofBits .f32 0x358637BD#32) * g j

/-- An entry of the row's query. -/
def query (n : Fin 1024 → EReal) (w : Fin 1024 → Fin 2048 → EReal) (j : Fin 2048) : EReal := ∑ k : Fin 1024, n k * w k j

/-- The score of a sub-key of one of the sixteen groups. -/
def score (q : Fin 2048 → EReal) (s : Fin 16 → Fin 128 → Fin 128 → EReal) (g : Fin 16) (k : Fin 128) : EReal :=
  ∑ c : Fin 128, s g k c * q ⟨g.val * 128 + c.val, by omega⟩

end Cert.OutProj

namespace Cert.Kernel2Ideal.Value

open Cert.Kernel2Ideal Cert.Kernel2Ideal.Gen Cert.OutProj
open Idealize.ShloMosaic Idealize.ShloMosaic.TcCoe Idealize.ShloMosaic.Tactic

section
variable (P0 P2 : Vec Ideal S256x512 .bf16) (P1 P3 : Vec Ideal S512x1024 .bf16) (P4 : Vec Ideal S256x1024 .f32) (P5 : Vec Ideal S1x1024 .f32)

theorem pay_res (r : Fin 256) (j : Fin 1024) :
    k0_pay2 P0 P1 P2 P3 P4 (ix2 r j) =
      P4 (ix2 r j) + (∑ k : Fin 512, P0 (ix2 r k) * P1 (ix2 k j) + ∑ k : Fin 512, P2 (ix2 r k) * P3 (ix2 k j)) := by
  pointwise [k0_pay2]

theorem pay_normed (r : Fin 256) (j : Fin 1024) :
    k0_pay3 P0 P1 P2 P3 P4 P5 (ix2 r j) = normed (fun k => k0_pay2 P0 P1 P2 P3 P4 (ix2 r k)) (fun k => P5 (ix2 0 k)) j := by
  unfold k0_pay3 normed
  generalize k0_pay2 P0 P1 P2 P3 P4 = H
  pointwise

theorem pay_turned (r : Fin 256) (j : Fin 1024) :
    k0_pay4 P0 P1 P2 P3 P4 P5 (ix2 j r) = k0_pay3 P0 P1 P2 P3 P4 P5 (ix2 r j) := by
  unfold k0_pay4
  generalize k0_pay3 P0 P1 P2 P3 P4 P5 = H
  pointwise

theorem pay_query (P6 : Vec Ideal S1024x2048 .bf16) (r : Fin 256) (j : Fin 2048) :
    k0_pay5 P0 P1 P2 P3 P4 P5 P6 (ix2 r j) = query (fun k => k0_pay3 P0 P1 P2 P3 P4 P5 (ix2 r k)) (fun k j => P6 (ix2 k j)) j := by
  unfold k0_pay5 query
  generalize k0_pay3 P0 P1 P2 P3 P4 P5 = H
  pointwise

end

section
variable (q : FVec Ideal S256x2048 .f32) (s : Vec Ideal S1x128x128 .bf16) (k : Fin 128) (r : Fin 256)

theorem pay_score0 : k0_pay6 q s (ix3 0 k r) = ∑ c : Fin 128, s (ix3 0 k c) * q (ix2 r ⟨0 * 128 + c.val, by omega⟩) := by
  pointwise [k0_pay6]

theorem pay_score1 : k0_pay7 q s (ix3 0 k r) = ∑ c : Fin 128, s (ix3 0 k c) * q (ix2 r ⟨1 * 128 + c.val, by omega⟩) := by
  pointwise [k0_pay7]

theorem pay_score2 : k0_pay8 q s (ix3 0 k r) = ∑ c : Fin 128, s (ix3 0 k c) * q (ix2 r ⟨2 * 128 + c.val, by omega⟩) := by
  pointwise [k0_pay8]

theorem pay_score3 : k0_pay10 (k0_pay9 q s) (ix3 0 k r) = ∑ c : Fin 128, s (ix3 0 k c) * q (ix2 r ⟨3 * 128 + c.val, by omega⟩) := by
  pointwise [k0_pay10, k0_pay9]

theorem pay_score4 : k0_pay11 q s (ix3 0 k r) = ∑ c : Fin 128, s (ix3 0 k c) * q (ix2 r ⟨4 * 128 + c.val, by omega⟩) := by
  pointwise [k0_pay11]

theorem pay_score5 : k0_pay12 q s (ix3 0 k r) = ∑ c : Fin 128, s (ix3 0 k c) * q (ix2 r ⟨5 * 128 + c.val, by omega⟩) := by
  pointwise [k0_pay12]

theorem pay_score6 : k0_pay13 q s (ix3 0 k r) = ∑ c : Fin 128, s (ix3 0 k c) * q (ix2 r ⟨6 * 128 + c.val, by omega⟩) := by
  pointwise [k0_pay13]

theorem pay_score7 : k0_pay16 (k0_pay14 q) (k0_pay15 s) (constant S128x256 .f32 0x00000000#32) (ix3 0 k r) = ∑ c : Fin 128, s (ix3 0 k c) * q (ix2 r ⟨7 * 128 + c.val, by omega⟩) := by
  pointwise [k0_pay16, k0_pay14, k0_pay15]

theorem pay_score8 : k0_pay17 q s (ix3 0 k r) = ∑ c : Fin 128, s (ix3 0 k c) * q (ix2 r ⟨8 * 128 + c.val, by omega⟩) := by
  pointwise [k0_pay17]

theorem pay_score9 : k0_pay18 q s (ix3 0 k r) = ∑ c : Fin 128, s (ix3 0 k c) * q (ix2 r ⟨9 * 128 + c.val, by omega⟩) := by
  pointwise [k0_pay18]

theorem pay_score10 : k0_pay19 q s (ix3 0 k r) = ∑ c : Fin 128, s (ix3 0 k c) * q (ix2 r ⟨10 * 128 + c.val, by omega⟩) := by
  pointwise [k0_pay19]

theorem pay_score11 : k0_pay21 (k0_pay20 q) s (ix3 0 k r) = ∑ c : Fin 128, s (ix3 0 k c) * q (ix2 r ⟨11 * 128 + c.val, by omega⟩) := by
  pointwise [k0_pay21, k0_pay20]

theorem pay_score12 : k0_pay22 q s (ix3 0 k r) = ∑ c : Fin 128, s (ix3 0 k c) * q (ix2 r ⟨12 * 128 + c.val, by omega⟩) := by
  pointwise [k0_pay22]

theorem pay_score13 : k0_pay23 q s (ix3 0 k r) = ∑ c : Fin 128, s (ix3 0 k c) * q (ix2 r ⟨13 * 128 + c.val, by omega⟩) := by
  pointwise [k0_pay23]

theorem pay_score14 : k0_pay24 q s (ix3 0 k r) = ∑ c : Fin 128, s (ix3 0 k c) * q (ix2 r ⟨14 * 128 + c.val, by omega⟩) := by
  pointwise [k0_pay24]

theorem pay_score15 : k0_pay1 q s (ix3 0 k r) = ∑ c : Fin 128, s (ix3 0 k c) * q (ix2 r ⟨15 * 128 + c.val, by omega⟩) := by
  pointwise [k0_pay1]

end

end Cert.Kernel2Ideal.Value
-- ==== Proof.OutBody.lean ====
/-
What the body leaves in its three output blocks.
-/
module

public import proofs.«01_k».proof.Proof.OutRows

@[expose] public section

set_option maxRecDepth 16384

noncomputable section

namespace Cert.Kernel2Ideal.Value

open Cert.Kernel2Ideal Cert.Kernel2Ideal.Gen Cert.OutProj
open Idealize.ShloMosaic Idealize.ShloMosaic.TcCoe Idealize.ShloMosaic.Tactic

variable (x0 : Vec Ideal S256x1024 .f32) (x1 x2 : Vec Ideal S256x512 .bf16) (x3 : Vec Ideal S1024x1024 .bf16) (x4 : Vec Ideal S1x1024 .f32)
  (x5 : Vec Ideal S1024x2048 .bf16) (x6 : Vec Ideal S16x128x128 .bf16)

/-- A row of the residual, of its norm, of the queries, as the blocks give them. -/
def bRes (r : Fin 256) : Fin 1024 → EReal :=
  res (fun k => x0 (ix2 r k)) (fun k => x1 (ix2 r k)) (fun k => x2 (ix2 r k)) (fun k j => x3 (ix2 k j))
def bNormed (r : Fin 256) : Fin 1024 → EReal := normed (bRes x0 x1 x2 x3 r) (fun k => x4 (ix2 0 k))
def bQuery (r : Fin 256) : Fin 2048 → EReal := query (bNormed x0 x1 x2 x3 x4 r) (fun k j => x5 (ix2 k j))

theorem load_res (r : Fin 256) (j : Fin 1024) :
    k0_pay2 (View.ld x1 r0_0) (View.ld x3 r0_1) (View.ld x2 r0_0) (View.ld x3 r0_2) (View.ld x0 r0_3) (ix2 r j) = bRes x0 x1 x2 x3 r j := by
  have h1 : ∀ k : Fin 512, View.ld x3 r0_1 (ix2 k j) = x3 (ix2 ⟨k.val, by omega⟩ j) := fun k =>
    congrArg x3 (funext fun a => Fin.ext (by fin_cases a <;> simp [LoadRect.idx, Rect.unit, ix2]))
  have h2 : ∀ k : Fin 512, View.ld x3 r0_2 (ix2 k j) = x3 (ix2 ⟨512 + k.val, by omega⟩ j) := fun k =>
    congrArg x3 (funext fun a => Fin.ext (by fin_cases a <;> simp [LoadRect.idx, Rect.unit, ix2]))
  have h3 : ∀ (x : Vec Ideal S256x512 .bf16) (k : Fin 512), View.ld x r0_0 (ix2 r k) = x (ix2 r k) := fun x k =>
    congrArg x (funext fun a => Fin.ext (by fin_cases a <;> simp [LoadRect.idx, Rect.unit, ix2]))
  have h4 : View.ld x0 r0_3 (ix2 r j) = x0 (ix2 r j) :=
    congrArg x0 (funext fun a => Fin.ext (by fin_cases a <;> simp [LoadRect.idx, Rect.unit, ix2]))
  rw [pay_res]
  exact congrArg₂ (fun a b : EReal => a + b) h4 (congrArg₂ (fun a b : EReal => a + b)
    (Finset.sum_congr rfl fun k _ => congrArg₂ (fun a b : EReal => a * b) (h3 x1 k) (h1 k))
    (Finset.sum_congr rfl fun k _ => congrArg₂ (fun a b : EReal => a * b) (h3 x2 k) (h2 k)))

theorem load_normed (r : Fin 256) (j : Fin 1024) :
    k0_pay3 (View.ld x1 r0_0) (View.ld x3 r0_1) (View.ld x2 r0_0) (View.ld x3 r0_2) (View.ld x0 r0_3) (View.ld x4 r0_4) (ix2 r j) = bNormed x0 x1 x2 x3 x4 r j := by
  have h : ∀ k : Fin 1024, View.ld x4 r0_4 (ix2 0 k) = x4 (ix2 0 k) := fun k =>
    congrArg x4 (funext fun a => Fin.ext (by fin_cases a <;> simp [LoadRect.idx, Rect.unit, ix2]))
  rw [pay_normed]
  simp only [load_res, h]
  rfl

theorem load_query (r : Fin 256) (j : Fin 2048) : k0_pay25 x0 x1 x2 x3 x4 x5 x6 (ix2 r j) = bQuery x0 x1 x2 x3 x4 x5 r j := by
  have h : ∀ (k : Fin 1024) (j : Fin 2048), View.ld x5 r0_6 (ix2 k j) = x5 (ix2 k j) := fun k j =>
    congrArg x5 (funext fun a => Fin.ext (by fin_cases a <;> simp [LoadRect.idx, Rect.unit, ix2]))
  unfold k0_pay25
  rw [pay_query]
  simp only [load_normed, h]
  rfl

/-- The residual's block. -/
theorem out_res (y : S256x1024.Idx) : out0_7 x0 x1 x2 x3 x4 x5 x6 y = bRes x0 x1 x2 x3 (y 0) (y 1) := by
  unfold out0_7
  refine View.canon_apply_of_pieces (Val := Elt Ideal) (fun y : S256x1024.Idx => bRes x0 x1 x2 x3 (y 0) (y 1)) _ ?_ y (cover0_7 _ y)
  intro p hp
  rcases List.mem_cons.mp hp with rfl | hp
  · intro x
    have hx : x = ix2 (x 0) (x 1) := by
      funext a
      match a with
      | ⟨0, _⟩ => rfl
      | ⟨1, _⟩ => rfl
    refine (congrArg _ hx).trans ((load_res x0 x1 x2 x3 (x 0) (x 1)).trans ?_)
    refine congrArg₂ (bRes x0 x1 x2 x3) (Fin.ext ?_) (Fin.ext ?_)
    · show (x 0).val = 0 + 1 * (x 0).val
      omega
    · show (x 1).val = 0 + 1 * (x 1).val
      omega
  · nomatch hp

/-- The norm's block, its rows last. -/
theorem out_normed (y : S1024x256.Idx) : out0_8 x0 x1 x2 x3 x4 x5 x6 y = bNormed x0 x1 x2 x3 x4 (y 1) (y 0) := by
  unfold out0_8
  refine View.canon_apply_of_pieces (Val := Elt Ideal) (fun y : S1024x256.Idx => bNormed x0 x1 x2 x3 x4 (y 1) (y 0)) _ ?_ y (cover0_8 _ y)
  intro p hp
  rcases List.mem_cons.mp hp with rfl | hp
  · intro x
    have hx : x = ix2 (x 0) (x 1) := by
      funext a
      match a with
      | ⟨0, _⟩ => rfl
      | ⟨1, _⟩ => rfl
    refine (congrArg _ hx).trans ((pay_turned _ _ _ _ _ _ (x 1) (x 0)).trans ((load_normed x0 x1 x2 x3 x4 (x 1) (x 0)).trans ?_))
    refine congrArg₂ (bNormed x0 x1 x2 x3 x4) (Fin.ext ?_) (Fin.ext ?_)
    · show (x 1).val = 0 + 1 * (x 1).val
      omega
    · show (x 0).val = 0 + 1 * (x 0).val
      omega
  · nomatch hp

/-- An entry of the scores' block from the queries' block. -/
def bScore (q : FVec Ideal S256x2048 .f32) (y : S16x128x256.Idx) : EReal :=
  score (fun j => q (ix2 (y 2) j)) (fun g k c => x6 (ix3 g k c)) (y 0) (y 1)

/-- One group's store, as the entries of the whole block it covers. -/
theorem score_piece (q : FVec Ideal S256x2048 .f32) (g : Fin 16) (hs hr) (pay : Vec Ideal S1x128x256 .f32)
    (h : ∀ (k : Fin 128) (r : Fin 256), pay (ix3 0 k r) =
      ∑ c : Fin 128, View.ld x6 (Rect.unit (s := S16x128x128) ![g.val, 0, 0] S1x128x128.size hs) (ix3 0 k c) * q (ix2 r ⟨g.val * 128 + c.val, by omega⟩))
    (x : S1x128x256.Idx) : pay x = bScore x6 q ((Rect.unit (s := S16x128x256) ![g.val, 0, 0] S1x128x256.size hr).emb x) := by
  have hx : x = ix3 0 (x 1) (x 2) := by
    funext a
    match a with
    | ⟨0, _⟩ => exact Subsingleton.elim (α := Fin 1) _ _
    | ⟨1, _⟩ => rfl
    | ⟨2, _⟩ => rfl
  have hl : ∀ (k c : Fin 128), View.ld x6 (Rect.unit (s := S16x128x128) ![g.val, 0, 0] S1x128x128.size hs) (ix3 0 k c) = x6 (ix3 g k c) := fun k c =>
    congrArg x6 (funext fun a => Fin.ext (by fin_cases a <;> simp [LoadRect.idx, Rect.unit, ix3]))
  have he : (Rect.unit (s := S16x128x256) ![g.val, 0, 0] S1x128x256.size hr).emb x = ix3 g (x 1) (x 2) := by
    funext a
    refine Fin.ext ?_
    match a with
    | ⟨0, _⟩ =>
      have h0 : (x 0).val < 1 := (x 0).isLt
      show g.val + 1 * (x 0).val = g.val
      omega
    | ⟨1, _⟩ =>
      show 0 + 1 * (x 1).val = (x 1).val
      omega
    | ⟨2, _⟩ =>
      show 0 + 1 * (x 2).val = (x 2).val
      omega
  rw [he]
  refine (congrArg _ hx).trans ((h _ _).trans ?_)
  exact Finset.sum_congr rfl fun c _ => congrArg (fun a : EReal => a * q (ix2 (x 2) ⟨g.val * 128 + c.val, by omega⟩)) (hl _ c)

/-- The scores' block. -/
theorem out_score (y : S16x128x256.Idx) : out0_9 x0 x1 x2 x3 x4 x5 x6 y =
    score (bQuery x0 x1 x2 x3 x4 x5 (y 2)) (fun g k c => x6 (ix3 g k c)) (y 0) (y 1) := by
  have hq : (fun j => k0_pay25 x0 x1 x2 x3 x4 x5 x6 (ix2 (y 2) j)) = bQuery x0 x1 x2 x3 x4 x5 (y 2) :=
    funext fun j => load_query x0 x1 x2 x3 x4 x5 x6 (y 2) j
  rw [← hq]
  unfold out0_9
  generalize k0_pay25 x0 x1 x2 x3 x4 x5 x6 = q
  refine View.canon_apply_of_pieces (Val := Elt Ideal) (bScore x6 q) _ ?_ y (cover0_9 _ _ _ _ _ _ _ _ _ _ _ _ _ _ _ _ y)
  intro p hp
  rcases List.mem_cons.mp hp with rfl | hp
  · exact score_piece x6 q 15 inb_S16x128x128_S1x128x128_15_0_0 inb_S16x128x256_S1x128x256_15_0_0 _ (pay_score15 q (View.ld x6 r0_37))
  rcases List.mem_cons.mp hp with rfl | hp
  · exact score_piece x6 q 14 inb_S16x128x128_S1x128x128_14_0_0 inb_S16x128x256_S1x128x256_14_0_0 _ (pay_score14 q (View.ld x6 r0_35))
  rcases List.mem_cons.mp hp with rfl | hp
  · exact score_piece x6 q 13 inb_S16x128x128_S1x128x128_13_0_0 inb_S16x128x256_S1x128x256_13_0_0 _ (pay_score13 q (View.ld x6 r0_33))
  rcases List.mem_cons.mp hp with rfl | hp
  · exact score_piece x6 q 12 inb_S16x128x128_S1x128x128_12_0_0 inb_S16x128x256_S1x128x256_12_0_0 _ (pay_score12 q (View.ld x6 r0_31))
  rcases List.mem_cons.mp hp with rfl | hp
  · exact score_piece x6 q 11 inb_S16x128x128_S1x128x128_11_0_0 inb_S16x128x256_S1x128x256_11_0_0 _ (pay_score11 q (View.ld x6 r0_29))
  rcases List.mem_cons.mp hp with rfl | hp
  · exact score_piece x6 q 10 inb_S16x128x128_S1x128x128_10_0_0 inb_S16x128x256_S1x128x256_10_0_0 _ (pay_score10 q (View.ld x6 r0_27))
  rcases List.mem_cons.mp hp with rfl | hp
  · exact score_piece x6 q 9 inb_S16x128x128_S1x128x128_9_0_0 inb_S16x128x256_S1x128x256_9_0_0 _ (pay_score9 q (View.ld x6 r0_25))
  rcases List.mem_cons.mp hp with rfl | hp
  · exact score_piece x6 q 8 inb_S16x128x128_S1x128x128_8_0_0 inb_S16x128x256_S1x128x256_8_0_0 _ (pay_score8 q (View.ld x6 r0_23))
  rcases List.mem_cons.mp hp with rfl | hp
  · exact score_piece x6 q 7 inb_S16x128x128_S1x128x128_7_0_0 inb_S16x128x256_S1x128x256_7_0_0 _ (pay_score7 q (View.ld x6 r0_21))
  rcases List.mem_cons.mp hp with rfl | hp
  · exact score_piece x6 q 6 inb_S16x128x128_S1x128x128_6_0_0 inb_S16x128x256_S1x128x256_6_0_0 _ (pay_score6 q (View.ld x6 r0_19))
  rcases List.mem_cons.mp hp with rfl | hp
  · exact score_piece x6 q 5 inb_S16x128x128_S1x128x128_5_0_0 inb_S16x128x256_S1x128x256_5_0_0 _ (pay_score5 q (View.ld x6 r0_17))
  rcases List.mem_cons.mp hp with rfl | hp
  · exact score_piece x6 q 4 inb_S16x128x128_S1x128x128_4_0_0 inb_S16x128x256_S1x128x256_4_0_0 _ (pay_score4 q (View.ld x6 r0_15))
  rcases List.mem_cons.mp hp with rfl | hp
  · exact score_piece x6 q 3 inb_S16x128x128_S1x128x128_3_0_0 inb_S16x128x256_S1x128x256_3_0_0 _ (pay_score3 q (View.ld x6 r0_13))
  rcases List.mem_cons.mp hp with rfl | hp
  · exact score_piece x6 q 2 inb_S16x128x128_S1x128x128_2_0_0 inb_S16x128x256_S1x128x256_2_0_0 _ (pay_score2 q (View.ld x6 r0_11))
  rcases List.mem_cons.mp hp with rfl | hp
  · exact score_piece x6 q 1 inb_S16x128x128_S1x128x128_1_0_0 inb_S16x128x256_S1x128x256_1_0_0 _ (pay_score1 q (View.ld x6 r0_9))
  rcases List.mem_cons.mp hp with rfl | hp
  · exact score_piece x6 q 0 inb_S16x128x128_S1x128x128_0_0_0 inb_S16x128x256_S1x128x256_0_0_0 _ (pay_score0 q (View.ld x6 r0_7))
  nomatch hp

end Cert.Kernel2Ideal.Value
-- ==== Proof.OutReference.lean ====
/-
The reference of the output projection, row by row.
-/
module

public import proofs.«01_k».proof.Proof.OutRows
public import proofs.«01_k».proof.Proof.Gen.Reference2Ideal.Read

@[expose] public section

set_option maxRecDepth 16384

noncomputable section

namespace Cert.Reference2Ideal.Value

open Cert.Reference2Ideal Cert.Reference2Ideal.Gen Cert.Reference2Ideal.Read Cert.OutProj
open Idealize.ShloMosaic Idealize.ShloMosaic.TcCoe Idealize.ShloMosaic.Tactic

variable (a0 : S32768x1024.Idx → EReal) (a1 a2 : S32768x512.Idx → EReal) (a3 : S1024x1024.Idx → EReal) (a4 : S1024.Idx → EReal)
  (a5 : S1024x2048.Idx → EReal) (a6 : S8x2x128x128.Idx → EReal)

/-- A row of the residual, of its norm, of the queries, and the sub-keys by their sixteen groups. -/
def rRes (n : Fin 32768) : Fin 1024 → EReal :=
  res (fun k => a0 (ix2 n k)) (fun k => a1 (ix2 n k)) (fun k => a2 (ix2 n k)) (fun k j => a3 (ix2 k j))
def rNormed (n : Fin 32768) : Fin 1024 → EReal := normed (rRes a0 a1 a2 a3 n) (fun k => a4 (ix1 k))
def rQuery (n : Fin 32768) : Fin 2048 → EReal := query (rNormed a0 a1 a2 a3 a4 n) (fun k j => a5 (ix2 k j))
def keys (g : Fin 16) (k c : Fin 128) : EReal := a6 (ix4 ⟨g.val / 2, by omega⟩ ⟨g.val % 2, by omega⟩ k c)

theorem lanes_left (n : Fin 32768) (k : Fin 512) :
    val_main_v0 (F := Ideal) a1 a2 (ix2 n ⟨k.val, by omega⟩) = a1 (ix2 n k) := by
  have hk := k.isLt
  pointwise [val_main_v0]

theorem lanes_right (n : Fin 32768) (k : Fin 512) :
    val_main_v0 (F := Ideal) a1 a2 (ix2 n ⟨512 + k.val, by omega⟩) = a2 (ix2 n k) := by
  have hk := k.isLt
  pointwise [val_main_v0]

theorem sum_halves (f : Fin 1024 → EReal) :
    ∑ k, f k = ∑ k : Fin 512, f ⟨k.val, by omega⟩ + ∑ k : Fin 512, f ⟨512 + k.val, by omega⟩ :=
  Fin.sum_univ_add (a := 512) (b := 512) f

theorem ref_res (n : Fin 32768) (j : Fin 1024) : val_main_v3 (F := Ideal) a0 a1 a2 a3 (ix2 n j) = rRes a0 a1 a2 a3 n j := by
  rw [val_main_v3_apply, val_main_v2_apply]
  have hl : ∀ k : Fin 1024, lidx_main_v2 (ix2 n j) k = ix2 n k := fun k => by
    funext a
    match a with
    | ⟨0, _⟩ => rfl
    | ⟨1, _⟩ => rfl
  have hr : ∀ k : Fin 1024, ridx_main_v2 (ix2 n j) k = ix2 k j := fun k => by
    funext a
    match a with
    | ⟨0, _⟩ => rfl
    | ⟨1, _⟩ => rfl
  simp only [hl, hr]
  unfold rRes res
  refine congrArg (fun z : EReal => a0 (ix2 n j) + z) ?_
  rw [sum_halves]
  refine congrArg₂ (fun a b : EReal => a + b) (Finset.sum_congr rfl fun k _ => ?_) (Finset.sum_congr rfl fun k _ => ?_)
  · exact congrArg (fun z : EReal => z * a3 (ix2 ⟨k.val, by omega⟩ j)) (lanes_left a1 a2 n k)
  · exact congrArg (fun z : EReal => z * a3 (ix2 ⟨512 + k.val, by omega⟩ j)) (lanes_right a1 a2 n k)

theorem ref_square (n : Fin 32768) :
    val_main_v8 (F := Ideal) a0 a1 a2 a3 (ix2 n 0) =
      Ideal.div (∑ k : Fin 1024, rRes a0 a1 a2 a3 n k * rRes a0 a1 a2 a3 n k) (Ideal.ofBits .f32 0x44800000#32) := by
  have hi : ∀ k : Fin 1024, idx_main_v5 (ix1 n) k = ix2 n k := fun k => by
    funext a
    match a with
    | ⟨0, _⟩ => rfl
    | ⟨1, _⟩ => rfl
  have h6 : idx_main_v6 (ix2 n 0) = ix1 n := by
    funext a
    match a with
    | ⟨0, _⟩ => rfl
  rw [val_main_v8_apply, val_main_v6_apply, val_main_v7_apply, h6, val_main_v5_apply]
  simp only [hi, val_main_v4_apply, ref_res]
  have h0 : val_main_cst (F := Ideal) (Shape.Idx.first h_S_) = (0 : EReal) := by
    pointwise [val_main_cst]
  rw [h0, zero_add]
  rfl

theorem ref_normed (n : Fin 32768) (j : Fin 1024) : val_main_v16 (F := Ideal) a0 a1 a2 a3 a4 (ix2 n j) = rNormed a0 a1 a2 a3 a4 n j := by
  have h12 : idx_main_v12 (ix2 n j) = ix2 n 0 := by
    funext a
    match a with
    | ⟨0, _⟩ => rfl
    | ⟨1, _⟩ => rfl
  have h15 : idx_main_v14 (idx_main_v15 (ix2 n j)) = ix1 j := by
    funext a
    match a with
    | ⟨0, _⟩ => rfl
  rw [val_main_v16_apply, val_main_v13_apply, val_main_v12_apply, h12, val_main_v11_apply, val_main_v10_apply, ref_square, ref_res,
    val_main_v9_apply, val_main_v15_apply, val_main_v14_apply, h15]
  rfl

theorem ref_query (n : Fin 32768) (j : Fin 2048) : val_main_v17 (F := Ideal) a0 a1 a2 a3 a4 a5 (ix2 n j) = rQuery a0 a1 a2 a3 a4 a5 n j := by
  have hl : ∀ k : Fin 1024, lidx_main_v17 (ix2 n j) k = ix2 n k := fun k => by
    funext a
    match a with
    | ⟨0, _⟩ => rfl
    | ⟨1, _⟩ => rfl
  have hr : ∀ k : Fin 1024, ridx_main_v17 (ix2 n j) k = ix2 k j := fun k => by
    funext a
    match a with
    | ⟨0, _⟩ => rfl
    | ⟨1, _⟩ => rfl
  rw [val_main_v17_apply]
  simp only [hl, hr, ref_normed]
  rfl

/-- The second result: the norm, its rows last. -/
theorem ref_turned (n : Fin 32768) (j : Fin 1024) : val_main_v22 (F := Ideal) a0 a1 a2 a3 a4 (ix2 j n) = rNormed a0 a1 a2 a3 a4 n j := by
  have h : idx_main_v21 (ix2 j n) = ix2 n j := by
    funext a
    match a with
    | ⟨0, _⟩ => rfl
    | ⟨1, _⟩ => rfl
  rw [val_main_v22_apply, val_main_v21_apply, h, ref_normed]
  rfl

/-- The third result: the scores by group, its rows last. -/
theorem ref_score (g : Fin 16) (k : Fin 128) (n : Fin 32768) :
    val_main_v24 (F := Ideal) a0 a1 a2 a3 a4 a5 a6 (ix3 g k n) = score (rQuery a0 a1 a2 a3 a4 a5 n) (keys a6) g k := by
  have hg := g.isLt
  have hk := k.isLt
  have hn := n.isLt
  have h24 : idx_main_v24 (ix3 g k n) = ix4 ⟨g.val / 2, by omega⟩ ⟨g.val % 2, by omega⟩ k n := by
    funext a
    refine Fin.ext ?_
    match a with
    | ⟨0, _⟩ =>
      show ((g.val * 128 + k.val) * 32768 + n.val) / 8388608 = g.val / 2
      omega
    | ⟨1, _⟩ =>
      show ((g.val * 128 + k.val) * 32768 + n.val) / 4194304 % 2 = g.val % 2
      omega
    | ⟨2, _⟩ =>
      show ((g.val * 128 + k.val) * 32768 + n.val) / 32768 % 128 = k.val
      omega
    | ⟨3, _⟩ =>
      show ((g.val * 128 + k.val) * 32768 + n.val) % 32768 = n.val
      omega
  have h23 : idx_main_v20 (idx_main_v23 (ix4 ⟨g.val / 2, by omega⟩ ⟨g.val % 2, by omega⟩ k n)) = ix4 ⟨g.val / 2, by omega⟩ ⟨g.val % 2, by omega⟩ k n := by
    funext a
    match a with
    | ⟨0, _⟩ => rfl
    | ⟨1, _⟩ => rfl
    | ⟨2, _⟩ => rfl
    | ⟨3, _⟩ => rfl
  have hl : ∀ c : Fin 128, lidx_main_v19 (ix4 ⟨g.val / 2, by omega⟩ ⟨g.val % 2, by omega⟩ k n) c = ix4 ⟨g.val / 2, by omega⟩ ⟨g.val % 2, by omega⟩ k c := fun c => by
    funext a
    match a with
    | ⟨0, _⟩ => rfl
    | ⟨1, _⟩ => rfl
    | ⟨2, _⟩ => rfl
    | ⟨3, _⟩ => rfl
  have hr : ∀ c : Fin 128, idx_main_v18 (ridx_main_v19 (ix4 ⟨g.val / 2, by omega⟩ ⟨g.val % 2, by omega⟩ k n) c) = ix2 n ⟨g.val * 128 + c.val, by omega⟩ := fun c => by
    have hc := c.isLt
    funext a
    refine Fin.ext ?_
    match a with
    | ⟨0, _⟩ =>
      show (((n.val * 8 + g.val / 2) * 2 + g.val % 2) * 128 + c.val) / 2048 = n.val
      omega
    | ⟨1, _⟩ =>
      show (((n.val * 8 + g.val / 2) * 2 + g.val % 2) * 128 + c.val) % 2048 = g.val * 128 + c.val
      omega
  rw [val_main_v24_apply, h24, val_main_v23_apply, val_main_v20_apply, h23, val_main_v19_apply]
  simp only [hl, val_main_v18_apply, hr, ref_query]
  rfl

end Cert.Reference2Ideal.Value
-- ==== Proof.OutFinal.lean ====
/-
Each block the output projection writes is the reference's; so its three results are the reference's.
-/
module

public import proofs.«01_k».proof.Proof.OutBody
public import proofs.«01_k».proof.Proof.OutReference
public import Idealize.ShloMosaic.Lib.Claim

@[expose] public section

set_option maxRecDepth 16384

noncomputable section

namespace Cert.Kernel2Ideal.Value

open Cert.Kernel2Ideal Cert.Kernel2Ideal.Gen Cert.OutProj Cert.Reference2Ideal.Value
open Idealize.ShloMosaic Idealize.ShloMosaic.TcCoe Idealize.ShloMosaic.Tactic Idealize.SL.Sem

variable (m : (ℓ : Loc nD τ sig) → Buf (Elt Ideal) ℓ) (c : Dev nD)

/-! ### Where the windows stand -/

theorem at_0 : ∀ t : Fin cfg0.N, win0_0.index t = ![t.val, 0] := (by decide +kernel : ∀ t : Fin grid0.N, win0_0.index t = ![t.val, 0])
theorem at_1 : ∀ t : Fin cfg0.N, win0_1.index t = ![t.val, 0] := (by decide +kernel : ∀ t : Fin grid0.N, win0_1.index t = ![t.val, 0])
theorem at_2 : ∀ t : Fin cfg0.N, win0_2.index t = ![t.val, 0] := (by decide +kernel : ∀ t : Fin grid0.N, win0_2.index t = ![t.val, 0])
theorem at_3 : ∀ t : Fin cfg0.N, win0_3.index t = ![0, 0] := (by decide +kernel : ∀ t : Fin grid0.N, win0_3.index t = ![0, 0])
theorem at_4 : ∀ t : Fin cfg0.N, win0_4.index t = ![0, 0] := (by decide +kernel : ∀ t : Fin grid0.N, win0_4.index t = ![0, 0])
theorem at_5 : ∀ t : Fin cfg0.N, win0_5.index t = ![0, 0] := (by decide +kernel : ∀ t : Fin grid0.N, win0_5.index t = ![0, 0])
theorem at_6 : ∀ t : Fin cfg0.N, win0_6.index t = ![0, 0, 0] := (by decide +kernel : ∀ t : Fin grid0.N, win0_6.index t = ![0, 0, 0])
theorem at_7 : ∀ t : Fin cfg0.N, win0_7.index t = ![t.val, 0] := (by decide +kernel : ∀ t : Fin grid0.N, win0_7.index t = ![t.val, 0])
theorem at_8 : ∀ t : Fin cfg0.N, win0_8.index t = ![0, t.val] := (by decide +kernel : ∀ t : Fin grid0.N, win0_8.index t = ![0, t.val])
theorem at_9 : ∀ t : Fin cfg0.N, win0_9.index t = ![0, 0, t.val] := (by decide +kernel : ∀ t : Fin grid0.N, win0_9.index t = ![0, 0, t.val])

/-- The array's row a step's row is. -/
def rowOf (t : Fin cfg0.N) (r : Fin 256) : Fin 32768 := ⟨256 * t.val + r.val, by
  have h : t.val < 128 := t.isLt
  omega⟩

theorem block_x (t : Fin cfg0.N) (r : Fin 256) (k : Fin 1024) :
    iblk m c 0 t (ix2 r k) = V m c main_arg0 (ix2 (rowOf t r) k) := by
  blk_point [iblk, at_0 t, rowOf]

theorem block_pool (t : Fin cfg0.N) (r : Fin 256) (k : Fin 512) :
    iblk m c 1 t (ix2 r k) = V m c main_arg1 (ix2 (rowOf t r) k) := by
  blk_point [iblk, at_1 t, rowOf]

theorem block_att (t : Fin cfg0.N) (r : Fin 256) (k : Fin 512) :
    iblk m c 2 t (ix2 r k) = V m c main_arg2 (ix2 (rowOf t r) k) := by
  blk_point [iblk, at_2 t, rowOf]

theorem block_out (t : Fin cfg0.N) (k j : Fin 1024) : iblk m c 3 t (ix2 k j) = V m c main_v0 (ix2 k j) := by
  blk_point [iblk, at_3 t]

theorem block_scale (t : Fin cfg0.N) (k : Fin 1024) : iblk m c 4 t (ix2 0 k) = V m c main_v1 (ix2 0 k) := by
  blk_point [iblk, at_4 t]

theorem block_query (t : Fin cfg0.N) (k : Fin 1024) (j : Fin 2048) : iblk m c 5 t (ix2 k j) = V m c main_v2 (ix2 k j) := by
  blk_point [iblk, at_5 t]

theorem block_keys (t : Fin cfg0.N) (g : Fin 16) (k j : Fin 128) : iblk m c 6 t (ix3 g k j) = V m c main_v4 (ix3 g k j) := by
  blk_point [iblk, at_6 t]

/-! ### The weights as the windows see them -/

theorem host_out (k j : Fin 1024) : (V m c main_v0 : (⟨S1024x1024, .bf16⟩ : BufTy).Contents (Elt Ideal)) (ix2 k j) = m ((c.tc : Thread nD τ).loc main_arg3) (ix2 k j) := by
  unfold V hostOps0
  entry_read
  pointwise

theorem host_scale (k : Fin 1024) : (V m c main_v1 : (⟨S1x1024, .f32⟩ : BufTy).Contents (Elt Ideal)) (ix2 0 k) = m ((c.tc : Thread nD τ).loc main_arg4) (ix1 k) := by
  unfold V hostOps0
  entry_read
  pointwise

theorem host_query (k : Fin 1024) (j : Fin 2048) : (V m c main_v2 : (⟨S1024x2048, .bf16⟩ : BufTy).Contents (Elt Ideal)) (ix2 k j) = m ((c.tc : Thread nD τ).loc main_arg5) (ix2 k j) := by
  unfold V hostOps0
  entry_read
  pointwise

theorem host_keys (g : Fin 16) (k j : Fin 128) : (V m c main_v4 : (⟨S16x128x128, .bf16⟩ : BufTy).Contents (Elt Ideal)) (ix3 g k j) =
    m ((c.tc : Thread nD τ).loc main_arg6) (ix4 ⟨g.val / 2, by omega⟩ ⟨g.val % 2, by omega⟩ k j) := by
  unfold V hostOps0
  entry_read
  pointwise

/-! ### A step's rows are the reference's -/

/-- An argument as the program finds it. -/
abbrev arg0 : Cert.Reference2Ideal.S32768x1024.Idx → EReal := m ((c.tc : Thread nD τ).loc main_arg0)
abbrev arg1 : Cert.Reference2Ideal.S32768x512.Idx → EReal := m ((c.tc : Thread nD τ).loc main_arg1)
abbrev arg2 : Cert.Reference2Ideal.S32768x512.Idx → EReal := m ((c.tc : Thread nD τ).loc main_arg2)
abbrev arg3 : Cert.Reference2Ideal.S1024x1024.Idx → EReal := m ((c.tc : Thread nD τ).loc main_arg3)
abbrev arg4 : Cert.Reference2Ideal.S1024.Idx → EReal := m ((c.tc : Thread nD τ).loc main_arg4)
abbrev arg5 : Cert.Reference2Ideal.S1024x2048.Idx → EReal := m ((c.tc : Thread nD τ).loc main_arg5)
abbrev arg6 : Cert.Reference2Ideal.S8x2x128x128.Idx → EReal := m ((c.tc : Thread nD τ).loc main_arg6)

theorem rows_res (t : Fin cfg0.N) (r : Fin 256) :
    bRes (iblk m c 0 t) (iblk m c 1 t) (iblk m c 2 t) (iblk m c 3 t) r = rRes (arg0 m c) (arg1 m c) (arg2 m c) (arg3 m c) (rowOf t r) := by
  have h0 : (fun k => iblk m c 0 t (ix2 r k)) = fun k => arg0 m c (ix2 (rowOf t r) k) :=
    funext fun k => (block_x m c t r k).trans (congrFun (V_main_arg0 m c) _)
  have h1 : (fun k => iblk m c 1 t (ix2 r k)) = fun k => arg1 m c (ix2 (rowOf t r) k) :=
    funext fun k => (block_pool m c t r k).trans (congrFun (V_main_arg1 m c) _)
  have h2 : (fun k => iblk m c 2 t (ix2 r k)) = fun k => arg2 m c (ix2 (rowOf t r) k) :=
    funext fun k => (block_att m c t r k).trans (congrFun (V_main_arg2 m c) _)
  have h3 : (fun k j => iblk m c 3 t (ix2 k j)) = fun k j => arg3 m c (ix2 k j) :=
    funext fun k => funext fun j => (block_out m c t k j).trans (host_out m c k j)
  unfold bRes rRes
  rw [h0, h1, h2, h3]

theorem rows_normed (t : Fin cfg0.N) (r : Fin 256) :
    bNormed (iblk m c 0 t) (iblk m c 1 t) (iblk m c 2 t) (iblk m c 3 t) (iblk m c 4 t) r =
      rNormed (arg0 m c) (arg1 m c) (arg2 m c) (arg3 m c) (arg4 m c) (rowOf t r) := by
  have h4 : (fun k => iblk m c 4 t (ix2 0 k)) = fun k => arg4 m c (ix1 k) :=
    funext fun k => (block_scale m c t k).trans (host_scale m c k)
  unfold bNormed rNormed
  rw [rows_res, h4]

theorem rows_query (t : Fin cfg0.N) (r : Fin 256) :
    bQuery (iblk m c 0 t) (iblk m c 1 t) (iblk m c 2 t) (iblk m c 3 t) (iblk m c 4 t) (iblk m c 5 t) r =
      rQuery (arg0 m c) (arg1 m c) (arg2 m c) (arg3 m c) (arg4 m c) (arg5 m c) (rowOf t r) := by
  have h5 : (fun k j => iblk m c 5 t (ix2 k j)) = fun k j => arg5 m c (ix2 k j) :=
    funext fun k => funext fun j => (block_query m c t k j).trans (host_query m c k j)
  unfold bQuery rQuery
  rw [rows_normed, h5]

theorem rows_keys (t : Fin cfg0.N) : (fun g k j => iblk m c 6 t (ix3 g k j)) = keys (arg6 m c) :=
  funext fun g => funext fun k => funext fun j => (block_keys m c t g k j).trans (host_keys m c g k j)

/-! ### The three results -/

abbrev refRes : Cert.Reference2Ideal.S32768x1024.Idx → EReal :=
  Cert.Reference2Ideal.Read.val_main_v3 (F := Ideal) (arg0 m c) (arg1 m c) (arg2 m c) (arg3 m c)
abbrev refNormed : Cert.Reference2Ideal.S1024x32768.Idx → EReal :=
  Cert.Reference2Ideal.Read.val_main_v22 (F := Ideal) (arg0 m c) (arg1 m c) (arg2 m c) (arg3 m c) (arg4 m c)
abbrev refScore : Cert.Reference2Ideal.S16x128x32768.Idx → EReal :=
  Cert.Reference2Ideal.Read.val_main_v24 (F := Ideal) (arg0 m c) (arg1 m c) (arg2 m c) (arg3 m c) (arg4 m c) (arg5 m c) (arg6 m c)

theorem final_res : (dats m 0 c).arrAt 7 cfg0.N = refRes m c := by
  refine (dats m 0 c).arrAt_eq_of_covers 7 (refRes m c) (by decide +kernel) fun t _ y => ?_
  rw [after0_7]
  blk_simp [at_7 t]
  refine (out_res _ _ _ _ _ _ _ y).trans ((congrFun (rows_res m c t (y 0)) (y 1)).trans ((ref_res _ _ _ _ (rowOf t (y 0)) (y 1)).symm.trans ?_))
  show refRes m c _ = _
  generalize refRes m c = R
  blk_ext [at_7 t, rowOf]

theorem final_normed : (dats m 0 c).arrAt 8 cfg0.N = refNormed m c := by
  refine (dats m 0 c).arrAt_eq_of_covers 8 (refNormed m c) (by decide +kernel) fun t _ y => ?_
  rw [after0_8]
  blk_simp [at_8 t]
  refine (out_normed _ _ _ _ _ _ _ y).trans ((congrFun (rows_normed m c t (y 1)) (y 0)).trans ((ref_turned _ _ _ _ _ (rowOf t (y 1)) (y 0)).symm.trans ?_))
  show refNormed m c _ = _
  generalize refNormed m c = R
  blk_ext [at_8 t, rowOf]

theorem final_score : (dats m 0 c).arrAt 9 cfg0.N = refScore m c := by
  refine (dats m 0 c).arrAt_eq_of_covers 9 (refScore m c) (by decide +kernel) fun t _ y => ?_
  rw [after0_9]
  blk_simp [at_9 t]
  refine (out_score _ _ _ _ _ _ _ y).trans ?_
  refine (congrArg₂ (fun (q : Fin 2048 → EReal) (s : Fin 16 → Fin 128 → Fin 128 → EReal) => score q s (y 0) (y 1))
    (rows_query m c t (y 2)) (rows_keys m c t)).trans ?_
  refine (ref_score _ _ _ _ _ _ _ (y 0) (y 1) (rowOf t (y 2))).symm.trans ?_
  show refScore m c _ = _
  generalize refScore m c = R
  blk_ext [at_9 t, rowOf]

end Cert.Kernel2Ideal.Value
-- ==== Proof.OutAlgebraic.lean ====
/-
Over the real numbers the output projection and its reference end with the same three results.
-/
module

public import proofs.«01_k».proof.Defs
public import proofs.«01_k».proof.Proof.OutFinal
public import proofs.«01_k».proof.Proof.Gen.Kernel2.Frame
public import proofs.«01_k».proof.Proof.Gen.Reference2Ideal.Run

@[expose] public section

set_option maxRecDepth 16384

noncomputable section

namespace Cert.Proof

open Idealize.ShloMosaic Idealize.ShloMosaic.TcCoe Idealize.ShloMosaic.Tactic Idealize.SL.Sem

theorem out_runs : Cert.quiescent_Kernel2 (hKernel2 := Cert.Kernel2.Gen.facts) :=
  fun m g _ => Cert.Kernel2.Gen.frame m g

theorem out_ideal_runs : Cert.quiescent_Kernel2Ideal (hKernel2Ideal := Cert.Kernel2Ideal.Gen.facts) :=
  fun m g _ => Cert.Kernel2Ideal.Gen.frame m g

/-- The reference is a line of host operations: it writes no argument and declares no semaphore. -/
theorem out_reference_runs : Cert.quiescent_Reference2Ideal (hReference2Ideal := Cert.Reference2Ideal.Gen.facts) := by
  intro m g _
  exact (θ_run Cert.Reference2Ideal.defs _ _).mono
    (fun r h => ⟨fun c => (h c).2.2.2, Idealize.ShloMosaic.sem_eq_zero_of_no_sems (by decide) r.2⟩)
    (Cert.Reference2Ideal.Value.run (F := Ideal) m g)

theorem out_preserved : Cert.preserves_Kernel2_Kernel2Ideal := trivial

theorem out_algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Value.refRes m c, fun c => Cert.Kernel2Ideal.Value.refNormed m c,
    fun c => Cert.Kernel2Ideal.Value.refScore m c, ?_, ?_⟩
  · refine (θ_run Cert.Kernel2Ideal.defs _ _).mono (fun r h c => ?_) (Cert.Kernel2Ideal.Value.run_blocks (F := Ideal) m g)
    obtain ⟨h7, h8, h9, hargs⟩ := h c
    exact ⟨h7.trans (Cert.Kernel2Ideal.Value.final_res m c), h8.trans (Cert.Kernel2Ideal.Value.final_normed m c),
      h9.trans (Cert.Kernel2Ideal.Value.final_score m c), hargs⟩
  · refine (θ_run Cert.Reference2Ideal.defs _ _).mono (fun r h c => ?_) (Cert.Reference2Ideal.Value.run (F := Ideal) m' g')
    obtain ⟨a0, a1, a2, a3, a4, a5, a6⟩ := hagree c
    obtain ⟨h3, h22, h24, hargs⟩ := h c
    refine ⟨h3.trans ?_, h22.trans ?_, h24.trans ?_, hargs⟩
    · rw [Cert.Reference2Ideal.Read.val_main_v3_eq]
      rw [a0, a1, a2, a3]
    · rw [Cert.Reference2Ideal.Read.val_main_v22_eq]
      rw [a0, a1, a2, a3, a4]
    · rw [Cert.Reference2Ideal.Read.val_main_v24_eq]
      rw [a0, a1, a2, a3, a4, a5, a6]

end Cert.Proof
-- ==== Proof.lean ====
/-
The claim, assembled.
-/
module

public import proofs.«01_k».proof.Defs
public import proofs.«01_k».proof.Proof.Frames
public import proofs.«01_k».proof.Proof.Algebraic
public import proofs.«01_k».proof.Proof.OutAlgebraic

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, preFacts, kernel_runs, ideal_runs, ideal_runs_pre,
    reference_runs, reference_runs_pre, out_runs, out_ideal_runs, out_reference_runs, preserved, algebraic, out_preserved, out_algebraic⟩

end Cert.Proof

end
